-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v66_0)) (v1 : (c : Dev Cert.Kernel3Ideal.nD) → Buf (Elt Ideal) ((c.tc : Thread Cert.Kernel3Ideal.nD Cert.Kernel3Ideal.τ).loc Cert.Kernel3Ideal.main_v66_1)) (v2 : (c : Dev Cert.Kernel3Ideal.nD) → Buf (Elt Ideal) ((c.tc : Thread Cert.Kernel3Ideal.nD Cert.Kernel3Ideal.τ).loc Cert.Kernel3Ideal.main_v66_2)) (v3 : (c : Dev Cert.Kernel3Ideal.nD) → Buf (Elt Ideal) ((c.tc : Thread Cert.Kernel3Ideal.nD Cert.Kernel3Ideal.τ).loc Cert.Kernel3Ideal.main_v66_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v66_0) = v0 c
          ∧ r.2.mem ((c.tc : Thread Cert.Kernel3Ideal.nD Cert.Kernel3Ideal.τ).loc Cert.Kernel3Ideal.main_v66_1) = v1 c
          ∧ r.2.mem ((c.tc : Thread Cert.Kernel3Ideal.nD Cert.Kernel3Ideal.τ).loc Cert.Kernel3Ideal.main_v66_2) = v2 c
          ∧ r.2.mem ((c.tc : Thread Cert.Kernel3Ideal.nD Cert.Kernel3Ideal.τ).loc Cert.Kernel3Ideal.main_v66_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v163) = v0 c
          ∧ r.2.mem ((c.tc : Thread Cert.Reference3Ideal.nD Cert.Reference3Ideal.τ).loc Cert.Reference3Ideal.main_v165) = v1 c
          ∧ r.2.mem ((c.tc : Thread Cert.Reference3Ideal.nD Cert.Reference3Ideal.τ).loc Cert.Reference3Ideal.main_v168) = v2 c
          ∧ r.2.mem ((c.tc : Thread Cert.Reference3Ideal.nD Cert.Reference3Ideal.τ).loc Cert.Reference3Ideal.main_v183) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x8x16384x256 : Shape := ⟨4, ![2, 8, 16384, 256]⟩
abbrev S2x8x16384x128 : Shape := ⟨4, ![2, 8, 16384, 128]⟩
abbrev S1x8x16x256 : Shape := ⟨4, ![1, 8, 16, 256]⟩
abbrev S1x8x16x128 : Shape := ⟨4, ![1, 8, 16, 128]⟩
abbrev S_ : Shape := ⟨0, ![]⟩

class Facts : Prop where
  bitsLt_bf16_f32 : FTy.bits .bf16 < FTy.bits .f32
  bcast_S_S2x8x16384x256 : S_.BroadcastsInDim S2x8x16384x256 (![] : Fin 0 → Fin S2x8x16384x256.rank)
  bcast_S_S1x8x16x256 : S_.BroadcastsInDim S1x8x16x256 (![] : Fin 0 → Fin S1x8x16x256.rank)

variable [Facts]

def fn {F : FTy → Type} [FloatOps F] (main_arg0 : FVec F S2x8x16384x256 .bf16) (main_arg1 : FVec F S2x8x16384x256 .bf16) (main_arg2 : FVec F S2x8x16384x128 .bf16) (main_arg3 : FVec F S1x8x16x256 .bf16) (main_arg4 : FVec F S1x8x16x128 .bf16) : IVec S2x8x16384x256 1 × IVec S2x8x16384x256 1 × IVec S1x8x16x256 1 :=
  let main_v0 : FVec F S2x8x16384x256 .f32 := (extf .f32 · bitsLt_bf16_f32) main_arg0
  let main_v1 : FVec F S2x8x16384x256 .f32 := Host.absf main_v0
  let main_cst : FVec F S_ .f32 := constant S_ .f32 0x7F800000#32
  let main_v2 : FVec F S2x8x16384x256 .f32 := broadcastInDim S2x8x16384x256 ![] bcast_S_S2x8x16384x256 main_cst
  let main_v3 : IVec S2x8x16384x256 1 := cmpf .olt main_v1 main_v2
  let main_v4 : FVec F S2x8x16384x256 .f32 := (extf .f32 · bitsLt_bf16_f32) main_arg1
  let main_v5 : FVec F S2x8x16384x256 .f32 := Host.absf main_v4
  let main_cst_0 : FVec F S_ .f32 := constant S_ .f32 0x7F800000#32
  let main_v6 : FVec F S2x8x16384x256 .f32 := broadcastInDim S2x8x16384x256 ![] bcast_S_S2x8x16384x256 main_cst_0
  let main_v7 : IVec S2x8x16384x256 1 := cmpf .olt main_v5 main_v6
  let main_v8 : FVec F S1x8x16x256 .f32 := (extf .f32 · bitsLt_bf16_f32) main_arg3
  let main_v9 : FVec F S1x8x16x256 .f32 := Host.absf main_v8
  let main_cst_1 : FVec F S_ .f32 := constant S_ .f32 0x7F800000#32
  let main_v10 : FVec F S1x8x16x256 .f32 := broadcastInDim S1x8x16x256 ![] bcast_S_S1x8x16x256 main_cst_1
  let main_v11 : IVec S1x8x16x256 1 := cmpf .olt main_v9 main_v10
  (main_v3, main_v7, main_v11)
-- ==== Kernel.lean ====
abbrev S2x8x16384x256 : Shape := ⟨4, ![2, 8, 16384, 256]⟩
abbrev S2x8x16384x128 : Shape := ⟨4, ![2, 8, 16384, 128]⟩
abbrev S1x8x16x256 : Shape := ⟨4, ![1, 8, 16, 256]⟩
abbrev S1x8x16x128 : Shape := ⟨4, ![1, 8, 16, 128]⟩
abbrev S8x16x256 : Shape := ⟨3, ![8, 16, 256]⟩
abbrev S_ : Shape := ⟨0, ![]⟩
abbrev S8x128x256 : Shape := ⟨3, ![8, 128, 256]⟩
abbrev S8x16x128 : Shape := ⟨3, ![8, 16, 128]⟩
abbrev S8x128x128 : Shape := ⟨3, ![8, 128, 128]⟩
abbrev S2x16384x1024 : Shape := ⟨3, ![2, 16384, 1024]⟩
abbrev S1x1x512x256 : Shape := ⟨4, ![1, 1, 512, 256]⟩
abbrev S1x1x16384x256 : Shape := ⟨4, ![1, 1, 16384, 256]⟩
abbrev S1x1x16384x128 : Shape := ⟨4, ![1, 1, 16384, 128]⟩
abbrev S1x128x256 : Shape := ⟨3, ![1, 128, 256]⟩
abbrev S1x128x128 : Shape := ⟨3, ![1, 128, 128]⟩
abbrev S1x512x128 : Shape := ⟨3, ![1, 512, 128]⟩
abbrev S512x256 : Shape := ⟨2, ![512, 256]⟩
abbrev S128x256 : Shape := ⟨2, ![128, 256]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S1x1x512x128 : Shape := ⟨4, ![1, 1, 512, 128]⟩
abbrev S512x512 : Shape := ⟨2, ![512, 512]⟩

abbrev nBuf : Space → Nat
  | .hbm => 14
  | .vmem => 12
  | .smem => 0
  | _ => 0

abbrev bufTy : (tb : Table) → Fin (tcTables nBuf tb) → BufTy
  | .hbm, ⟨0, _⟩ => ⟨S2x8x16384x256, .bf16⟩
  | .hbm, ⟨1, _⟩ => ⟨S2x8x16384x256, .bf16⟩
  | .hbm, ⟨2, _⟩ => ⟨S2x8x16384x128, .bf16⟩
  | .hbm, ⟨3, _⟩ => ⟨S1x8x16x256, .bf16⟩
  | .hbm, ⟨4, _⟩ => ⟨S1x8x16x128, .bf16⟩
  | .hbm, ⟨5, _⟩ => ⟨S8x16x256, .bf16⟩
  | .hbm, ⟨6, _⟩ => ⟨S_, .i32⟩
  | .hbm, ⟨7, _⟩ => ⟨S_, .bf16⟩
  | .hbm, ⟨8, _⟩ => ⟨S8x128x256, .bf16⟩
  | .hbm, ⟨9, _⟩ => ⟨S8x16x128, .bf16⟩
  | .hbm, ⟨10, _⟩ => ⟨S_, .i32⟩
  | .hbm, ⟨11, _⟩ => ⟨S_, .bf16⟩
  | .hbm, ⟨12, _⟩ => ⟨S8x128x128, .bf16⟩
  | .hbm, ⟨13, _⟩ => ⟨S2x16384x1024, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x1x16384x256, .bf16⟩
  | .local _ .vmem, ⟨3, _⟩ => ⟨S1x1x16384x256, .bf16⟩
  | .local _ .vmem, ⟨4, _⟩ => ⟨S1x1x16384x128, .bf16⟩
  | .local _ .vmem, ⟨5, _⟩ => ⟨S1x1x16384x128, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x128, .bf16⟩
  | .local _ .vmem, ⟨9, _⟩ => ⟨S1x128x128, .bf16⟩
  | .local _ .vmem, ⟨10, _⟩ => ⟨S1x512x128, .bf16⟩
  | .local _ .vmem, ⟨11, _⟩ => ⟨S1x512x128, .bf16⟩
  | _, _ => ⟨S2x8x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 32], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v21 : BitVec 32 := Scalar.muli arg2 c1_i32
  let v22 : BitVec 32 := Scalar.subi v21 c0_i32
  let c1_i32_13 : BitVec 32 := 1#32
  let v24 : BitVec 32 := Scalar.divsi v22 c1_i32_13
  let v25 : BitVec 32 := Scalar.muli v24 c1_i32_13
  let v26 : BitVec 32 := Scalar.addi c0_i32 v25
  let c1_i32_14 : BitVec 32 := 1#32
  ⟨c0_i32, v26, c1_i32_14⟩
def k0_mult1 (i : grid0.Coords) (k0_t1 : Fin (k0_t1_loop i).trips) : BitVec 32 :=
  let c0_i32 : BitVec 32 := 0#32
  let c1_i32_14 : BitVec 32 := 1#32
  let arg9 : BitVec 32 := Scf.iv c0_i32 c1_i32_14 k0_t1
  let c512_i32_34 : BitVec 32 := 512#32
  let v74 : BitVec 32 := Scalar.muli arg9 c512_i32_34
  v74
def k0_off1 (i : grid0.Coords) (k0_t1 : Fin (k0_t1_loop i).trips) : Fin 4 → Nat :=
  let c0_35 : Index := 0#32
  let c0_36 : Index := 0#32
  let c0_i32 : BitVec 32 := 0#32
  let c1_i32_14 : BitVec 32 := 1#32
  let arg9 : BitVec 32 := Scf.iv c0_i32 c1_i32_14 k0_t1
  let c512_i32_34 : BitVec 32 := 512#32
  let v74 : BitVec 32 := Scalar.muli arg9 c512_i32_34
  let v75 : BitVec 32 := v74
  let v76 : Index := Scalar.indexCast v75
  let c0_37 : Index := 0#32
  ![0, 0, v76.toNat, 0]
def k0_off2 (i : grid0.Coords) (k0_t1 : Fin (k0_t1_loop i).trips) : Fin 4 → Nat :=
  let c0_38 : Index := 0#32
  let c0_39 : Index := 0#32
  let c0_i32 : BitVec 32 := 0#32
  let c1_i32_14 : BitVec 32 := 1#32
  let arg9 : BitVec 32 := Scf.iv c0_i32 c1_i32_14 k0_t1
  let c512_i32_34 : BitVec 32 := 512#32
  let v74 : BitVec 32 := Scalar.muli arg9 c512_i32_34
  let v75 : BitVec 32 := v74
  let v79 : Index := Scalar.indexCast v75
  let c0_40 : Index := 0#32
  ![0, 0, v79.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v21 : BitVec 32 := Scalar.muli arg2 c1_i32
  let v22 : BitVec 32 := Scalar.subi v21 c0_i32
  let c1_i32_13 : BitVec 32 := 1#32
  let v24 : BitVec 32 := Scalar.divsi v22 c1_i32_13
  let v25 : BitVec 32 := Scalar.muli v24 c1_i32_13
  let v26 : BitVec 32 := Scalar.addi c0_i32 v25
  let v23 : BitVec 32 := Scalar.addi c0_i32 v22
  let c1_i32_15 : BitVec 32 := 1#32
  ⟨v26, v23, c1_i32_15⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v21 : BitVec 32 := Scalar.muli arg2 c1_i32
  let v22 : BitVec 32 := Scalar.subi v21 c0_i32
  let c1_i32_13 : BitVec 32 := 1#32
  let v24 : BitVec 32 := Scalar.divsi v22 c1_i32_13
  let v25 : BitVec 32 := Scalar.muli v24 c1_i32_13
  let v26 : BitVec 32 := Scalar.addi c0_i32 v25
  let c1_i32_15 : BitVec 32 := 1#32
  let arg9 : BitVec 32 := Scf.iv v26 c1_i32_15 k0_t2
  let c512_i32_34 : BitVec 32 := 512#32
  let v74 : BitVec 32 := Scalar.muli arg9 c512_i32_34
  v74
def k0_off3 (i : grid0.Coords) (k0_t2 : Fin (k0_t2_loop i).trips) : Fin 4 → Nat :=
  let c0_35 : Index := 0#32
  let c0_36 : Index := 0#32
  let c0_i32 : BitVec 32 := 0#32
  let arg2 : BitVec 32 := BitVec.ofNat 32 (i 2).val
  let c1_i32 : BitVec 32 := 1#32
  let v21 : BitVec 32 := Scalar.muli arg2 c1_i32
  let v22 : BitVec 32 := Scalar.subi v21 c0_i32
  let c1_i32_13 : BitVec 32 := 1#32
  let v24 : BitVec 32 := Scalar.divsi v22 c1_i32_13
  let v25 : BitVec 32 := Scalar.muli v24 c1_i32_13
  let v26 : BitVec 32 := Scalar.addi c0_i32 v25
  let c1_i32_15 : BitVec 32 := 1#32
  let arg9 : BitVec 32 := Scf.iv v26 c1_i32_15 k0_t2
  let c512_i32_34 : BitVec 32 := 512#32
  let v74 : BitVec 32 := Scalar.muli arg9 c512_i32_34
  let v75 : BitVec 32 := v74
  let v76 : Index := Scalar.indexCast v75
  let c0_37 : Index := 0#32
  ![0, 0, v76.toNat, 0]
def k0_off4 (i : grid0.Coords) (k0_t2 : Fin (k0_t2_loop i).trips) : Fin 4 → Nat :=
  let c0_38 : Index := 0#32
  let c0_39 : Index := 0#32
  let c0_i32 : BitVec 32 := 0#32
  let arg2 : BitVec 32 := BitVec.ofNat 32 (i 2).val
  let c1_i32 : BitVec 32 := 1#32
  let v21 : BitVec 32 := Scalar.muli arg2 c1_i32
  let v22 : BitVec 32 := Scalar.subi v21 c0_i32
  let c1_i32_13 : BitVec 32 := 1#32
  let v24 : BitVec 32 := Scalar.divsi v22 c1_i32_13
  let v25 : BitVec 32 := Scalar.muli v24 c1_i32_13
  let v26 : BitVec 32 := Scalar.addi c0_i32 v25
  let c1_i32_15 : BitVec 32 := 1#32
  let arg9 : BitVec 32 := Scf.iv v26 c1_i32_15 k0_t2
  let c512_i32_34 : BitVec 32 := 512#32
  let v74 : BitVec 32 := Scalar.muli arg9 c512_i32_34
  let v75 : BitVec 32 := v74
  let v79 : Index := Scalar.indexCast v75
  let c0_40 : Index := 0#32
  ![0, 0, v79.toNat, 0]
def k0_mult3 (i : grid0.Coords) : BitVec 32 :=
  let arg2 : BitVec 32 := BitVec.ofNat 32 (i 2).val
  let c1_i32_17 : BitVec 32 := 1#32
  let v35 : BitVec 32 := Scalar.muli arg2 c1_i32_17
  let c0_i32_18 : BitVec 32 := 0#32
  let v36 : BitVec 32 := Scalar.addi v35 c0_i32_18
  let c512_i32 : BitVec 32 := 512#32
  let v37 : BitVec 32 := Scalar.muli v36 c512_i32
  v37
def k0_off5 (i : grid0.Coords) : Fin 4 → Nat :=
  let c0_19 : Index := 0#32
  let c0_20 : Index := 0#32
  let arg2 : BitVec 32 := BitVec.ofNat 32 (i 2).val
  let c1_i32_17 : BitVec 32 := 1#32
  let v35 : BitVec 32 := Scalar.muli arg2 c1_i32_17
  let c0_i32_18 : BitVec 32 := 0#32
  let v36 : BitVec 32 := Scalar.addi v35 c0_i32_18
  let c512_i32 : BitVec 32 := 512#32
  let v37 : BitVec 32 := Scalar.muli v36 c512_i32
  let v38 : BitVec 32 := v37
  let v39 : Index := Scalar.indexCast v38
  let c0_21 : Index := 0#32
  ![0, 0, v39.toNat, 0]
def k0_off6 (i : grid0.Coords) : Fin 4 → Nat :=
  let c0_22 : Index := 0#32
  let c0_23 : Index := 0#32
  let arg2 : BitVec 32 := BitVec.ofNat 32 (i 2).val
  let c1_i32_17 : BitVec 32 := 1#32
  let v35 : BitVec 32 := Scalar.muli arg2 c1_i32_17
  let c0_i32_18 : BitVec 32 := 0#32
  let v36 : BitVec 32 := Scalar.addi v35 c0_i32_18
  let c512_i32 : BitVec 32 := 512#32
  let v37 : BitVec 32 := Scalar.muli v36 c512_i32
  let v38 : BitVec 32 := v37
  let v42 : Index := Scalar.indexCast v38
  let c0_24 : Index := 0#32
  ![0, 0, v42.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8x16384x256 : Shape := ⟨4, ![2, 8, 16384, 256]⟩
abbrev S2x8x16384x128 : Shape := ⟨4, ![2, 8, 16384, 128]⟩
abbrev S1x8x16x256 : Shape := ⟨4, ![1, 8, 16, 256]⟩
abbrev S1x8x16x128 : Shape := ⟨4, ![1, 8, 16, 128]⟩
abbrev S2x8x16x256 : Shape := ⟨4, ![2, 8, 16, 256]⟩
abbrev S2x8x16400x256 : Shape := ⟨4, ![2, 8, 16400, 256]⟩
abbrev S2x8x16x128 : Shape := ⟨4, ![2, 8, 16, 128]⟩
abbrev S2x8x16400x128 : Shape := ⟨4, ![2, 8, 16400, 128]⟩
abbrev S16400 : Shape := ⟨1, ![16400]⟩
abbrev S_ : Shape := ⟨0, ![]⟩
abbrev S16384 : Shape := ⟨1, ![16384]⟩
abbrev S1x16400 : Shape := ⟨2, ![1, 16400]⟩
abbrev S16384x1 : Shape := ⟨2, ![16384, 1]⟩
abbrev S16384x16400 : Shape := ⟨2, ![16384, 16400]⟩
abbrev S2x8x16384x16400 : Shape := ⟨4, ![2, 8, 16384, 16400]⟩
abbrev S1x1x16384x16400 : Shape := ⟨4, ![1, 1, 16384, 16400]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩
abbrev S2x16384x8x128 : Shape := ⟨4, ![2, 16384, 8, 128]⟩
abbrev S2x16384x1024 : Shape := ⟨3, ![2, 16384, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x8x16384x256, .bf16⟩
  | .hbm, ⟨1, _⟩ => ⟨S2x8x16384x256, .bf16⟩
  | .hbm, ⟨2, _⟩ => ⟨S2x8x16384x128, .bf16⟩
  | .hbm, ⟨3, _⟩ => ⟨S1x8x16x256, .bf16⟩
  | .hbm, ⟨4, _⟩ => ⟨S1x8x16x128, .bf16⟩
  | .hbm, ⟨5, _⟩ => ⟨S2x8x16384x256, .f32⟩
  | .hbm, ⟨6, _⟩ => ⟨S2x8x16384x256, .f32⟩
  | .hbm, ⟨7, _⟩ => ⟨S2x8x16384x128, .f32⟩
  | .hbm, ⟨8, _⟩ => ⟨S1x8x16x256, .f32⟩
  | .hbm, ⟨9, _⟩ => ⟨S1x8x16x128, .f32⟩
  | .hbm, ⟨10, _⟩ => ⟨S2x8x16x256, .f32⟩
  | .hbm, ⟨11, _⟩ => ⟨S2x8x16400x256, .f32⟩
  | .hbm, ⟨12, _⟩ => ⟨S2x8x16x128, .f32⟩
  | .hbm, ⟨13, _⟩ => ⟨S2x8x16400x128, .f32⟩
  | .hbm, ⟨14, _⟩ => ⟨S16400, .i32⟩
  | .hbm, ⟨15, _⟩ => ⟨S_, .i32⟩
  | .hbm, ⟨16, _⟩ => ⟨S16400, .i32⟩
  | .hbm, ⟨17, _⟩ => ⟨S16400, .i1⟩
  | .hbm, ⟨18, _⟩ => ⟨S_, .i32⟩
  | .hbm, ⟨19, _⟩ => ⟨S16400, .i32⟩
  | .hbm, ⟨20, _⟩ => ⟨S16400, .i32⟩
  | .hbm, ⟨21, _⟩ => ⟨S_, .i32⟩
  | .hbm, ⟨22, _⟩ => ⟨S_, .i32⟩
  | .hbm, ⟨23, _⟩ => ⟨S16400, .i32⟩
  | .hbm, ⟨24, _⟩ => ⟨S16400, .i32⟩
  | .hbm, ⟨25, _⟩ => ⟨S16400, .i32⟩
  | .hbm, ⟨26, _⟩ => ⟨S_, .i32⟩
  | .hbm, ⟨27, _⟩ => ⟨S16400, .i32⟩
  | .hbm, ⟨28, _⟩ => ⟨S16400, .i1⟩
  | .hbm, ⟨29, _⟩ => ⟨S16400, .i32⟩
  | .hbm, ⟨30, _⟩ => ⟨S16400, .i32⟩
  | .hbm, ⟨31, _⟩ => ⟨S_, .i32⟩
  | .hbm, ⟨32, _⟩ => ⟨S16400, .i32⟩
  | .hbm, ⟨33, _⟩ => ⟨S16400, .i1⟩
  | .hbm, ⟨34, _⟩ => ⟨S16400, .i1⟩
  | .hbm, ⟨35, _⟩ => ⟨S_, .i32⟩
  | .hbm, ⟨36, _⟩ => ⟨S16400, .i32⟩
  | .hbm, ⟨37, _⟩ => ⟨S16400, .i32⟩
  | .hbm, ⟨38, _⟩ => ⟨S16400, .i32⟩
  | .hbm, ⟨39, _⟩ => ⟨S_, .i32⟩
  | .hbm, ⟨40, _⟩ => ⟨S16400, .i32⟩
  | .hbm, ⟨41, _⟩ => ⟨S16400, .i32⟩
  | .hbm, ⟨42, _⟩ => ⟨S_, .i32⟩
  | .hbm, ⟨43, _⟩ => ⟨S_, .i32⟩
  | .hbm, ⟨44, _⟩ => ⟨S16400, .i32⟩
  | .hbm, ⟨45, _⟩ => ⟨S16400, .i32⟩
  | .hbm, ⟨46, _⟩ => ⟨S16384, .i32⟩
  | .hbm, ⟨47, _⟩ => ⟨S_, .i32⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S16384, .i32⟩
  | .hbm, ⟨56, _⟩ => ⟨S16384, .i32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S1x16400, .i32⟩
  | .hbm, ⟨69, _⟩ => ⟨S16384x1, .i32⟩
  | .hbm, ⟨70, _⟩ => ⟨S16384x16400, .i32⟩
  | .hbm, ⟨71, _⟩ => ⟨S16384x16400, .i32⟩
  | .hbm, ⟨72, _⟩ => ⟨S16384x16400, .i1⟩
  | .hbm, ⟨73, _⟩ => ⟨S2x8x16384x16400, .f32⟩
  | .hbm, ⟨74, _⟩ => ⟨S1x1x16384x16400, .i1⟩
  | .hbm, ⟨75, _⟩ => ⟨S_, .f32⟩
  | .hbm, ⟨76, _⟩ => ⟨S_, .f32⟩
  | .hbm, ⟨77, _⟩ => ⟨S2x8x16384x16400, .i1⟩
  | .hbm, ⟨78, _⟩ => ⟨S2x8x16384x16400, .f32⟩
  | .hbm, ⟨79, _⟩ => ⟨S2x8x16384x16400, .f32⟩
  | .hbm, ⟨80, _⟩ => ⟨S_, .f32⟩
  | .hbm, ⟨81, _⟩ => ⟨S2x8x16384, .f32⟩
  | .hbm, ⟨82, _⟩ => ⟨S_, .f32⟩
  | .hbm, ⟨83, _⟩ => ⟨S2x8x16384, .f32⟩
  | .hbm, ⟨84, _⟩ => ⟨S2x8x16384, .f32⟩
  | .hbm, ⟨85, _⟩ => ⟨S2x8x16384x1, .f32⟩
  | .hbm, ⟨86, _⟩ => ⟨S2x8x16384x16400, .f32⟩
  | .hbm, ⟨87, _⟩ => ⟨S2x8x16384x16400, .f32⟩
  | .hbm, ⟨88, _⟩ => ⟨S2x8x16384x16400, .f32⟩
  | .hbm, ⟨89, _⟩ => ⟨S_, .f32⟩
  | .hbm, ⟨90, _⟩ => ⟨S2x8x16384, .f32⟩
  | .hbm, ⟨91, _⟩ => ⟨S2x8x16384x1, .f32⟩
  | .hbm, ⟨92, _⟩ => ⟨S2x8x16384x16400, .f32⟩
  | .hbm, ⟨93, _⟩ => ⟨S2x8x16384x16400, .f32⟩
  | .hbm, ⟨94, _⟩ => ⟨S2x8x128x16384, .f32⟩
  | .hbm, ⟨95, _⟩ => ⟨S2x16384x8x128, .f32⟩
  | .hbm, ⟨96, _⟩ => ⟨S2x16384x1024, .f32⟩
  | .hbm, ⟨97, _⟩ => ⟨S2x16384x1024, .bf16⟩
  | _, _ => ⟨S2x8x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_call1_v0 : Ref sig .tc := ⟨.hbm, 43, rfl⟩
abbrev main_call1_v1 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v19 : Ref sig .tc := ⟨.hbm, 64, rfl⟩
abbrev main_c_5 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v29 : Ref sig .tc := ⟨.hbm, 79, rfl⟩
abbrev main_cst_6 : Ref sig .tc := ⟨.hbm, 80, rfl⟩
abbrev main_v30 : Ref sig .tc := ⟨.hbm, 81, rfl⟩
abbrev main_cst_7 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_8 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x16384x1024 : Shape := ⟨3, ![2, 16384, 1024]⟩
abbrev S2048 : Shape := ⟨1, ![2048]⟩
abbrev S1x1024 : Shape := ⟨2, ![1, 1024]⟩
abbrev S1x2048x2048 : Shape := ⟨3, ![1, 2048, 2048]⟩
abbrev S1x2048 : Shape := ⟨2, ![1, 2048]⟩
abbrev S1x2x128x128 : Shape := ⟨4, ![1, 2, 128, 128]⟩
abbrev S1024 : Shape := ⟨1, ![1024]⟩
abbrev S2048x2048 : Shape := ⟨2, ![2048, 2048]⟩
abbrev S2x128x128 : Shape := ⟨3, ![2, 128, 128]⟩
abbrev S2x2048x16384 : Shape := ⟨3, ![2, 2048, 16384]⟩
abbrev S1x256x2048 : Shape := ⟨3, ![1, 256, 2048]⟩
abbrev S1x256x1024 : Shape := ⟨3, ![1, 256, 1024]⟩
abbrev S1x2048x256 : Shape := ⟨3, ![1, 2048, 256]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1024x2048 : Shape := ⟨2, ![1024, 2048]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 28
  | .vmem => 20
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .bf16⟩
  | .hbm, ⟨2, _⟩ => ⟨S2x16384x1024, .bf16⟩
  | .hbm, ⟨3, _⟩ => ⟨S2048, .f32⟩
  | .hbm, ⟨4, _⟩ => ⟨S2048, .f32⟩
  | .hbm, ⟨5, _⟩ => ⟨S1x1024, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x2048, .f32⟩
  | .hbm, ⟨10, _⟩ => ⟨S1x2x128x128, .f32⟩
  | .hbm, ⟨11, _⟩ => ⟨S1x2048, .f32⟩
  | .hbm, ⟨12, _⟩ => ⟨S1x2048, .f32⟩
  | .hbm, ⟨13, _⟩ => ⟨S1024, .f32⟩
  | .hbm, ⟨14, _⟩ => ⟨S1x1024, .f32⟩
  | .hbm, ⟨15, _⟩ => ⟨S2048x2048, .f32⟩
  | .hbm, ⟨16, _⟩ => ⟨S2048x2048, .bf16⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048x2048, .f32⟩
  | .hbm, ⟨22, _⟩ => ⟨S2048x2048, .bf16⟩
  | .hbm, ⟨23, _⟩ => ⟨S2x128x128, .f32⟩
  | .hbm, ⟨24, _⟩ => ⟨S2x128x128, .bf16⟩
  | .hbm, ⟨25, _⟩ => ⟨S2x16384x2048, .f32⟩
  | .hbm, ⟨26, _⟩ => ⟨S2x16384x2048, .bf16⟩
  | .hbm, ⟨27, _⟩ => ⟨S2x2048x16384, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x2048, .f32⟩
  | .local _ .vmem, ⟨7, _⟩ => ⟨S1x2048, .f32⟩
  | .local _ .vmem, ⟨8, _⟩ => ⟨S1x1024, .f32⟩
  | .local _ .vmem, ⟨9, _⟩ => ⟨S2048x2048, .bf16⟩
  | .local _ .vmem, ⟨10, _⟩ => ⟨S1x2048, .f32⟩
  | .local _ .vmem, ⟨11, _⟩ => ⟨S1x2048, .f32⟩
  | .local _ .vmem, ⟨12, _⟩ => ⟨S2048x2048, .bf16⟩
  | .local _ .vmem, ⟨13, _⟩ => ⟨S2x128x128, .bf16⟩
  | .local _ .vmem, ⟨14, _⟩ => ⟨S1x256x2048, .f32⟩
  | .local _ .vmem, ⟨15, _⟩ => ⟨S1x256x2048, .f32⟩
  | .local _ .vmem, ⟨16, _⟩ => ⟨S1x256x2048, .bf16⟩
  | .local _ .vmem, ⟨17, _⟩ => ⟨S1x256x2048, .bf16⟩
  | .local _ .vmem, ⟨18, _⟩ => ⟨S1x2048x256, .f32⟩
  | .local _ .vmem, ⟨19, _⟩ => ⟨S1x2048x256, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2048x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x16384x2048 : Shape := ⟨3, ![2, 16384, 2048]⟩
abbrev S2x16384x1024 : Shape := ⟨3, ![2, 16384, 1024]⟩
abbrev S2048 : Shape := ⟨1, ![2048]⟩
abbrev S1x1024 : Shape := ⟨2, ![1, 1024]⟩
abbrev S1x2048x2048 : Shape := ⟨3, ![1, 2048, 2048]⟩
abbrev S1x2048 : Shape := ⟨2, ![1, 2048]⟩
abbrev S1x2x128x128 : Shape := ⟨4, ![1, 2, 128, 128]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2048x2048 : Shape := ⟨2, ![2048, 2048]⟩
abbrev S1x1x2048 : Shape := ⟨3, ![1, 1, 2048]⟩
abbrev S2x16384x8x2x128 : Shape := ⟨5, ![2, 16384, 8, 2, 128]⟩
abbrev S2x128x128 : Shape := ⟨3, ![2, 128, 128]⟩
abbrev S2x128x2x16384x8 : Shape := ⟨5, ![2, 128, 2, 16384, 8]⟩
abbrev S2x2048x16384 : Shape := ⟨3, ![2, 2048, 16384]⟩

abbrev nBuf : Space → Nat
  | .hbm => 106
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .bf16⟩
  | .hbm, ⟨2, _⟩ => ⟨S2x16384x1024, .bf16⟩
  | .hbm, ⟨3, _⟩ => ⟨S2048, .f32⟩
  | .hbm, ⟨4, _⟩ => ⟨S2048, .f32⟩
  | .hbm, ⟨5, _⟩ => ⟨S1x1024, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x2048, .f32⟩
  | .hbm, ⟨10, _⟩ => ⟨S1x2x128x128, .f32⟩
  | .hbm, ⟨11, _⟩ => ⟨S2x16384x1024, .f32⟩
  | .hbm, ⟨12, _⟩ => ⟨S1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x2048, .f32⟩
  | .hbm, ⟨31, _⟩ => ⟨S2048x2048, .f32⟩
  | .hbm, ⟨32, _⟩ => ⟨S2x16384x2048, .f32⟩
  | .hbm, ⟨33, _⟩ => ⟨S_, .f32⟩
  | .hbm, ⟨34, _⟩ => ⟨S2x16384, .f32⟩
  | .hbm, ⟨35, _⟩ => ⟨S2x16384x1, .f32⟩
  | .hbm, ⟨36, _⟩ => ⟨S_, .f32⟩
  | .hbm, ⟨37, _⟩ => ⟨S2x16384x1, .f32⟩
  | .hbm, ⟨38, _⟩ => ⟨S2x16384x1, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S_, .f32⟩
  | .hbm, ⟨43, _⟩ => ⟨S2x16384, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S2x16384x2048, .f32⟩
  | .hbm, ⟨49, _⟩ => ⟨S2x16384x2048, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x2048, .f32⟩
  | .hbm, ⟨55, _⟩ => ⟨S2x16384x2048, .f32⟩
  | .hbm, ⟨56, _⟩ => ⟨S1x1x2048, .f32⟩
  | .hbm, ⟨57, _⟩ => ⟨S2x16384x2048, .f32⟩
  | .hbm, ⟨58, _⟩ => ⟨S2x16384x2048, .f32⟩
  | .hbm, ⟨59, _⟩ => ⟨S1x1x2048, .f32⟩
  | .hbm, ⟨60, _⟩ => ⟨S2x16384x2048, .f32⟩
  | .hbm, ⟨61, _⟩ => ⟨S2x16384x2048, .f32⟩
  | .hbm, ⟨62, _⟩ => ⟨S_, .f32⟩
  | .hbm, ⟨63, _⟩ => ⟨S2x16384x2048, .f32⟩
  | .hbm, ⟨64, _⟩ => ⟨S2x16384x2048, .f32⟩
  | .hbm, ⟨65, _⟩ => ⟨S2x16384x2048, .f32⟩
  | .hbm, ⟨66, _⟩ => ⟨S2048, .f32⟩
  | .hbm, ⟨67, _⟩ => ⟨S2048, .f32⟩
  | .hbm, ⟨68, _⟩ => ⟨S_, .f32⟩
  | .hbm, ⟨69, _⟩ => ⟨S2x16384, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S2x16384x2048, .f32⟩
  | .hbm, ⟨75, _⟩ => ⟨S2x16384x2048, .f32⟩
  | .hbm, ⟨76, _⟩ => ⟨S2x16384x2048, .f32⟩
  | .hbm, ⟨77, _⟩ => ⟨S_, .f32⟩
  | .hbm, ⟨78, _⟩ => ⟨S2x16384, .f32⟩
  | .hbm, ⟨79, _⟩ => ⟨S2x16384x1, .f32⟩
  | .hbm, ⟨80, _⟩ => ⟨S_, .f32⟩
  | .hbm, ⟨81, _⟩ => ⟨S2x16384x1, .f32⟩
  | .hbm, ⟨82, _⟩ => ⟨S2x16384x1, .f32⟩
  | .hbm, ⟨83, _⟩ => ⟨S2x16384x2048, .f32⟩
  | .hbm, ⟨84, _⟩ => ⟨S2x16384x2048, .f32⟩
  | .hbm, ⟨85, _⟩ => ⟨S_, .f32⟩
  | .hbm, ⟨86, _⟩ => ⟨S2x16384x1, .f32⟩
  | .hbm, ⟨87, _⟩ => ⟨S2x16384x1, .f32⟩
  | .hbm, ⟨88, _⟩ => ⟨S2x16384x1, .f32⟩
  | .hbm, ⟨89, _⟩ => ⟨S2x16384x2048, .f32⟩
  | .hbm, ⟨90, _⟩ => ⟨S2x16384x2048, .f32⟩
  | .hbm, ⟨91, _⟩ => ⟨S1x1x2048, .f32⟩
  | .hbm, ⟨92, _⟩ => ⟨S2x16384x2048, .f32⟩
  | .hbm, ⟨93, _⟩ => ⟨S2x16384x2048, .f32⟩
  | .hbm, ⟨94, _⟩ => ⟨S1x1x2048, .f32⟩
  | .hbm, ⟨95, _⟩ => ⟨S2x16384x2048, .f32⟩
  | .hbm, ⟨96, _⟩ => ⟨S2x16384x2048, .f32⟩
  | .hbm, ⟨97, _⟩ => ⟨S2048x2048, .f32⟩
  | .hbm, ⟨98, _⟩ => ⟨S2x16384x2048, .f32⟩
  | .hbm, ⟨99, _⟩ => ⟨S2x16384x8x2x128, .f32⟩
  | .hbm, ⟨100, _⟩ => ⟨S2x128x128, .f32⟩
  | .hbm, ⟨101, _⟩ => ⟨S2x128x2x16384x8, .f32⟩
  | .hbm, ⟨102, _⟩ => ⟨S2x16384x8x2x128, .f32⟩
  | .hbm, ⟨103, _⟩ => ⟨S2x16384x2048, .bf16⟩
  | .hbm, ⟨104, _⟩ => ⟨S2x16384x2048, .f32⟩
  | .hbm, ⟨105, _⟩ => ⟨S2x2048x16384, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Kernel3.lean ====
abbrev S2x16384x2048 : Shape := ⟨3, ![2, 16384, 2048]⟩
abbrev S1x8x1024 : Shape := ⟨3, ![1, 8, 1024]⟩
abbrev S2048 : Shape := ⟨1, ![2048]⟩
abbrev S1x2048x4032 : Shape := ⟨3, ![1, 2048, 4032]⟩
abbrev S1x384 : Shape := ⟨2, ![1, 384]⟩
abbrev S1x512 : Shape := ⟨2, ![1, 512]⟩
abbrev S1x384x1536 : Shape := ⟨3, ![1, 384, 1536]⟩
abbrev S1x512x2048 : Shape := ⟨3, ![1, 512, 2048]⟩
abbrev S1x3x1024 : Shape := ⟨3, ![1, 3, 1024]⟩
abbrev S1x1024 : Shape := ⟨2, ![1, 1024]⟩
abbrev S2048x4032 : Shape := ⟨2, ![2048, 4032]⟩
abbrev S2048x64 : Shape := ⟨2, ![2048, 64]⟩
abbrev S_ : Shape := ⟨0, ![]⟩
abbrev S2048x896 : Shape := ⟨2, ![2048, 896]⟩
abbrev S2048x32 : Shape := ⟨2, ![2048, 32]⟩
abbrev S2048x3072 : Shape := ⟨2, ![2048, 3072]⟩
abbrev S2048x4224 : Shape := ⟨2, ![2048, 4224]⟩
abbrev S384x1536 : Shape := ⟨2, ![384, 1536]⟩
abbrev S384x8x192 : Shape := ⟨3, ![384, 8, 192]⟩
abbrev S384x8x64 : Shape := ⟨3, ![384, 8, 64]⟩
abbrev S384x8x256 : Shape := ⟨3, ![384, 8, 256]⟩
abbrev S384x2048 : Shape := ⟨2, ![384, 2048]⟩
abbrev S384x8x32 : Shape := ⟨3, ![384, 8, 32]⟩
abbrev S384x8x128 : Shape := ⟨3, ![384, 8, 128]⟩
abbrev S384x1024 : Shape := ⟨2, ![384, 1024]⟩
abbrev S512x2048 : Shape := ⟨2, ![512, 2048]⟩
abbrev S512x8x256 : Shape := ⟨3, ![512, 8, 256]⟩
abbrev S512x8x128 : Shape := ⟨3, ![512, 8, 128]⟩
abbrev S512x1024 : Shape := ⟨2, ![512, 1024]⟩
abbrev S1x2048 : Shape := ⟨2, ![1, 2048]⟩
abbrev S384 : Shape := ⟨1, ![384]⟩
abbrev S512 : Shape := ⟨1, ![512]⟩
abbrev S3x1024 : Shape := ⟨2, ![3, 1024]⟩
abbrev S1024 : Shape := ⟨1, ![1024]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S8x1024 : Shape := ⟨2, ![8, 1024]⟩
abbrev S2x8x16384x256 : Shape := ⟨4, ![2, 8, 16384, 256]⟩
abbrev S2x8x16384x128 : Shape := ⟨4, ![2, 8, 16384, 128]⟩
abbrev S2x16384x1024 : Shape := ⟨3, ![2, 16384, 1024]⟩
abbrev S2x8x1024 : Shape := ⟨3, ![2, 8, 1024]⟩
abbrev S512x128 : Shape := ⟨2, ![512, 128]⟩
abbrev S1x8x512x256 : Shape := ⟨4, ![1, 8, 512, 256]⟩
abbrev S1x8x512x128 : Shape := ⟨4, ![1, 8, 512, 128]⟩
abbrev S1x512x1024 : Shape := ⟨3, ![1, 512, 1024]⟩
abbrev S520x1024 : Shape := ⟨2, ![520, 1024]⟩
abbrev S512x1 : Shape := ⟨2, ![512, 1]⟩
abbrev S2048x384 : Shape := ⟨2, ![2048, 384]⟩
abbrev S512x384 : Shape := ⟨2, ![512, 384]⟩
abbrev S2048x512 : Shape := ⟨2, ![2048, 512]⟩
abbrev S512x512 : Shape := ⟨2, ![512, 512]⟩
abbrev S2048x128 : Shape := ⟨2, ![2048, 128]⟩
abbrev S384x256 : Shape := ⟨2, ![384, 256]⟩
abbrev S512x256 : Shape := ⟨2, ![512, 256]⟩
abbrev S384x128 : Shape := ⟨2, ![384, 128]⟩
abbrev S1x1x512x128 : Shape := ⟨4, ![1, 1, 512, 128]⟩
abbrev S2048x1024 : Shape := ⟨2, ![2048, 1024]⟩

abbrev nBuf : Space → Nat
  | .hbm => 91
  | .vmem => 29
  | .smem => 0
  | _ => 0

abbrev bufTy : (tb : Table) → Fin (tcTables nBuf tb) → BufTy
  | .hbm, ⟨0, _⟩ => ⟨S2x16384x2048, .f32⟩
  | .hbm, ⟨1, _⟩ => ⟨S1x8x1024, .f32⟩
  | .hbm, ⟨2, _⟩ => ⟨S2048, .f32⟩
  | .hbm, ⟨3, _⟩ => ⟨S2048, .f32⟩
  | .hbm, ⟨4, _⟩ => ⟨S1x2048x4032, .f32⟩
  | .hbm, ⟨5, _⟩ => ⟨S1x384, .f32⟩
  | .hbm, ⟨6, _⟩ => ⟨S1x512, .f32⟩
  | .hbm, ⟨7, _⟩ => ⟨S1x384x1536, .f32⟩
  | .hbm, ⟨8, _⟩ => ⟨S1x512x2048, .f32⟩
  | .hbm, ⟨9, _⟩ => ⟨S1x3x1024, .f32⟩
  | .hbm, ⟨10, _⟩ => ⟨S1x1024, .f32⟩
  | .hbm, ⟨11, _⟩ => ⟨S2048x4032, .f32⟩
  | .hbm, ⟨12, _⟩ => ⟨S2048x64, .f32⟩
  | .hbm, ⟨13, _⟩ => ⟨S_, .f32⟩
  | .hbm, ⟨14, _⟩ => ⟨S2048x64, .f32⟩
  | .hbm, ⟨15, _⟩ => ⟨S2048x896, .f32⟩
  | .hbm, ⟨16, _⟩ => ⟨S2048x32, .f32⟩
  | .hbm, ⟨17, _⟩ => ⟨S2048x32, .f32⟩
  | .hbm, ⟨18, _⟩ => ⟨S2048x64, .f32⟩
  | .hbm, ⟨19, _⟩ => ⟨S2048x3072, .f32⟩
  | .hbm, ⟨20, _⟩ => ⟨S2048x4224, .f32⟩
  | .hbm, ⟨21, _⟩ => ⟨S2048x4224, .bf16⟩
  | .hbm, ⟨22, _⟩ => ⟨S384x1536, .f32⟩
  | .hbm, ⟨23, _⟩ => ⟨S384x8x192, .f32⟩
  | .hbm, ⟨24, _⟩ => ⟨S_, .f32⟩
  | .hbm, ⟨25, _⟩ => ⟨S384x8x64, .f32⟩
  | .hbm, ⟨26, _⟩ => ⟨S384x8x256, .f32⟩
  | .hbm, ⟨27, _⟩ => ⟨S384x2048, .f32⟩
  | .hbm, ⟨28, _⟩ => ⟨S384x2048, .bf16⟩
  | .hbm, ⟨29, _⟩ => ⟨S384x8x64, .f32⟩
  | .hbm, ⟨30, _⟩ => ⟨S384x8x32, .f32⟩
  | .hbm, ⟨31, _⟩ => ⟨S384x8x32, .f32⟩
  | .hbm, ⟨32, _⟩ => ⟨S384x8x64, .f32⟩
  | .hbm, ⟨33, _⟩ => ⟨S384x8x128, .f32⟩
  | .hbm, ⟨34, _⟩ => ⟨S384x1024, .f32⟩
  | .hbm, ⟨35, _⟩ => ⟨S384x1024, .bf16⟩
  | .hbm, ⟨36, _⟩ => ⟨S512x2048, .f32⟩
  | .hbm, ⟨37, _⟩ => ⟨S512x8x256, .f32⟩
  | .hbm, ⟨38, _⟩ => ⟨S512x8x128, .f32⟩
  | .hbm, ⟨39, _⟩ => ⟨S512x1024, .f32⟩
  | .hbm, ⟨40, _⟩ => ⟨S512x1024, .bf16⟩
  | .hbm, ⟨41, _⟩ => ⟨S512x8x128, .f32⟩
  | .hbm, ⟨42, _⟩ => ⟨S512x1024, .f32⟩
  | .hbm, ⟨43, _⟩ => ⟨S512x1024, .bf16⟩
  | .hbm, ⟨44, _⟩ => ⟨S1x2048, .f32⟩
  | .hbm, ⟨45, _⟩ => ⟨S1x2048, .f32⟩
  | .hbm, ⟨46, _⟩ => ⟨S384, .f32⟩
  | .hbm, ⟨47, _⟩ => ⟨S1x384, .f32⟩
  | .hbm, ⟨48, _⟩ => ⟨S512, .f32⟩
  | .hbm, ⟨49, _⟩ => ⟨S1x512, .f32⟩
  | .hbm, ⟨50, _⟩ => ⟨S3x1024, .f32⟩
  | .hbm, ⟨51, _⟩ => ⟨S1024, .f32⟩
  | .hbm, ⟨52, _⟩ => ⟨S1x1024, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S16384, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S16384x1, .f32⟩
  | .hbm, ⟨74, _⟩ => ⟨S1x32, .f32⟩
  | .hbm, ⟨75, _⟩ => ⟨S16384x32, .f32⟩
  | .hbm, ⟨76, _⟩ => ⟨S16384x32, .f32⟩
  | .hbm, ⟨77, _⟩ => ⟨S16384x32, .f32⟩
  | .hbm, ⟨78, _⟩ => ⟨S16384x32, .f32⟩
  | .hbm, ⟨79, _⟩ => ⟨S16384x32, .f32⟩
  | .hbm, ⟨80, _⟩ => ⟨S_, .f32⟩
  | .hbm, ⟨81, _⟩ => ⟨S16384x64, .f32⟩
  | .hbm, ⟨82, _⟩ => ⟨S16384x128, .f32⟩
  | .hbm, ⟨83, _⟩ => ⟨S16384x32, .f32⟩
  | .hbm, ⟨84, _⟩ => ⟨S16384x128, .f32⟩
  | .hbm, ⟨85, _⟩ => ⟨S8x1024, .f32⟩
  | .hbm, ⟨86, _⟩ => ⟨S2x8x16384x256, .bf16⟩
  | .hbm, ⟨87, _⟩ => ⟨S2x8x16384x256, .bf16⟩
  | .hbm, ⟨88, _⟩ => ⟨S2x8x16384x128, .bf16⟩
  | .hbm, ⟨89, _⟩ => ⟨S2x16384x1024, .bf16⟩
  | .hbm, ⟨90, _⟩ => ⟨S2x8x1024, .f32⟩
  | .local _ .vmem, ⟨0, _⟩ => ⟨S1x512x2048, .f32⟩
  | .local _ .vmem, ⟨1, _⟩ => ⟨S1x512x2048, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8x1024, .f32⟩
  | .local _ .vmem, ⟨7, _⟩ => ⟨S1x2048, .f32⟩
  | .local _ .vmem, ⟨8, _⟩ => ⟨S1x2048, .f32⟩
  | .local _ .vmem, ⟨9, _⟩ => ⟨S2048x4224, .bf16⟩
  | .local _ .vmem, ⟨10, _⟩ => ⟨S1x384, .f32⟩
  | .local _ .vmem, ⟨11, _⟩ => ⟨S1x512, .f32⟩
  | .local _ .vmem, ⟨12, _⟩ => ⟨S384x2048, .bf16⟩
  | .local _ .vmem, ⟨13, _⟩ => ⟨S384x1024, .bf16⟩
  | .local _ .vmem, ⟨14, _⟩ => ⟨S512x1024, .bf16⟩
  | .local _ .vmem, ⟨15, _⟩ => ⟨S512x1024, .bf16⟩
  | .local _ .vmem, ⟨16, _⟩ => ⟨S3x1024, .f32⟩
  | .local _ .vmem, ⟨17, _⟩ => ⟨S1x1024, .f32⟩
  | .local _ .vmem, ⟨18, _⟩ => ⟨S1x8x512x256, .bf16⟩
  | .local _ .vmem, ⟨19, _⟩ => ⟨S1x8x512x256, .bf16⟩
  | .local _ .vmem, ⟨20, _⟩ => ⟨S1x8x512x256, .bf16⟩
  | .local _ .vmem, ⟨21, _⟩ => ⟨S1x8x512x256, .bf16⟩
  | .local _ .vmem, ⟨22, _⟩ => ⟨S1x8x512x128, .bf16⟩
  | .local _ .vmem, ⟨23, _⟩ => ⟨S1x8x512x128, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x8x1024, .f32⟩
  | .local _ .vmem, ⟨27, _⟩ => ⟨S1x8x1024, .f32⟩
  | .local _ .vmem, ⟨28, _⟩ => ⟨S520x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_1 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66_0 : Ref sig .tc := ⟨.hbm, 86, rfl⟩
abbrev main_v66_1 : Ref sig .tc := ⟨.hbm, 87, rfl⟩
abbrev main_v66_2 : Ref sig .tc := ⟨.hbm, 88, rfl⟩
abbrev main_v66_3 : Ref sig .tc := ⟨.hbm, 89, rfl⟩
abbrev main_v66_4 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x4224 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x8x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference3Ideal.lean ====
abbrev S2x16384x2048 : Shape := ⟨3, ![2, 16384, 2048]⟩
abbrev S1x8x1024 : Shape := ⟨3, ![1, 8, 1024]⟩
abbrev S2048 : Shape := ⟨1, ![2048]⟩
abbrev S1x2048x4032 : Shape := ⟨3, ![1, 2048, 4032]⟩
abbrev S1x384 : Shape := ⟨2, ![1, 384]⟩
abbrev S1x512 : Shape := ⟨2, ![1, 512]⟩
abbrev S1x384x1536 : Shape := ⟨3, ![1, 384, 1536]⟩
abbrev S1x512x2048 : Shape := ⟨3, ![1, 512, 2048]⟩
abbrev S1x3x1024 : Shape := ⟨3, ![1, 3, 1024]⟩
abbrev S1x1024 : Shape := ⟨2, ![1, 1024]⟩
abbrev S32 : Shape := ⟨1, ![32]⟩
abbrev S_ : Shape := ⟨0, ![]⟩
abbrev S16400 : Shape := ⟨1, ![16400]⟩
abbrev S16400x1 : Shape := ⟨2, ![16400, 1]⟩
abbrev S1x32 : Shape := ⟨2, ![1, 32]⟩
abbrev S16400x32 : Shape := ⟨2, ![16400, 32]⟩
abbrev S16384x32 : Shape := ⟨2, ![16384, 32]⟩
abbrev S2x16384 : Shape := ⟨2, ![2, 16384]⟩
abbrev S2x16384x1 : Shape := ⟨3, ![2, 16384, 1]⟩
abbrev S1x1x2048 : Shape := ⟨3, ![1, 1, 2048]⟩
abbrev S2048x4032 : Shape := ⟨2, ![2048, 4032]⟩
abbrev S2x16384x4032 : Shape := ⟨3, ![2, 16384, 4032]⟩
abbrev S2x16384x384 : Shape := ⟨3, ![2, 16384, 384]⟩
abbrev S2x16384x512 : Shape := ⟨3, ![2, 16384, 512]⟩
abbrev S2x16384x64 : Shape := ⟨3, ![2, 16384, 64]⟩
abbrev S2x16384x1024 : Shape := ⟨3, ![2, 16384, 1024]⟩
abbrev S384 : Shape := ⟨1, ![384]⟩
abbrev S1x1x384 : Shape := ⟨3, ![1, 1, 384]⟩
abbrev S384x1536 : Shape := ⟨2, ![384, 1536]⟩
abbrev S2x16384x1536 : Shape := ⟨3, ![2, 16384, 1536]⟩
abbrev S2x16384x8x192 : Shape := ⟨4, ![2, 16384, 8, 192]⟩
abbrev S512 : Shape := ⟨1, ![512]⟩
abbrev S1x1x512 : Shape := ⟨3, ![1, 1, 512]⟩
abbrev S512x2048 : Shape := ⟨2, ![512, 2048]⟩
abbrev S2x16384x8x256 : Shape := ⟨4, ![2, 16384, 8, 256]⟩
abbrev S2x16384x8x64 : Shape := ⟨4, ![2, 16384, 8, 64]⟩
abbrev S16384x1x32 : Shape := ⟨3, ![16384, 1, 32]⟩
abbrev S2x16384x8x32 : Shape := ⟨4, ![2, 16384, 8, 32]⟩
abbrev S1x16384x1x32 : Shape := ⟨4, ![1, 16384, 1, 32]⟩
abbrev S2x16384x32 : Shape := ⟨3, ![2, 16384, 32]⟩
abbrev S1x16384x32 : Shape := ⟨3, ![1, 16384, 32]⟩
abbrev S2x16384x1x64 : Shape := ⟨4, ![2, 16384, 1, 64]⟩
abbrev S2x16384x8x128 : Shape := ⟨4, ![2, 16384, 8, 128]⟩
abbrev S1x2x1024 : Shape := ⟨3, ![1, 2, 1024]⟩
abbrev S2x2x1024 : Shape := ⟨3, ![2, 2, 1024]⟩
abbrev S2x16386x1024 : Shape := ⟨3, ![2, 16386, 1024]⟩
abbrev S1x1x1024 : Shape := ⟨3, ![1, 1, 1024]⟩
abbrev S1024 : Shape := ⟨1, ![1024]⟩
abbrev S2x8x16384x256 : Shape := ⟨4, ![2, 8, 16384, 256]⟩
abbrev S2x8x16384x128 : Shape := ⟨4, ![2, 8, 16384, 128]⟩

abbrev nBuf : Space → Nat
  | .hbm => 218
  | .vmem => 0
  | .smem => 0
  | _ => 0

abbrev hbmTy0_0 (i : Nat) : BufTy := match i % 128 with
  | 0 => ⟨S2x16384x2048, .f32⟩
  | 1 => ⟨S1x8x1024, .f32⟩
  | 2 => ⟨S2048, .f32⟩
  | 3 => ⟨S2048, .f32⟩
  | 4 => ⟨S1x2048x4032, .f32⟩
  | 5 => ⟨S1x384, .f32⟩
  | 6 => ⟨S1x512, .f32⟩
  | 7 => ⟨S1x384x1536, .f32⟩
  | 8 => ⟨S1x512x2048, .f32⟩
  | 9 => ⟨S1x3x1024, .f32⟩
  | 10 => ⟨S1x1024, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S16400, .f32⟩
  | 28 => ⟨S16400x1, .f32⟩
  | 29 => ⟨S1x32, .f32⟩
  | 30 => ⟨S16400x32, .f32⟩
  | 31 => ⟨S16400x32, .f32⟩
  | 32 => ⟨S16400x32, .f32⟩
  | 33 => ⟨S16400x32, .f32⟩
  | 34 => ⟨S16400x32, .f32⟩
  | 35 => ⟨S16384x32, .f32⟩
  | 36 => ⟨S16384x32, .f32⟩
  | 37 => ⟨S_, .f32⟩
  | 38 => ⟨S2x16384, .f32⟩
  | 39 => ⟨S2x16384x1, .f32⟩
  | 40 => ⟨S_, .f32⟩
  | 41 => ⟨S2x16384x1, .f32⟩
  | 42 => ⟨S2x16384x1, .f32⟩
  | 43 => ⟨S2x16384x2048, .f32⟩
  | 44 => ⟨S2x16384x2048, .f32⟩
  | 45 => ⟨S2x16384x2048, .f32⟩
  | 46 => ⟨S_, .f32⟩
  | 47 => ⟨S2x16384, .f32⟩
  | 48 => ⟨S2x16384x1, .f32⟩
  | 49 => ⟨S_, .f32⟩
  | 50 => ⟨S2x16384x1, .f32⟩
  | 51 => ⟨S2x16384x1, .f32⟩
  | 52 => ⟨S2x16384x2048, .f32⟩
  | 53 => ⟨S2x16384x2048, .f32⟩
  | 54 => ⟨S_, .f32⟩
  | 55 => ⟨S2x16384x1, .f32⟩
  | 56 => ⟨S2x16384x1, .f32⟩
  | 57 => ⟨S2x16384x1, .f32⟩
  | 58 => ⟨S2x16384x2048, .f32⟩
  | 59 => ⟨S2x16384x2048, .f32⟩
  | 60 => ⟨S1x1x2048, .f32⟩
  | 61 => ⟨S2x16384x2048, .f32⟩
  | 62 => ⟨S2x16384x2048, .f32⟩
  | 63 => ⟨S1x1x2048, .f32⟩
  | 64 => ⟨S2x16384x2048, .f32⟩
  | 65 => ⟨S2x16384x2048, .f32⟩
  | 66 => ⟨S2048x4032, .f32⟩
  | 67 => ⟨S2x16384x4032, .f32⟩
  | 68 => ⟨S2x16384x384, .f32⟩
  | 69 => ⟨S2x16384x512, .f32⟩
  | 70 => ⟨S2x16384x64, .f32⟩
  | 71 => ⟨S2x16384x1024, .f32⟩
  | 72 => ⟨S2x16384x1024, .f32⟩
  | 73 => ⟨S2x16384x1024, .f32⟩
  | 74 => ⟨S384, .f32⟩
  | 75 => ⟨S2x16384x384, .f32⟩
  | 76 => ⟨S_, .f32⟩
  | 77 => ⟨S2x16384, .f32⟩
  | 78 => ⟨S2x16384x1, .f32⟩
  | 79 => ⟨S_, .f32⟩
  | 80 => ⟨S2x16384x1, .f32⟩
  | 81 => ⟨S2x16384x1, .f32⟩
  | 82 => ⟨S_, .f32⟩
  | 83 => ⟨S2x16384x1, .f32⟩
  | 84 => ⟨S2x16384x1, .f32⟩
  | 85 => ⟨S2x16384x1, .f32⟩
  | 86 => ⟨S2x16384x384, .f32⟩
  | 87 => ⟨S2x16384x384, .f32⟩
  | 88 => ⟨S1x1x384, .f32⟩
  | 89 => ⟨S2x16384x384, .f32⟩
  | 90 => ⟨S2x16384x384, .f32⟩
  | 91 => ⟨S384x1536, .f32⟩
  | 92 => ⟨S2x16384x1536, .f32⟩
  | 93 => ⟨S2x16384x8x192, .f32⟩
  | 94 => ⟨S512, .f32⟩
  | 95 => ⟨S2x16384x512, .f32⟩
  | 96 => ⟨S_, .f32⟩
  | 97 => ⟨S2x16384, .f32⟩
  | 98 => ⟨S2x16384x1, .f32⟩
  | 99 => ⟨S_, .f32⟩
  | 100 => ⟨S2x16384x1, .f32⟩
  | 101 => ⟨S2x16384x1, .f32⟩
  | 102 => ⟨S_, .f32⟩
  | 103 => ⟨S2x16384x1, .f32⟩
  | 104 => ⟨S2x16384x1, .f32⟩
  | 105 => ⟨S2x16384x1, .f32⟩
  | 106 => ⟨S2x16384x512, .f32⟩
  | 107 => ⟨S2x16384x512, .f32⟩
  | 108 => ⟨S1x1x512, .f32⟩
  | 109 => ⟨S2x16384x512, .f32⟩
  | 110 => ⟨S2x16384x512, .f32⟩
  | 111 => ⟨S512x2048, .f32⟩
  | 112 => ⟨S2x16384x2048, .f32⟩
  | 113 => ⟨S2x16384x8x256, .f32⟩
  | 114 => ⟨S2x16384x8x64, .f32⟩
  | 115 => ⟨S16384x1x32, .f32⟩
  | 116 => ⟨S16384x1x32, .f32⟩
  | 117 => ⟨S2x16384x8x32, .f32⟩
  | 118 => ⟨S2x16384x8x32, .f32⟩
  | 119 => ⟨S1x16384x1x32, .f32⟩
  | 120 => ⟨S2x16384x8x32, .f32⟩
  | 121 => ⟨S2x16384x8x32, .f32⟩
  | 122 => ⟨S1x16384x1x32, .f32⟩
  | 123 => ⟨S2x16384x8x32, .f32⟩
  | 124 => ⟨S2x16384x8x32, .f32⟩
  | 125 => ⟨S2x16384x8x32, .f32⟩
  | 126 => ⟨S1x16384x1x32, .f32⟩
  | 127 => ⟨S2x16384x8x32, .f32⟩
  | _ => ⟨S2x16384x2048, .f32⟩

abbrev hbmTy0_1 (i : Nat) : BufTy := match i % 128 with
  | 0 => ⟨S2x16384x8x32, .f32⟩
  | 1 => ⟨S1x16384x1x32, .f32⟩
  | 2 => ⟨S2x16384x8x32, .f32⟩
  | 3 => ⟨S2x16384x8x32, .f32⟩
  | 4 => ⟨S2x16384x8x32, .f32⟩
  | 5 => ⟨S2x16384x8x64, .f32⟩
  | 6 => ⟨S_, .f32⟩
  | 7 => ⟨S2x16384x8x64, .f32⟩
  | 8 => ⟨S2x16384x8x64, .f32⟩
  | 9 => ⟨S2x16384x32, .f32⟩
  | 10 => ⟨S2x16384x32, .f32⟩
  | 11 => ⟨S1x16384x32, .f32⟩
  | 12 => ⟨S2x16384x32, .f32⟩
  | 13 => ⟨S2x16384x32, .f32⟩
  | 14 => ⟨S1x16384x32, .f32⟩
  | 15 => ⟨S2x16384x32, .f32⟩
  | 16 => ⟨S2x16384x32, .f32⟩
  | 17 => ⟨S2x16384x32, .f32⟩
  | 18 => ⟨S1x16384x32, .f32⟩
  | 19 => ⟨S2x16384x32, .f32⟩
  | 20 => ⟨S2x16384x32, .f32⟩
  | 21 => ⟨S1x16384x32, .f32⟩
  | 22 => ⟨S2x16384x32, .f32⟩
  | 23 => ⟨S2x16384x32, .f32⟩
  | 24 => ⟨S2x16384x32, .f32⟩
  | 25 => ⟨S2x16384x64, .f32⟩
  | 26 => ⟨S2x16384x1x64, .f32⟩
  | 27 => ⟨S2x16384x8x64, .f32⟩
  | 28 => ⟨S_, .f32⟩
  | 29 => ⟨S2x16384x8x64, .f32⟩
  | 30 => ⟨S2x16384x8x128, .f32⟩
  | 31 => ⟨S_, .f32⟩
  | 32 => ⟨S2x16384x8x128, .f32⟩
  | 33 => ⟨S2x16384x8x128, .f32⟩
  | 34 => ⟨S2x16384x8x256, .f32⟩
  | 35 => ⟨S2x16384x8x128, .f32⟩
  | 36 => ⟨S2x16384x8x256, .f32⟩
  | 37 => ⟨S1x2x1024, .f32⟩
  | 38 => ⟨S2x2x1024, .f32⟩
  | 39 => ⟨S2x16384x1024, .f32⟩
  | 40 => ⟨S2x16386x1024, .f32⟩
  | 41 => ⟨S2x16384x1024, .f32⟩
  | 42 => ⟨S1x1x1024, .f32⟩
  | 43 => ⟨S1024, .f32⟩
  | 44 => ⟨S1x1x1024, .f32⟩
  | 45 => ⟨S2x16384x1024, .f32⟩
  | 46 => ⟨S2x16384x1024, .f32⟩
  | 47 => ⟨S_, .f32⟩
  | 48 => ⟨S2x16384x1024, .f32⟩
  | 49 => ⟨S2x16384x1024, .f32⟩
  | 50 => ⟨S2x16384x1024, .f32⟩
  | 51 => ⟨S1x1x1024, .f32⟩
  | 52 => ⟨S1024, .f32⟩
  | 53 => ⟨S1x1x1024, .f32⟩
  | 54 => ⟨S2x16384x1024, .f32⟩
  | 55 => ⟨S2x16384x1024, .f32⟩
  | 56 => ⟨S2x16384x1024, .f32⟩
  | 57 => ⟨S2x16384x1024, .f32⟩
  | 58 => ⟨S1x1x1024, .f32⟩
  | 59 => ⟨S1024, .f32⟩
  | 60 => ⟨S1x1x1024, .f32⟩
  | 61 => ⟨S2x16384x1024, .f32⟩
  | 62 => ⟨S2x16384x1024, .f32⟩
  | 63 => ⟨S2x16384x1024, .f32⟩
  | 64 => ⟨S2x16384x1024, .f32⟩
  | 65 => ⟨S2x8x16384x256, .f32⟩
  | 66 => ⟨S2x8x16384x256, .bf16⟩
  | 67 => ⟨S2x8x16384x256, .f32⟩
  | 68 => ⟨S2x8x16384x256, .bf16⟩
  | 69 => ⟨S2x16384x8x128, .f32⟩
  | 70 => ⟨S2x8x16384x128, .f32⟩
  | 71 => ⟨S2x8x16384x128, .bf16⟩
  | 72 => ⟨S1024, .f32⟩
  | 73 => ⟨S2x16384x1024, .f32⟩
  | 74 => ⟨S_, .f32⟩
  | 75 => ⟨S2x16384, .f32⟩
  | 76 => ⟨S2x16384x1, .f32⟩
  | 77 => ⟨S_, .f32⟩
  | 78 => ⟨S2x16384x1, .f32⟩
  | 79 => ⟨S2x16384x1, .f32⟩
  | 80 => ⟨S_, .f32⟩
  | 81 => ⟨S2x16384x1, .f32⟩
  | 82 => ⟨S2x16384x1, .f32⟩
  | 83 => ⟨S2x16384x1, .f32⟩
  | 84 => ⟨S2x16384x1024, .f32⟩
  | 85 => ⟨S2x16384x1024, .f32⟩
  | 86 => ⟨S1x1x1024, .f32⟩
  | 87 => ⟨S2x16384x1024, .f32⟩
  | 88 => ⟨S2x16384x1024, .f32⟩
  | 89 => ⟨S2x16384x1024, .bf16⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_15 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_16 : Ref sig .tc := ⟨.hbm, 156, rfl⟩
abbrev main_v128 : Ref sig .tc := ⟨.hbm, 157, rfl⟩
abbrev main_v129 : Ref sig .tc := ⟨.hbm, 158, rfl⟩
abbrev main_cst_17 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_18 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_cst_19 : Ref sig .tc := ⟨.hbm, 202, rfl⟩
abbrev main_v171 : Ref sig .tc := ⟨.hbm, 203, rfl⟩
abbrev main_v172 : Ref sig .tc := ⟨.hbm, 204, rfl⟩
abbrev main_cst_20 : Ref sig .tc := ⟨.hbm, 205, rfl⟩
abbrev main_v173 : Ref sig .tc := ⟨.hbm, 206, rfl⟩
abbrev main_v174 : Ref sig .tc := ⟨.hbm, 207, rfl⟩
abbrev main_cst_21 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩

abbrev nD : Nat := 1
abbrev τ : Topo := Topo.v7x

variable {F : FTy → Type} [FloatOps F]
-- ==== Proof.Mix.lean ====
module

public import proofs.«01_k».proof.Proof.Gen.Kernel2Ideal.Skeleton
public import proofs.«01_k».proof.Proof.Gen.Kernel2Ideal.Frame
public import Idealize.ShloMosaic.Lib.Pipeline.ValueKit.Tiles
public import Idealize.ShloMosaic.Lib.Pointwise

@[expose] public section

noncomputable section

/-! The output projection of a row, in plain words, and what the kernel's body stores at a grid point. -/

namespace Cert.Mix

open Idealize.ShloMosaic
open scoped BigOperators

/-- The mean of a row, its length given as a number. -/
def mean {n : ℕ} (c : EReal) (x : Fin n → EReal) : EReal := Ideal.div (∑ k, x k) c

/-- The row length 2048. -/
def len : EReal := Scalar.ofBits (F := Ideal) .f32 0x45000000#32

/-- The row length 1024. -/
def half : EReal := Scalar.ofBits (F := Ideal) .f32 0x44800000#32

/-- The norms' epsilon. -/
def eps : EReal := Scalar.ofBits (F := Ideal) .f32 0x3727C5AC#32

/-- The residual's scale. -/
def alpha : EReal := Scalar.ofBits (F := Ideal) .f32 0x3F9837F0#32

/-- The layer norm of a row before its shift. -/
def scaled (x g : Fin 2048 → EReal) (d : Fin 2048) : EReal :=
  (x d - mean len x) * Ideal.rsqrt (mean len (fun k => (x k - mean len x) * (x k - mean len x)) + eps) * g d

/-- The layer norm of a row. -/
def layerNorm (x g b : Fin 2048 → EReal) (d : Fin 2048) : EReal := scaled x g d + b d

/-- The root-mean-square norm of a row. -/
def rmsNorm (x g : Fin 1024 → EReal) (d : Fin 1024) : EReal :=
  x d * Ideal.rsqrt (mean half (fun k => x k * x k) + eps) * g d

/-- The two half rows through the projection. -/
def proj (oa cn ga : Fin 1024 → EReal) (wo : Fin 2048 → Fin 2048 → EReal) (d : Fin 2048) : EReal :=
  (∑ k : Fin 1024, rmsNorm oa ga k * wo ⟨k.val, by omega⟩ d) + ∑ k : Fin 1024, cn k * wo ⟨1024 + k.val, by omega⟩ d

/-- The residual row: the normed input, scaled, and the projection. -/
def residual (x : Fin 2048 → EReal) (oa cn : Fin 1024 → EReal) (g0 b0 : Fin 2048 → EReal) (ga : Fin 1024 → EReal)
    (wo : Fin 2048 → Fin 2048 → EReal) (d : Fin 2048) : EReal :=
  alpha * layerNorm x g0 b0 d + proj oa cn ga wo d

/-- The row the call hands on: the layer norm of the residual. -/
def rowOut (x : Fin 2048 → EReal) (oa cn : Fin 1024 → EReal) (g0 b0 : Fin 2048 → EReal) (ga : Fin 1024 → EReal)
    (wo : Fin 2048 → Fin 2048 → EReal) (g1 b1 : Fin 2048 → EReal) : Fin 2048 → EReal :=
  layerNorm (residual x oa cn g0 b0 ga wo) g1 b1

/-- A row's queries. -/
def query (h : Fin 2048 → EReal) (wq : Fin 2048 → Fin 2048 → EReal) (j : Fin 2048) : EReal := ∑ k, h k * wq k j

/-- Score `j` of a row: sub-key `j % 128` of half `j / 128 % 2` against 128 of the row's queries. -/
def score (h : Fin 2048 → EReal) (wq : Fin 2048 → Fin 2048 → EReal) (sk : Fin 2 → Fin 128 → Fin 128 → EReal) (j : Fin 2048) : EReal :=
  ∑ e : Fin 128, sk ⟨j.val / 128 % 2, Nat.mod_lt _ (by omega)⟩ ⟨j.val % 128, Nat.mod_lt _ (by omega)⟩ e
    * query h wq ⟨j.val / 128 * 128 + e.val, by have := j.isLt; have := e.isLt; omega⟩

end Cert.Mix

namespace Cert.Mix

open Cert.Kernel2Ideal Cert.Kernel2Ideal.Gen Idealize.ShloMosaic
open scoped BigOperators

/-- The normed input, at a row and a lane. -/
theorem pay4_apply (x : Vec Ideal S1x256x2048 .f32) (g b : Vec Ideal S1x2048 .f32) (r : Fin 256) (d : Fin 2048) :
    k0_pay4 x g b (ix2 r d) = layerNorm (fun k => x (ix3 0 r k)) (fun k => g (ix2 0 k)) (fun k => b (ix2 0 k)) d := by
  pointwise [k0_pay4]
  rfl

/-- The second layer norm without its shift, at a row and a lane. -/
theorem pay8_apply (x : FVec Ideal S256x2048 .f32) (oa cn : Vec Ideal S1x256x1024 .bf16) (ga : Vec Ideal S1x1024 .f32)
    (w0 w1 : Vec Ideal S1024x2048 .bf16) (g1 : Vec Ideal S1x2048 .f32) (r : Fin 256) (d : Fin 2048) :
    k0_pay8 x (k0_pay5 oa) (k0_pay6 ga) (k0_pay7 oa) w0 cn w1 g1 (ix2 r d)
      = scaled (fun d => alpha * x (ix2 r d) + ((∑ k : Fin 1024, rmsNorm (fun k => oa (ix3 0 r k)) (fun k => ga (ix2 0 k)) k * w0 (ix2 k d))
          + ∑ k : Fin 1024, cn (ix3 0 r k) * w1 (ix2 k d))) (fun k => g1 (ix2 0 k)) d := by
  pointwise [k0_pay8, k0_pay7, k0_pay6, k0_pay5]
  rfl

/-- The row the body hands on, at a row and a lane. -/
theorem pay10_apply (x : FVec Ideal S256x2048 .f32) (b1 : Vec Ideal S1x2048 .f32) (r : Fin 256) (d : Fin 2048) :
    k0_pay10 x (k0_pay9 b1) (ix2 r d) = x (ix2 r d) + b1 (ix2 0 d) := by
  pointwise [k0_pay10, k0_pay9]

/-- The first stored block, at a row and a lane. -/
theorem pay11_apply (x y : FVec Ideal S256x2048 .f32) (r : Fin 256) (d : Fin 2048) :
    k0_pay11 x y (ix3 0 r d) = k0_pay10 x y (ix2 r d) := by
  pointwise [k0_pay11]

/-- The second stored block, at a row and a lane. -/
theorem pay13_apply (x y : FVec Ideal S256x2048 .f32) (r : Fin 256) (d : Fin 2048) :
    k0_pay13 x y (ix3 0 r d) = k0_pay10 x y (ix2 r d) := by
  pointwise [k0_pay13, k0_pay12]

/-- The queries, at a row and a lane. -/
theorem pay14_apply (x y : FVec Ideal S256x2048 .f32) (w : Vec Ideal S2048x2048 .bf16) (r : Fin 256) (j : Fin 2048) :
    k0_pay14 x y w (ix2 r j) = query (fun d => k0_pay10 x y (ix2 r d)) (fun k j => w (ix2 k j)) j := by
  pointwise [k0_pay14, k0_pay12]
  rfl

/-! ## Loads of whole blocks and of their halves -/

theorem ld_0 (X : Vec Ideal S1x256x2048 .f32) : View.ld X r0_0 = X :=
  funext fun y => View.ld_unit_apply_of _ _ _ _ _ _ fun a => by fin_cases a <;> simp

theorem ld_1 (X : Vec Ideal S1x2048 .f32) : View.ld X r0_1 = X :=
  funext fun y => View.ld_unit_apply_of _ _ _ _ _ _ fun a => by fin_cases a <;> simp

theorem ld_2 (X : Vec Ideal S1x256x1024 .bf16) : View.ld X r0_2 = X :=
  funext fun y => View.ld_unit_apply_of _ _ _ _ _ _ fun a => by fin_cases a <;> simp

theorem ld_3 (X : Vec Ideal S1x1024 .f32) : View.ld X r0_3 = X :=
  funext fun y => View.ld_unit_apply_of _ _ _ _ _ _ fun a => by fin_cases a <;> simp

theorem ld_6 (X : Vec Ideal S2048x2048 .bf16) : View.ld X r0_6 = X :=
  funext fun y => View.ld_unit_apply_of _ _ _ _ _ _ fun a => by fin_cases a <;> simp

theorem ld_4 (X : Vec Ideal S2048x2048 .bf16) (k : Fin 1024) (d : Fin 2048) :
    View.ld X r0_4 (ix2 k d) = X (ix2 ⟨k.val, by omega⟩ d) :=
  View.ld_unit_apply_of _ _ _ _ _ _ fun a => by fin_cases a <;> simp [ix2]

theorem ld_5 (X : Vec Ideal S2048x2048 .bf16) (k : Fin 1024) (d : Fin 2048) :
    View.ld X r0_5 (ix2 k d) = X (ix2 ⟨1024 + k.val, by omega⟩ d) :=
  View.ld_unit_apply_of _ _ _ _ _ _ fun a => by fin_cases a <;> simp [ix2]

/-! ## A grid point's stores -/

variable (x0 : Vec Ideal S1x256x2048 .f32) (x1 x2 : Vec Ideal S1x256x1024 .bf16) (x3 x4 : Vec Ideal S1x2048 .f32) (x5 : Vec Ideal S1x1024 .f32)
  (x6 : Vec Ideal S2048x2048 .bf16) (x7 x8 : Vec Ideal S1x2048 .f32) (x9 : Vec Ideal S2048x2048 .bf16) (x10 : Vec Ideal S2x128x128 .bf16)

/-- The row handed on, from the blocks of a grid point. -/
def blkRow (r : Fin 256) : Fin 2048 → EReal :=
  rowOut (fun k => x0 (ix3 0 r k)) (fun k => x1 (ix3 0 r k)) (fun k => x2 (ix3 0 r k)) (fun k => x3 (ix2 0 k)) (fun k => x4 (ix2 0 k))
    (fun k => x5 (ix2 0 k)) (fun k d => x6 (ix2 k d)) (fun k => x7 (ix2 0 k)) (fun k => x8 (ix2 0 k))

/-- The body's row is the row handed on. -/
theorem row_apply (r : Fin 256) (d : Fin 2048) :
    k0_pay10 (k0_pay32 x0 x1 x2 x3 x4 x5 x6 x7 x8 x9 x10) (k0_pay33 x0 x1 x2 x3 x4 x5 x6 x7 x8 x9 x10) (ix2 r d)
      = blkRow x0 x1 x2 x3 x4 x5 x6 x7 x8 r d := by
  unfold k0_pay32 k0_pay33
  rw [ld_0, ld_1, ld_1, ld_1, ld_1, ld_2, ld_2, ld_3, pay10_apply, pay8_apply]
  simp only [pay4_apply]
  refine congrArg (· + x8 (ix2 0 d)) (congrArg (fun f => scaled f _ d) (funext fun d => congrArg (alpha * layerNorm _ _ _ d + ·) ?_))
  exact congrArg₂ (· + ·) (Finset.sum_congr rfl fun k _ => congrArg (rmsNorm _ _ k * ·) (ld_4 x6 k d))
    (Finset.sum_congr rfl fun k _ => congrArg (x2 (ix3 0 r k) * ·) (ld_5 x6 k d))

/-- The first output block at a grid point. -/
theorem out11_apply (y : S1x256x2048.Idx) :
    out0_11 x0 x1 x2 x3 x4 x5 x6 x7 x8 x9 x10 y = blkRow x0 x1 x2 x3 x4 x5 x6 x7 x8 (y 1) (y 2) := by
  unfold out0_11
  refine View.canon_apply_of_pieces (Val := Elt Ideal) (fun y => (blkRow x0 x1 x2 x3 x4 x5 x6 x7 x8 (y 1) (y 2) : Elt Ideal .f32)) _ ?_ y (cover0_11 _ y)
  intro p hp x
  obtain rfl := List.mem_singleton.mp hp
  have hx : (r0_0.emb x : S1x256x2048.Idx) = x := funext fun a => Fin.ext (by exact (Rect.idx_unit_val _ _ _ _ _).trans (by fin_cases a <;> simp))
  refine Eq.trans ?_ (congrArg (fun z : S1x256x2048.Idx => blkRow x0 x1 x2 x3 x4 x5 x6 x7 x8 (z 1) (z 2)) hx).symm
  have h0 : (x 0 : ℕ) < 1 := (x 0).isLt
  have hy : x = ix3 0 (x 1) (x 2) := funext fun a => by
    fin_cases a
    · exact Fin.ext (by show (x 0 : ℕ) = 0; omega)
    · rfl
    · rfl
  refine (congrArg _ hy).trans ((pay11_apply _ _ _ _).trans (row_apply ..))

/-- The second output block at a grid point. -/
theorem out12_apply (y : S1x256x2048.Idx) :
    out0_12 x0 x1 x2 x3 x4 x5 x6 x7 x8 x9 x10 y = blkRow x0 x1 x2 x3 x4 x5 x6 x7 x8 (y 1) (y 2) := by
  unfold out0_12
  refine View.canon_apply_of_pieces (Val := Elt Ideal) (fun y => (blkRow x0 x1 x2 x3 x4 x5 x6 x7 x8 (y 1) (y 2) : Elt Ideal .bf16)) _ ?_ y (cover0_12 _ y)
  intro p hp x
  obtain rfl := List.mem_singleton.mp hp
  have hx : (r0_0.emb x : S1x256x2048.Idx) = x := funext fun a => Fin.ext (by exact (Rect.idx_unit_val _ _ _ _ _).trans (by fin_cases a <;> simp))
  refine Eq.trans ?_ (congrArg (fun z : S1x256x2048.Idx => blkRow x0 x1 x2 x3 x4 x5 x6 x7 x8 (z 1) (z 2)) hx).symm
  have h0 : (x 0 : ℕ) < 1 := (x 0).isLt
  have hy : x = ix3 0 (x 1) (x 2) := funext fun a => by
    fin_cases a
    · exact Fin.ext (by show (x 0 : ℕ) = 0; omega)
    · rfl
    · rfl
  refine (congrArg _ hy).trans ((pay13_apply _ _ _ _).trans (row_apply ..))

/-- One store of scores: the product of a half's sub-keys with 128 of the queries, at a sub-key and a row. -/
theorem scores_at (q : FVec Ideal S256x2048 .f32) (k : FVec Ideal S1x128x128 .bf16) (o : ℕ) (hs : S256x2048.Slices ![0, o] S256x128) (ho : o + 128 ≤ 2048)
    (c : Fin 128) (r : Fin 256) :
    shapeCast S1x128x256 (matmul (F := Ideal) (φ₁ := .bf16) dot_S128x128_S256x128_S128x256_1_1_0_0_n_n none
        (shapeCast S128x128 k shapeCasts_S1x128x128_S128x128)
        (truncf .bf16 (extractStridedSlice S256x128 ![0, o] q hs) bitsLt_bf16_f32) (constant (F := Ideal) S128x256 .f32 0x00000000#32))
      shapeCasts_S128x256_S1x128x256 (ix3 0 c r)
      = ∑ e : Fin 128, k (ix3 0 c e) * q (ix2 r ⟨o + e.val, by omega⟩) := by
  pointwise []

/-- The scores of a grid point, from its queries. -/
def blkScore (q : FVec Ideal S256x2048 .f32) (j : Fin 2048) (r : Fin 256) : EReal :=
  ∑ e : Fin 128, x10 (ix3 ⟨j.val / 128 % 2, Nat.mod_lt _ (by omega)⟩ ⟨j.val % 128, Nat.mod_lt _ (by omega)⟩ e)
    * q (ix2 r ⟨j.val / 128 * 128 + e.val, by have := j.isLt; have := e.isLt; omega⟩)

/-- One store of scores, at an index of the store, is the block's scores there. -/
theorem scores_store (q : FVec Ideal S256x2048 .f32) (o a : ℕ) (hs : S256x2048.Slices ![0, o] S256x128)
    (ia) (io) (ho : o + 128 ≤ 2048) (hm : o % 128 = 0) (ha : o / 128 % 2 = a) (x : S1x128x256.Idx) :
    shapeCast S1x128x256 (matmul (F := Ideal) (φ₁ := .bf16) dot_S128x128_S256x128_S128x256_1_1_0_0_n_n none
        (shapeCast S128x128 (View.ld x10 (Rect.unit (s := S2x128x128) ![a, 0, 0] S1x128x128.size ia) : FVec Ideal S1x128x128 .bf16) shapeCasts_S1x128x128_S128x128)
        (truncf .bf16 (extractStridedSlice S256x128 ![0, o] q hs) bitsLt_bf16_f32) (constant (F := Ideal) S128x256 .f32 0x00000000#32))
      shapeCasts_S128x256_S1x128x256 x
      = (fun y : S1x2048x256.Idx => (blkScore x10 q (y 1) (y 2) : Elt Ideal .f32))
        ((Rect.unit (s := S1x2048x256) ![0, o, 0] S1x128x256.size io).emb x) := by
  have h0 : (x 0 : ℕ) < 1 := (x 0).isLt
  have h1 : (x 1 : ℕ) < 128 := (x 1).isLt
  have hy : x = ix3 0 (x 1) (x 2) := funext fun a => by
    fin_cases a
    · exact Fin.ext (by show (x 0 : ℕ) = 0; omega)
    · rfl
    · rfl
  have e1 : (((Rect.unit (s := S1x2048x256) ![0, o, 0] S1x128x256.size io).emb x 1 : Fin 2048) : ℕ) = o + (x 1 : ℕ) := Rect.idx_unit_val _ _ _ _ _
  have e2 : ((Rect.unit (s := S1x2048x256) ![0, o, 0] S1x128x256.size io).emb x 2 : Fin 256) = x 2 :=
    Fin.ext ((Rect.idx_unit_val _ _ _ _ _).trans (Nat.zero_add _))
  refine (congrArg _ hy).trans ((scores_at q _ o hs ho (x 1) (x 2)).trans ?_)
  refine Finset.sum_congr rfl fun e _ => congrArg₂ (· * ·) ?_ ?_
  · refine View.ld_unit_apply_of _ _ _ _ _ _ fun b => ?_
    fin_cases b
    · show _ = a + 0
      rw [← ha]
      show (_ / 128 % 2 : ℕ) = _
      rw [e1]; omega
    · show (_ % 128 : ℕ) = 0 + (x 1 : ℕ)
      rw [e1]; omega
    · exact (Nat.zero_add _).symm
  · refine congrArg q (funext fun b => ?_)
    fin_cases b
    · exact e2.symm
    · refine Fin.ext ?_
      show o + e.val = _ / 128 * 128 + e.val
      rw [e1]; omega

/-- The third output block at a grid point. -/
theorem out13_apply (y : S1x2048x256.Idx) :
    out0_13 x0 x1 x2 x3 x4 x5 x6 x7 x8 x9 x10 y
      = score (blkRow x0 x1 x2 x3 x4 x5 x6 x7 x8 (y 2)) (fun k j => x9 (ix2 k j)) (fun a c e => x10 (ix3 a c e)) (y 1) := by
  have hq : ∀ (r : Fin 256) (j : Fin 2048), k0_pay34 x0 x1 x2 x3 x4 x5 x6 x7 x8 x9 x10 (ix2 r j)
      = query (blkRow x0 x1 x2 x3 x4 x5 x6 x7 x8 r) (fun k j => x9 (ix2 k j)) j := fun r j => by
    unfold k0_pay34
    rw [ld_6, pay14_apply]
    exact congrArg (fun h => query h _ j) (funext fun d => row_apply ..)
  refine Eq.trans (b := blkScore x10 (k0_pay34 x0 x1 x2 x3 x4 x5 x6 x7 x8 x9 x10) (y 1) (y 2)) ?_
    (Finset.sum_congr rfl fun e _ => congrArg (_ * ·) (hq _ _))
  unfold out0_13
  refine View.canon_apply_of_pieces (Val := Elt Ideal)
    (fun y => (blkScore x10 (k0_pay34 x0 x1 x2 x3 x4 x5 x6 x7 x8 x9 x10) (y 1) (y 2) : Elt Ideal .f32)) _ ?_ y
    (cover0_13 _ _ _ _ _ _ _ _ _ _ _ _ _ _ _ _ y)
  simp only [List.forall_mem_cons]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, by simp⟩
  · exact scores_store x10 _ 1920 1 _ _ _ (by omega) (by omega) (by omega) x
  · exact scores_store x10 _ 1792 0 _ _ _ (by omega) (by omega) (by omega) x
  · exact scores_store x10 _ 1664 1 _ _ _ (by omega) (by omega) (by omega) x
  · exact scores_store x10 _ 1536 0 _ _ _ (by omega) (by omega) (by omega) x
  · exact scores_store x10 _ 1408 1 _ _ _ (by omega) (by omega) (by omega) x
  · exact scores_store x10 _ 1280 0 _ _ _ (by omega) (by omega) (by omega) x
  · exact scores_store x10 _ 1152 1 _ _ _ (by omega) (by omega) (by omega) x
  · exact scores_store x10 _ 1024 0 _ _ _ (by omega) (by omega) (by omega) x
  · exact scores_store x10 _ 896 1 _ _ _ (by omega) (by omega) (by omega) x
  · exact scores_store x10 _ 768 0 _ _ _ (by omega) (by omega) (by omega) x
  · exact scores_store x10 _ 640 1 _ _ _ (by omega) (by omega) (by omega) x
  · exact scores_store x10 _ 512 0 _ _ _ (by omega) (by omega) (by omega) x
  · exact scores_store x10 _ 384 1 _ _ _ (by omega) (by omega) (by omega) x
  · exact scores_store x10 _ 256 0 _ _ _ (by omega) (by omega) (by omega) x
  · exact scores_store x10 _ 128 1 _ _ _ (by omega) (by omega) (by omega) x
  · exact scores_store x10 _ 0 0 _ _ _ (by omega) (by omega) (by omega) x

end Cert.Mix

end
-- ==== Proof.Out.lean ====
module

public import proofs.«01_k».proof.Proof.Mix
public import proofs.«01_k».proof.Proof.Gen.Kernel2Ideal.Value
public import Idealize.ShloMosaic.Lib.Pipeline.ValueKit
public import Idealize.ShloMosaic.Lib.Claim
public import Idealize.ShloMosaic.Lib.KernelVsHost

@[expose] public section

noncomputable section

/-! The output projection kernel's result arrays, from its arguments. -/

namespace Cert.Mix

open Cert.Kernel2Ideal Cert.Kernel2Ideal.Gen Idealize.ShloMosaic Idealize.ShloMosaic.TcCoe
open Idealize.ShloMosaic.Pipeline (Dat)
open scoped BigOperators

/-- The row handed on at a batch entry and a position, from the arguments. -/
def rowAt (x : Vec Ideal S2x16384x2048 .f32) (oa cn : Vec Ideal S2x16384x1024 .bf16) (g0 b0 : Vec Ideal S2048 .f32) (ga : Vec Ideal S1x1024 .f32)
    (wo : Vec Ideal S1x2048x2048 .f32) (g1 b1 : Vec Ideal S1x2048 .f32) (b : Fin 2) (i : Fin 16384) : Fin 2048 → EReal :=
  rowOut (fun k => x (ix3 b i k)) (fun k => oa (ix3 b i k)) (fun k => cn (ix3 b i k)) (fun k => g0 (ix1 k)) (fun k => b0 (ix1 k))
    (fun k => ga (ix2 0 k)) (fun k d => wo (ix3 0 k d)) (fun k => g1 (ix2 0 k)) (fun k => b1 (ix2 0 k))

/-- The scores of a row against the sub-keys, from the arguments. -/
def scoreAt (h : Fin 2048 → EReal) (wq : Vec Ideal S1x2048x2048 .f32) (sk : Vec Ideal S1x2x128x128 .f32) : Fin 2048 → EReal :=
  score h (fun k j => wq (ix3 0 k j)) (fun a c e => sk (ix4 0 a c e))

variable (m : (ℓ : Loc nD τ sig) → Buf (Elt Ideal) ℓ)

/-! ## The arguments as the kernel takes them -/

theorem ln0_g_entry_cast (X : Vec Ideal S2048 .f32) (k : Fin 2048) : (shapeCast S1x2048 X shapeCasts_S2048_S1x2048) (ix2 0 k) = X (ix1 k) := by
  pointwise []

theorem ln0_g_entry (c : Dev nD) (k : Fin 2048) :
    V m c main_v0 (ix2 0 k) = m ((c : Thread nD τ).loc main_arg3) (ix1 k) := by
  have h : V m c main_v0 = shapeCast S1x2048 (m ((c : Thread nD τ).loc main_arg3)) shapeCasts_S2048_S1x2048 := by
    dsimp only [V, hostOps0, List.flatten_cons, List.flatten_nil, List.append_nil, List.cons_append, List.nil_append]
    entry_read
    rfl
  rw [h]
  exact ln0_g_entry_cast _ k

theorem ln0_b_entry_cast (X : Vec Ideal S2048 .f32) (k : Fin 2048) : (shapeCast S1x2048 X shapeCasts_S2048_S1x2048) (ix2 0 k) = X (ix1 k) := by
  pointwise []

theorem ln0_b_entry (c : Dev nD) (k : Fin 2048) :
    V m c main_v1 (ix2 0 k) = m ((c : Thread nD τ).loc main_arg4) (ix1 k) := by
  have h : V m c main_v1 = shapeCast S1x2048 (m ((c : Thread nD τ).loc main_arg4)) shapeCasts_S2048_S1x2048 := by
    dsimp only [V, hostOps0, List.flatten_cons, List.flatten_nil, List.append_nil, List.cons_append, List.nil_append]
    entry_read
    rfl
  rw [h]
  exact ln0_b_entry_cast _ k

theorem attn_g_entry_cast (X : Vec Ideal S1x1024 .f32) (k : Fin 1024) : (shapeCast S1x1024 (shapeCast S1024 X shapeCasts_S1x1024_S1024) shapeCasts_S1024_S1x1024) (ix2 0 k) = X (ix2 0 k) := by
  pointwise []

theorem attn_g_entry (c : Dev nD) (k : Fin 1024) :
    V m c main_v3 (ix2 0 k) = m ((c : Thread nD τ).loc main_arg5) (ix2 0 k) := by
  have h : V m c main_v3 = shapeCast S1x1024 (shapeCast S1024 (m ((c : Thread nD τ).loc main_arg5)) shapeCasts_S1x1024_S1024) shapeCasts_S1024_S1x1024 := by
    dsimp only [V, hostOps0, List.flatten_cons, List.flatten_nil, List.append_nil, List.cons_append, List.nil_append]
    entry_read
    rfl
  rw [h]
  exact attn_g_entry_cast _ k

theorem wo_entry_cast (X : Vec Ideal S1x2048x2048 .f32) (k d : Fin 2048) : (truncf (F := Ideal) .bf16 (shapeCast S2048x2048 X shapeCasts_S1x2048x2048_S2048x2048) bitsLt_bf16_f32) (ix2 k d) = X (ix3 0 k d) := by
  pointwise []

theorem wo_entry (c : Dev nD) (k d : Fin 2048) :
    V m c main_v5 (ix2 k d) = m ((c : Thread nD τ).loc main_arg6) (ix3 0 k d) := by
  have h : V m c main_v5 = truncf (F := Ideal) .bf16 (shapeCast S2048x2048 (m ((c : Thread nD τ).loc main_arg6)) shapeCasts_S1x2048x2048_S2048x2048) bitsLt_bf16_f32 := by
    dsimp only [V, hostOps0, List.flatten_cons, List.flatten_nil, List.append_nil, List.cons_append, List.nil_append]
    entry_read
    rfl
  rw [h]
  exact wo_entry_cast _ k d

theorem ln1_g_entry_cast (X : Vec Ideal S1x2048 .f32) (k : Fin 2048) : (shapeCast S1x2048 (shapeCast S2048 X shapeCasts_S1x2048_S2048) shapeCasts_S2048_S1x2048) (ix2 0 k) = X (ix2 0 k) := by
  pointwise []

theorem ln1_g_entry (c : Dev nD) (k : Fin 2048) :
    V m c main_v7 (ix2 0 k) = m ((c : Thread nD τ).loc main_arg7) (ix2 0 k) := by
  have h : V m c main_v7 = shapeCast S1x2048 (shapeCast S2048 (m ((c : Thread nD τ).loc main_arg7)) shapeCasts_S1x2048_S2048) shapeCasts_S2048_S1x2048 := by
    dsimp only [V, hostOps0, List.flatten_cons, List.flatten_nil, List.append_nil, List.cons_append, List.nil_append]
    entry_read
    rfl
  rw [h]
  exact ln1_g_entry_cast _ k

theorem ln1_b_entry_cast (X : Vec Ideal S1x2048 .f32) (k : Fin 2048) : (shapeCast S1x2048 (shapeCast S2048 X shapeCasts_S1x2048_S2048) shapeCasts_S2048_S1x2048) (ix2 0 k) = X (ix2 0 k) := by
  pointwise []

theorem ln1_b_entry (c : Dev nD) (k : Fin 2048) :
    V m c main_v9 (ix2 0 k) = m ((c : Thread nD τ).loc main_arg8) (ix2 0 k) := by
  have h : V m c main_v9 = shapeCast S1x2048 (shapeCast S2048 (m ((c : Thread nD τ).loc main_arg8)) shapeCasts_S1x2048_S2048) shapeCasts_S2048_S1x2048 := by
    dsimp only [V, hostOps0, List.flatten_cons, List.flatten_nil, List.append_nil, List.cons_append, List.nil_append]
    entry_read
    rfl
  rw [h]
  exact ln1_b_entry_cast _ k

theorem wq_entry_cast (X : Vec Ideal S1x2048x2048 .f32) (k d : Fin 2048) : (truncf (F := Ideal) .bf16 (shapeCast S2048x2048 X shapeCasts_S1x2048x2048_S2048x2048) bitsLt_bf16_f32) (ix2 k d) = X (ix3 0 k d) := by
  pointwise []

theorem wq_entry (c : Dev nD) (k d : Fin 2048) :
    V m c main_v11 (ix2 k d) = m ((c : Thread nD τ).loc main_arg9) (ix3 0 k d) := by
  have h : V m c main_v11 = truncf (F := Ideal) .bf16 (shapeCast S2048x2048 (m ((c : Thread nD τ).loc main_arg9)) shapeCasts_S1x2048x2048_S2048x2048) bitsLt_bf16_f32 := by
    dsimp only [V, hostOps0, List.flatten_cons, List.flatten_nil, List.append_nil, List.cons_append, List.nil_append]
    entry_read
    rfl
  rw [h]
  exact wq_entry_cast _ k d

theorem sk_entry_cast (X : Vec Ideal S1x2x128x128 .f32) (a : Fin 2) (j e : Fin 128) : (truncf (F := Ideal) .bf16 (shapeCast S2x128x128 X shapeCasts_S1x2x128x128_S2x128x128) bitsLt_bf16_f32) (ix3 a j e) = X (ix4 0 a j e) := by
  pointwise []

theorem sk_entry (c : Dev nD) (a : Fin 2) (j e : Fin 128) :
    V m c main_v13 (ix3 a j e) = m ((c : Thread nD τ).loc main_arg10) (ix4 0 a j e) := by
  have h : V m c main_v13 = truncf (F := Ideal) .bf16 (shapeCast S2x128x128 (m ((c : Thread nD τ).loc main_arg10)) shapeCasts_S1x2x128x128_S2x128x128) bitsLt_bf16_f32 := by
    dsimp only [V, hostOps0, List.flatten_cons, List.flatten_nil, List.append_nil, List.cons_append, List.nil_append]
    entry_read
    rfl
  rw [h]
  exact sk_entry_cast _ a j e

/-! ## The blocks at coordinates -/

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![(grid0.coords t 0).val, (grid0.coords t 1).val, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0, 0] :=
  (by decide +kernel : ∀ t : Fin grid0.N, _)
theorem index11 : ∀ t : Fin cfg0.N, win0_11.index t = ![(grid0.coords t 0).val, (grid0.coords t 1).val, 0] :=
  (by decide +kernel : ∀ t : Fin grid0.N, _)
theorem index12 : ∀ t : Fin cfg0.N, win0_12.index t = ![(grid0.coords t 0).val, (grid0.coords t 1).val, 0] :=
  (by decide +kernel : ∀ t : Fin grid0.N, _)
theorem index13 : ∀ t : Fin cfg0.N, win0_13.index t = ![(grid0.coords t 0).val, 0, (grid0.coords t 1).val] :=
  (by decide +kernel : ∀ t : Fin grid0.N, _)

variable (c : Dev nD) (t : Fin cfg0.N)

theorem blk0_apply (b : Fin 2) (r : Fin 256) (k : Fin 2048) (i : Fin 16384)
    (hb : b.val = (grid0.coords t 0).val) (hi : i.val = (grid0.coords t 1).val * 256 + r.val) :
    iblk m c 0 t (ix3 0 r k) = m ((c : Thread nD τ).loc main_arg0) (ix3 b i k) := by
  blk_simp [iblk]
  rw [← V_main_arg0 m c]
  refine congrArg _ (funext fun a => Fin.ext ?_)
  blk_simp [index0]
  fin_cases a <;> simp [ix3, hb, hi]

theorem blk1_apply (b : Fin 2) (r : Fin 256) (k : Fin 1024) (i : Fin 16384)
    (hb : b.val = (grid0.coords t 0).val) (hi : i.val = (grid0.coords t 1).val * 256 + r.val) :
    iblk m c 1 t (ix3 0 r k) = m ((c : Thread nD τ).loc main_arg1) (ix3 b i k) := by
  blk_simp [iblk]
  rw [← V_main_arg1 m c]
  refine congrArg _ (funext fun a => Fin.ext ?_)
  blk_simp [index1]
  fin_cases a <;> simp [ix3, hb, hi]

theorem blk2_apply (b : Fin 2) (r : Fin 256) (k : Fin 1024) (i : Fin 16384)
    (hb : b.val = (grid0.coords t 0).val) (hi : i.val = (grid0.coords t 1).val * 256 + r.val) :
    iblk m c 2 t (ix3 0 r k) = m ((c : Thread nD τ).loc main_arg2) (ix3 b i k) := by
  blk_simp [iblk]
  rw [← V_main_arg2 m c]
  refine congrArg _ (funext fun a => Fin.ext ?_)
  blk_simp [index2]
  fin_cases a <;> simp [ix3, hb, hi]

theorem blk3_apply (k : Fin 2048) :
    iblk m c 3 t (ix2 0 k) = m ((c : Thread nD τ).loc main_arg3) (ix1 k) := by
  blk_simp [iblk]
  rw [← ln0_g_entry m c k]
  refine congrArg _ (funext fun a => Fin.ext ?_)
  blk_simp [index3]
  fin_cases a <;> simp [ix2]

theorem blk4_apply (k : Fin 2048) :
    iblk m c 4 t (ix2 0 k) = m ((c : Thread nD τ).loc main_arg4) (ix1 k) := by
  blk_simp [iblk]
  rw [← ln0_b_entry m c k]
  refine congrArg _ (funext fun a => Fin.ext ?_)
  blk_simp [index4]
  fin_cases a <;> simp [ix2]

theorem blk5_apply (k : Fin 1024) :
    iblk m c 5 t (ix2 0 k) = m ((c : Thread nD τ).loc main_arg5) (ix2 0 k) := by
  blk_simp [iblk]
  rw [← attn_g_entry m c k]
  refine congrArg _ (funext fun a => Fin.ext ?_)
  blk_simp [index5]
  fin_cases a <;> simp [ix2]

theorem blk6_apply (k d : Fin 2048) :
    iblk m c 6 t (ix2 k d) = m ((c : Thread nD τ).loc main_arg6) (ix3 0 k d) := by
  blk_simp [iblk]
  rw [← wo_entry m c k d]
  refine congrArg _ (funext fun a => Fin.ext ?_)
  blk_simp [index6]
  fin_cases a <;> simp [ix2]

theorem blk7_apply (k : Fin 2048) :
    iblk m c 7 t (ix2 0 k) = m ((c : Thread nD τ).loc main_arg7) (ix2 0 k) := by
  blk_simp [iblk]
  rw [← ln1_g_entry m c k]
  refine congrArg _ (funext fun a => Fin.ext ?_)
  blk_simp [index7]
  fin_cases a <;> simp [ix2]

theorem blk8_apply (k : Fin 2048) :
    iblk m c 8 t (ix2 0 k) = m ((c : Thread nD τ).loc main_arg8) (ix2 0 k) := by
  blk_simp [iblk]
  rw [← ln1_b_entry m c k]
  refine congrArg _ (funext fun a => Fin.ext ?_)
  blk_simp [index8]
  fin_cases a <;> simp [ix2]

theorem blk9_apply (k d : Fin 2048) :
    iblk m c 9 t (ix2 k d) = m ((c : Thread nD τ).loc main_arg9) (ix3 0 k d) := by
  blk_simp [iblk]
  rw [← wq_entry m c k d]
  refine congrArg _ (funext fun a => Fin.ext ?_)
  blk_simp [index9]
  fin_cases a <;> simp [ix2]

theorem blk10_apply (a : Fin 2) (j e : Fin 128) :
    iblk m c 10 t (ix3 a j e) = m ((c : Thread nD τ).loc main_arg10) (ix4 0 a j e) := by
  blk_simp [iblk]
  rw [← sk_entry m c a j e]
  refine congrArg _ (funext fun a => Fin.ext ?_)
  blk_simp [index10]
  fin_cases a <;> simp [ix3]

/-- At a grid point the row handed on is that of the arguments. -/
theorem blkRow_eq (b : Fin 2) (r : Fin 256) (i : Fin 16384) (hb : b.val = (grid0.coords t 0).val)
    (hi : i.val = (grid0.coords t 1).val * 256 + r.val) :
    blkRow (iblk m c 0 t) (iblk m c 1 t) (iblk m c 2 t) (iblk m c 3 t) (iblk m c 4 t) (iblk m c 5 t) (iblk m c 6 t) (iblk m c 7 t) (iblk m c 8 t) r
      = rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i := by
  have e0 : (fun k => iblk m c 0 t (ix3 0 r k)) = _ := funext fun k => blk0_apply m c t b r k i hb hi
  have e1 : (fun k => iblk m c 1 t (ix3 0 r k)) = _ := funext fun k => blk1_apply m c t b r k i hb hi
  have e2 : (fun k => iblk m c 2 t (ix3 0 r k)) = _ := funext fun k => blk2_apply m c t b r k i hb hi
  have e3 : (fun k => iblk m c 3 t (ix2 0 k)) = _ := funext fun k => blk3_apply m c t k
  have e4 : (fun k => iblk m c 4 t (ix2 0 k)) = _ := funext fun k => blk4_apply m c t k
  have e5 : (fun k => iblk m c 5 t (ix2 0 k)) = _ := funext fun k => blk5_apply m c t k
  have e6 : (fun k d => iblk m c 6 t (ix2 k d)) = _ := funext fun k => funext fun d => blk6_apply m c t k d
  have e7 : (fun k => iblk m c 7 t (ix2 0 k)) = _ := funext fun k => blk7_apply m c t k
  have e8 : (fun k => iblk m c 8 t (ix2 0 k)) = _ := funext fun k => blk8_apply m c t k
  unfold blkRow rowAt
  refine (congr (congr (congr (congr (congr (congr (congr (congr (congrArg rowOut e0) e1) e2) e3) e4) e5) e6) e7) e8)

/-- At a grid point the scores are those of the arguments. -/
theorem score_blk (h : Fin 2048 → EReal) :
    score h (fun k j => iblk m c 9 t (ix2 k j)) (fun a j e => iblk m c 10 t (ix3 a j e)) = scoreAt h (m ((c : Thread nD τ).loc main_arg9)) (m ((c : Thread nD τ).loc main_arg10)) := by
  have e9 : (fun k j => iblk m c 9 t (ix2 k j)) = _ := funext fun k => funext fun j => blk9_apply m c t k j
  have e10 : (fun a j e => iblk m c 10 t (ix3 a j e)) = _ := funext fun a => funext fun j => funext fun e => blk10_apply m c t a j e
  exact congr (congrArg (score h) e9) e10

end Cert.Mix

end
-- ==== Proof.OutArr.lean ====
module

public import proofs.«01_k».proof.Proof.Out

@[expose] public section

noncomputable section

/-! The output projection kernel's result arrays. -/

namespace Cert.Mix

open Cert.Kernel2Ideal Cert.Kernel2Ideal.Gen Idealize.ShloMosaic Idealize.ShloMosaic.TcCoe
open Idealize.ShloMosaic.Pipeline (Dat)
open scoped BigOperators

variable (m : (ℓ : Loc nD τ sig) → Buf (Elt Ideal) ℓ) (c : Dev nD)

/-- What a grid point leaves in the first output block. -/
theorem after11_apply (t : Fin cfg0.N) (y : S1x256x2048.Idx) (b : Fin 2) (i : Fin 16384) (d : Fin 2048)
    (hb : b.val = (grid0.coords t 0).val + (y 0 : ℕ)) (hi : i.val = (grid0.coords t 1).val * 256 + (y 1 : ℕ)) (hd : d.val = (y 2 : ℕ)) :
    (dats m 0 c).after 11 t y = rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i d := by
  have hy0 : (y 0 : ℕ) < 1 := (y 0).isLt
  rw [after0_11]
  refine (out11_apply _ _ _ _ _ _ _ _ _ _ _ y).trans ?_
  rw [blkRow_eq m c t b (y 1) i (by omega) hi]
  exact congrArg _ (Fin.ext hd.symm)

/-- The kernel's first result array: the rows handed on. -/
theorem final11 : (dats m 0 c).arrAt 11 cfg0.N = fun y : S2x16384x2048.Idx =>
    rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 1) (y 2) := by
  refine (dats m 0 c).arrAt_eq_of_covers 11 _ (by decide +kernel) fun t hf y => ?_
  have e0 : ((win0_11.blk t).view.emb y 0 : ℕ) = (grid0.coords t 0).val + (y 0 : ℕ) := by blk_simp [index11]
  have e1 : ((win0_11.blk t).view.emb y 1 : ℕ) = (grid0.coords t 1).val * 256 + (y 1 : ℕ) := by blk_simp [index11]
  have e2 : ((win0_11.blk t).view.emb y 2 : ℕ) = (y 2 : ℕ) := by blk_simp [index11]
  blk_simp
  exact after11_apply m c t y _ _ _ e0 e1 e2

/-- What a grid point leaves in the second output block. -/
theorem after12_apply (t : Fin cfg0.N) (y : S1x256x2048.Idx) (b : Fin 2) (i : Fin 16384) (d : Fin 2048)
    (hb : b.val = (grid0.coords t 0).val + (y 0 : ℕ)) (hi : i.val = (grid0.coords t 1).val * 256 + (y 1 : ℕ)) (hd : d.val = (y 2 : ℕ)) :
    (dats m 0 c).after 12 t y = rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i d := by
  have hy0 : (y 0 : ℕ) < 1 := (y 0).isLt
  rw [after0_12]
  refine (out12_apply _ _ _ _ _ _ _ _ _ _ _ y).trans ?_
  rw [blkRow_eq m c t b (y 1) i (by omega) hi]
  exact congrArg _ (Fin.ext hd.symm)

/-- The kernel's second result array: the rows handed on. -/
theorem final12 : (dats m 0 c).arrAt 12 cfg0.N = fun y : S2x16384x2048.Idx =>
    rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 1) (y 2) := by
  refine (dats m 0 c).arrAt_eq_of_covers 12 _ (by decide +kernel) fun t hf y => ?_
  have e0 : ((win0_12.blk t).view.emb y 0 : ℕ) = (grid0.coords t 0).val + (y 0 : ℕ) := by blk_simp [index12]
  have e1 : ((win0_12.blk t).view.emb y 1 : ℕ) = (grid0.coords t 1).val * 256 + (y 1 : ℕ) := by blk_simp [index12]
  have e2 : ((win0_12.blk t).view.emb y 2 : ℕ) = (y 2 : ℕ) := by blk_simp [index12]
  blk_simp
  exact after12_apply m c t y _ _ _ e0 e1 e2

/-- What a grid point leaves in the third output block. -/
theorem after13_apply (t : Fin cfg0.N) (y : S1x2048x256.Idx) (b : Fin 2) (j : Fin 2048) (i : Fin 16384)
    (hb : b.val = (grid0.coords t 0).val + (y 0 : ℕ)) (hj : j.val = (y 1 : ℕ)) (hi : i.val = (grid0.coords t 1).val * 256 + (y 2 : ℕ)) :
    (dats m 0 c).after 13 t y = scoreAt (rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i) (m ((c : Thread nD τ).loc main_arg9)) (m ((c : Thread nD τ).loc main_arg10)) j := by
  have hy0 : (y 0 : ℕ) < 1 := (y 0).isLt
  rw [after0_13]
  refine (out13_apply _ _ _ _ _ _ _ _ _ _ _ y).trans ?_
  rw [blkRow_eq m c t b (y 2) i (by omega) hi, score_blk]
  exact congrArg _ (Fin.ext hj.symm)

/-- The kernel's third result array: the scores of the rows handed on. -/
theorem final13 : (dats m 0 c).arrAt 13 cfg0.N = fun y : S2x2048x16384.Idx =>
    scoreAt (rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 2)) (m ((c : Thread nD τ).loc main_arg9)) (m ((c : Thread nD τ).loc main_arg10)) (y 1) := by
  refine (dats m 0 c).arrAt_eq_of_covers 13 _ (by decide +kernel) fun t hf y => ?_
  have e0 : ((win0_13.blk t).view.emb y 0 : ℕ) = (grid0.coords t 0).val + (y 0 : ℕ) := by blk_simp [index13]
  have e1 : ((win0_13.blk t).view.emb y 1 : ℕ) = (y 1 : ℕ) := by blk_simp [index13]
  have e2 : ((win0_13.blk t).view.emb y 2 : ℕ) = (grid0.coords t 1).val * 256 + (y 2 : ℕ) := by blk_simp [index13]
  blk_simp
  exact after13_apply m c t y _ _ _ e0 e1 e2

end Cert.Mix

end
-- ==== Proof.OutRef.lean ====
module

public import proofs.«01_k».proof.Proof.Out
public import proofs.«01_k».proof.Proof.Gen.Reference2Ideal.Run
public import proofs.«01_k».proof.Proof.Gen.Reference2Ideal.Read
public import Idealize.ShloMosaic.Lib.Pointwise

@[expose] public section

noncomputable section

/-! The output projection reference's result arrays, from its arguments. -/

namespace Cert.Mix.Ref

open Cert.Reference2Ideal Cert.Reference2Ideal.Gen Cert.Reference2Ideal.Read Idealize.ShloMosaic Idealize.ShloMosaic.TcCoe
open scoped BigOperators

variable (x : Vec Ideal S2x16384x2048 .f32) (oa cn : Vec Ideal S2x16384x1024 .bf16) (g0 b0 : Vec Ideal S2048 .f32) (ga : Vec Ideal S1x1024 .f32)
    (wo : Vec Ideal S1x2048x2048 .f32) (g1 b1 : Vec Ideal S1x2048 .f32) (wq : Vec Ideal S1x2048x2048 .f32) (sk : Vec Ideal S1x2x128x128 .f32)
    (b : Fin 2) (i : Fin 16384)

/-- The reference's normed input. -/
theorem norm_eq (d : Fin 2048) :
    val_main_v42 (F := Ideal) x g0 b0 (ix3 b i d) = layerNorm (fun k => x (ix3 b i k)) (fun k => g0 (ix1 k)) (fun k => b0 (ix1 k)) d := by
  pointwise [val_main_v42, val_main_v41, val_main_v40, val_main_v39, val_main_v38, val_main_v37, val_main_v36, val_main_v35, val_main_v34,
    val_main_v33, val_main_v32, val_main_cst_6, val_main_v31, val_main_v30, val_main_v29, val_main_v28, val_main_cst_5, val_main_v27, val_main_v26,
    val_main_cst_4, val_main_v25, val_main_v24, val_main_v23, val_main_v22, val_main_v21, val_main_cst_3, val_main_v20, val_main_v19, val_main_cst_2]
  unfold layerNorm scaled mean
  rfl

/-- The reference's normed attention output. -/
theorem rms_eq (d : Fin 1024) :
    val_main_v14 (F := Ideal) oa ga (ix3 b i d) = rmsNorm (fun k => oa (ix3 b i k)) (fun k => ga (ix2 0 k)) d := by
  pointwise [val_main_v14, val_main_v13, val_main_v12, val_main_v11, val_main_v10, val_main_v9, val_main_v8, val_main_v7, val_main_cst_1, val_main_v6,
    val_main_v5, val_main_cst_0, val_main_v4, val_main_v3, val_main_cst, val_main_v2, val_main_v1, val_main_v0]
  unfold rmsNorm mean
  rfl

/-- The reference's two half rows side by side. -/
theorem cat_eq (k : Fin 2048) :
    val_main_v16 (F := Ideal) oa cn ga (ix3 b i k)
      = if h : k.val < 1024 then rmsNorm (fun k => oa (ix3 b i k)) (fun k => ga (ix2 0 k)) ⟨k.val, h⟩
        else cn (ix3 b i ⟨k.val - 1024, by omega⟩) := by
  pointwise [val_main_v16, val_main_v15]
  split_ifs with h
  · exact rms_eq oa ga b i _
  all_goals rfl

/-- The reference's projection. -/
theorem proj_eq (d : Fin 2048) :
    val_main_v18 (F := Ideal) oa cn ga wo (ix3 b i d)
      = proj (fun k => oa (ix3 b i k)) (fun k => cn (ix3 b i k)) (fun k => ga (ix2 0 k)) (fun k d => wo (ix3 0 k d)) d := by
  have h : val_main_v18 (F := Ideal) oa cn ga wo (ix3 b i d)
      = ∑ k : Fin 2048, val_main_v16 (F := Ideal) oa cn ga (ix3 b i k) * wo (ix3 0 k d) := by
    pointwise [val_main_v18, val_main_v17]
  rw [h]
  refine (Fin.sum_univ_add (a := 1024) (b := 1024) fun k : Fin (1024 + 1024) =>
    (val_main_v16 (F := Ideal) oa cn ga (ix3 b i k) * wo (ix3 0 k d) : EReal)).trans ?_
  refine congrArg₂ (· + ·) (Finset.sum_congr rfl fun k _ => congrArg₂ (· * ·) ?_ rfl) (Finset.sum_congr rfl fun k _ => congrArg₂ (· * ·) ?_ rfl)
  · refine (cat_eq oa cn ga b i _).trans ?_
    rw [dif_pos (show (Fin.castAdd 1024 k : Fin (1024 + 1024)).val < 1024 from k.isLt)]
    rfl
  · refine (cat_eq oa cn ga b i _).trans ?_
    rw [dif_neg (show ¬ (Fin.natAdd 1024 k : Fin (1024 + 1024)).val < 1024 by rw [Fin.val_natAdd]; omega)]
    exact congrArg (fun k => cn (ix3 b i k)) (Fin.ext (by show 1024 + k.val - 1024 = k.val; omega))

/-- The reference's residual. -/
theorem residual_eq (d : Fin 2048) :
    val_main_v45 (F := Ideal) x oa cn g0 b0 ga wo (ix3 b i d)
      = residual (fun k => x (ix3 b i k)) (fun k => oa (ix3 b i k)) (fun k => cn (ix3 b i k)) (fun k => g0 (ix1 k)) (fun k => b0 (ix1 k))
          (fun k => ga (ix2 0 k)) (fun k d => wo (ix3 0 k d)) d := by
  have h : val_main_v45 (F := Ideal) x oa cn g0 b0 ga wo (ix3 b i d)
      = alpha * val_main_v42 (F := Ideal) x g0 b0 (ix3 b i d) + val_main_v18 (F := Ideal) oa cn ga wo (ix3 b i d) := by
    pointwise [val_main_v45, val_main_v44, val_main_v43, val_main_cst_7]
    rfl
  rw [h, norm_eq, proj_eq]
  rfl

/-- The reference's first result. -/
theorem row_eq (d : Fin 2048) :
    val_main_v71 (F := Ideal) x oa cn g0 b0 ga wo g1 b1 (ix3 b i d) = rowAt x oa cn g0 b0 ga wo g1 b1 b i d := by
  have h : val_main_v71 (F := Ideal) x oa cn g0 b0 ga wo g1 b1 (ix3 b i d)
      = layerNorm (fun k => val_main_v45 (F := Ideal) x oa cn g0 b0 ga wo (ix3 b i k)) (fun k => g1 (ix2 0 k)) (fun k => b1 (ix2 0 k)) d := by
    pointwise [val_main_v71, val_main_v70, val_main_v69, val_main_v68, val_main_v67, val_main_v66, val_main_v65, val_main_v64, val_main_v63,
      val_main_v62, val_main_v61, val_main_cst_12, val_main_v60, val_main_v59, val_main_v58, val_main_v57, val_main_cst_11, val_main_v56,
      val_main_v55, val_main_cst_10, val_main_v54, val_main_v53, val_main_v52, val_main_v51, val_main_v50, val_main_cst_9, val_main_v49,
      val_main_v48, val_main_cst_8, val_main_v47, val_main_v46]
    unfold layerNorm scaled mean
    rfl
  rw [h]
  exact congrArg (fun f => layerNorm f _ _ d) (funext fun k => residual_eq x oa cn g0 b0 ga wo b i k)

/-- The reference's second result. -/
theorem row_half_eq (d : Fin 2048) :
    val_main_v78 (F := Ideal) x oa cn g0 b0 ga wo g1 b1 (ix3 b i d) = rowAt x oa cn g0 b0 ga wo g1 b1 b i d := by
  refine Eq.trans ?_ (row_eq x oa cn g0 b0 ga wo g1 b1 b i d)
  pointwise [val_main_v78]

/-- The reference's queries. -/
theorem query_eq (j : Fin 2048) :
    val_main_v73 (F := Ideal) x oa cn g0 b0 ga wo g1 b1 wq (ix3 b i j)
      = query (rowAt x oa cn g0 b0 ga wo g1 b1 b i) (fun k j => wq (ix3 0 k j)) j := by
  have h : val_main_v73 (F := Ideal) x oa cn g0 b0 ga wo g1 b1 wq (ix3 b i j)
      = ∑ k : Fin 2048, val_main_v71 (F := Ideal) x oa cn g0 b0 ga wo g1 b1 (ix3 b i k) * wq (ix3 0 k j) := by
    pointwise [val_main_v73, val_main_v72]
  rw [h]
  exact Finset.sum_congr rfl fun k _ => congrArg (· * wq (ix3 0 k j)) (row_eq x oa cn g0 b0 ga wo g1 b1 b i k)

/-- The reference's third result. -/
theorem score_eq (j : Fin 2048) :
    val_main_v80 (F := Ideal) x oa cn g0 b0 ga wo g1 b1 wq sk (ix3 b j i)
      = scoreAt (rowAt x oa cn g0 b0 ga wo g1 b1 b i) wq sk j := by
  pointwise [val_main_v80, val_main_v79, val_main_v77, val_main_v76, val_main_v75, val_main_v74]
  unfold scoreAt score
  refine Finset.sum_congr rfl fun e _ => congrArg (sk _ * ·) ?_
  refine Eq.trans ?_ (query_eq x oa cn g0 b0 ga wo g1 b1 wq b i _)
  refine congrArg (fun k => val_main_v73 (F := Ideal) x oa cn g0 b0 ga wo g1 b1 wq (ix3 b i k)) (Fin.ext ?_)
  show j.val / 256 * 256 + j.val / 128 % 2 * 128 + e.val = j.val / 128 * 128 + e.val
  omega

end Cert.Mix.Ref

end
-- ==== Proof.OutEnd.lean ====
module

public import proofs.«01_k».proof.Defs
public import proofs.«01_k».proof.Proof.OutArr
public import proofs.«01_k».proof.Proof.OutRef

@[expose] public section

noncomputable section

/-! The output projection: the kernel's and the reference's results are the same functions of the arguments. -/

namespace Cert.Mix

open Idealize.ShloMosaic Idealize.SL.Sem

/-- Every index of a three-axis array is a triple. -/
theorem exists_ix3 {n0 n1 n2 : ℕ} (y : (⟨3, ![n0, n1, n2]⟩ : Shape).Idx) : ∃ a b c, y = ix3 a b c :=
  ⟨y 0, y 1, y 2, by funext a; fin_cases a <;> rfl⟩

variable (m : (ℓ : Loc Cert.Reference2Ideal.nD Cert.Reference2Ideal.τ Cert.Reference2Ideal.sig) → Buf (Elt Ideal) ℓ) (c : Dev Cert.Reference2Ideal.nD)

/-- The reference's first result array. -/
theorem reference_row : Cert.Reference2Ideal.Value.res_main_v71 m c = fun y : Cert.Reference2Ideal.S2x16384x2048.Idx =>
    rowAt (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (y 0) (y 1) (y 2) := by
  rw [Cert.Reference2Ideal.Read.val_main_v71_eq]
  funext y
  obtain ⟨b, i, d, rfl⟩ := exists_ix3 y
  exact Ref.row_eq _ _ _ _ _ _ _ _ _ b i d

/-- The reference's second result array. -/
theorem reference_row_half : Cert.Reference2Ideal.Value.res_main_v78 m c = fun y : Cert.Reference2Ideal.S2x16384x2048.Idx =>
    rowAt (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (y 0) (y 1) (y 2) := by
  rw [Cert.Reference2Ideal.Read.val_main_v78_eq]
  funext y
  obtain ⟨b, i, d, rfl⟩ := exists_ix3 y
  exact Ref.row_half_eq _ _ _ _ _ _ _ _ _ b i d

/-- The reference's third result array. -/
theorem reference_score : Cert.Reference2Ideal.Value.res_main_v80 m c = fun y : Cert.Reference2Ideal.S2x2048x16384.Idx =>
    scoreAt (rowAt (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (y 0) (y 2)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (y 1) := by
  rw [Cert.Reference2Ideal.Read.val_main_v80_eq]
  funext y
  obtain ⟨b, j, i, rfl⟩ := exists_ix3 y
  exact Ref.score_eq _ _ _ _ _ _ _ _ _ _ _ b i j

/-- The reference runs, leaves its arguments unchanged and ends with every counter at zero. -/
theorem reference_frame : Cert.quiescent_Reference2Ideal := fun m ρ _ =>
  (θ_run Cert.Reference2Ideal.defs _ _).mono (fun r h => And.intro (fun c => (h c).2.2.2) (sem_eq_zero_of_no_sems (by decide) r.2))
    (Cert.Reference2Ideal.Value.run m ρ)

/-- The kernel's and the reference's three results are the same. -/
theorem algebraic : Cert.algebraic_Kernel2Ideal_Reference2Ideal := by
  intro m g m' g' _ hargs
  refine ⟨fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N, Cert.Kernel2Ideal.Value.run_blocks m g, ?_⟩
  refine (θ_run Cert.Reference2Ideal.defs _ _).mono (fun r h c => ⟨(h c).1.trans ?_, (h c).2.1.trans ?_, (h c).2.2.1.trans ?_, (h c).2.2.2⟩) (Cert.Reference2Ideal.Value.run m' g')
  all_goals obtain ⟨h0, h1, h2, h3, h4, h5, h6, h7, h8, h9, h10⟩ := hargs c
  · rw [reference_row, h0, h1, h2, h3, h4, h5, h6, h7, h8]
    exact (final11 m c).symm
  · rw [reference_row_half, h0, h1, h2, h3, h4, h5, h6, h7, h8]
    exact (final12 m c).symm
  · rw [reference_score, h0, h1, h2, h3, h4, h5, h6, h7, h8, h9, h10]
    exact (final13 m c).symm

end Cert.Mix

end
-- ==== Proof.InpRunI.lean ====
module

public import proofs.«01_k».proof.Proof.Gen.Kernel3Ideal.Frame.RunA

@[expose] public section

set_option maxRecDepth 16384

noncomputable section

/-! The body of the ideal kernel of the input projection at a grid point that is not the first of its batch row. -/

namespace Cert.InpI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at a point that is not the first of its batch row: for each output block and for the carried
    scratch the list of stored pieces, last first, with the proof that the body, given its input blocks and the scratch
    that the point before left, ends with exactly these pieces stored and its inputs as they were. -/
noncomputable def kernelRun0_B (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4224 .bf16) (harg8 : arg8.IsWhole) (arg9 : Memref sig .tc .vmem S1x384 .f32) (harg9 : arg9.IsWhole) (arg10 : Memref sig .tc .vmem S1x512 .f32) (harg10 : arg10.IsWhole) (arg11 : Memref sig .tc .vmem S384x2048 .bf16) (harg11 : arg11.IsWhole) (arg12 : Memref sig .tc .vmem S384x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1x8x512x256 .bf16) (harg17 : arg17.IsWhole) (arg18 : Memref sig .tc .vmem S1x8x512x256 .bf16) (harg18 : arg18.IsWhole) (arg19 : Memref sig .tc .vmem S1x8x512x128 .bf16) (harg19 : arg19.IsWhole) (arg20 : Memref sig .tc .vmem S1x512x1024 .bf16) (harg20 : arg20.IsWhole) (arg21 : Memref sig .tc .vmem S1x8x1024 .f32) (harg21 : arg21.IsWhole) (arg22 : Memref sig .tc .vmem S520x1024 .f32) (harg22 : arg22.IsWhole) (hc0 : ¬cond0_0 i)
    (x0 : Vec F S1x512x2048 .f32) (x1 : Vec F S512x128 .f32) (x2 : Vec F S512x128 .f32) (x3 : Vec F S8x1024 .f32) (x4 : Vec F S1x2048 .f32) (x5 : Vec F S1x2048 .f32) (x6 : Vec F S2048x4224 .bf16) (x7 : Vec F S1x384 .f32) (x8 : Vec F S1x512 .f32) (x9 : Vec F S384x2048 .bf16) (x10 : Vec F S384x1024 .bf16) (x11 : Vec F S512x1024 .bf16) (x12 : Vec F S512x1024 .bf16) (x13 : Vec F S3x1024 .f32) (x14 : Vec F S1x1024 .f32) (xs0 : Vec F S520x1024 .f32) :
    Σ' (L15 : List (View.Piece (Elt F) S1x8x512x256 .bf16)), Σ' (L16 : List (View.Piece (Elt F) S1x8x512x256 .bf16)), Σ' (L17 : List (View.Piece (Elt F) S1x8x512x128 .bf16)), Σ' (L18 : List (View.Piece (Elt F) S1x512x1024 .bf16)), Σ' (L19 : List (View.Piece (Elt F) S1x8x1024 .f32)), { LS0 : List (View.Piece (Elt F) S520x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg22.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact HS0

end Cert.InpI

end
-- ==== Proof.InpFrameI.lean ====
module

public import proofs.«01_k».proof.Proof.InpRunI
public import Idealize.ShloMosaic.Lib.Claim

@[expose] public section

set_option maxRecDepth 16384

noncomputable section

/-! The frame of the ideal kernel of the input projection, whose last rows are carried from tile to tile. -/

namespace Cert.InpI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section First

variable (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4224 .bf16) (harg8 : arg8.IsWhole) (arg9 : Memref sig .tc .vmem S1x384 .f32) (harg9 : arg9.IsWhole) (arg10 : Memref sig .tc .vmem S1x512 .f32) (harg10 : arg10.IsWhole) (arg11 : Memref sig .tc .vmem S384x2048 .bf16) (harg11 : arg11.IsWhole) (arg12 : Memref sig .tc .vmem S384x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1x8x512x256 .bf16) (harg17 : arg17.IsWhole) (arg18 : Memref sig .tc .vmem S1x8x512x256 .bf16) (harg18 : arg18.IsWhole) (arg19 : Memref sig .tc .vmem S1x8x512x128 .bf16) (harg19 : arg19.IsWhole) (arg20 : Memref sig .tc .vmem S1x512x1024 .bf16) (harg20 : arg20.IsWhole) (arg21 : Memref sig .tc .vmem S1x8x1024 .f32) (harg21 : arg21.IsWhole) (arg22 : Memref sig .tc .vmem S520x1024 .f32) (harg22 : arg22.IsWhole) (hc0 : cond0_0 i)
    (x0 : Vec F S1x512x2048 .f32) (x1 : Vec F S512x128 .f32) (x2 : Vec F S512x128 .f32) (x3 : Vec F S8x1024 .f32) (x4 : Vec F S1x2048 .f32) (x5 : Vec F S1x2048 .f32) (x6 : Vec F S2048x4224 .bf16) (x7 : Vec F S1x384 .f32) (x8 : Vec F S1x512 .f32) (x9 : Vec F S384x2048 .bf16) (x10 : Vec F S384x1024 .bf16) (x11 : Vec F S512x1024 .bf16) (x12 : Vec F S512x1024 .bf16) (x13 : Vec F S3x1024 .f32) (x14 : Vec F S1x1024 .f32)

/-- The pieces stored at a first point into output 15 fill its block. -/
theorem cover0_A_15 (y : S1x8x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).1 S1x1x512x128.size (by sl_kernel_rfl) y

/-- What the body leaves at a first point in output 15's block. -/
def out0_A_15 : Vec F S1x8x512x256 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).1)

/-- The pieces stored at a first point into output 16 fill its block. -/
theorem cover0_A_16 (y : S1x8x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.1 S1x1x512x128.size (by sl_kernel_rfl) y

/-- What the body leaves at a first point in output 16's block. -/
def out0_A_16 : Vec F S1x8x512x256 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.1)

/-- The pieces stored at a first point into output 17 fill its block. -/
theorem cover0_A_17 (y : S1x8x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.1 S1x1x512x128.size (by sl_kernel_rfl) y

/-- What the body leaves at a first point in output 17's block. -/
def out0_A_17 : Vec F S1x8x512x128 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.1)

/-- The pieces stored at a first point into output 18 fill its block. -/
theorem cover0_A_18 (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.1 S1x512x1024.size (by sl_kernel_rfl) y

/-- What the body leaves at a first point in output 18's block. -/
def out0_A_18 : Vec F S1x512x1024 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.1)

/-- The pieces stored at a first point into output 19 fill its block. -/
theorem cover0_A_19 (y : S1x8x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.2.1 S1x8x1024.size (by sl_kernel_rfl) y

/-- What the body leaves at a first point in output 19's block. -/
def out0_A_19 : Vec F S1x8x1024 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.2.1)

/-- The pieces stored at a first point into the carried scratch fill it. -/
theorem scover0_A_0 (y : S520x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.2.2.1 ![8, 1024] (by sl_kernel_rfl) y

/-- What the body leaves at a first point in the carried scratch. -/
def sout0_A_0 : Vec F S520x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14).2.2.2.2.2.1)

end First

section Later

variable (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4224 .bf16) (harg8 : arg8.IsWhole) (arg9 : Memref sig .tc .vmem S1x384 .f32) (harg9 : arg9.IsWhole) (arg10 : Memref sig .tc .vmem S1x512 .f32) (harg10 : arg10.IsWhole) (arg11 : Memref sig .tc .vmem S384x2048 .bf16) (harg11 : arg11.IsWhole) (arg12 : Memref sig .tc .vmem S384x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1x8x512x256 .bf16) (harg17 : arg17.IsWhole) (arg18 : Memref sig .tc .vmem S1x8x512x256 .bf16) (harg18 : arg18.IsWhole) (arg19 : Memref sig .tc .vmem S1x8x512x128 .bf16) (harg19 : arg19.IsWhole) (arg20 : Memref sig .tc .vmem S1x512x1024 .bf16) (harg20 : arg20.IsWhole) (arg21 : Memref sig .tc .vmem S1x8x1024 .f32) (harg21 : arg21.IsWhole) (arg22 : Memref sig .tc .vmem S520x1024 .f32) (harg22 : arg22.IsWhole) (hc0 : ¬cond0_0 i)
    (x0 : Vec F S1x512x2048 .f32) (x1 : Vec F S512x128 .f32) (x2 : Vec F S512x128 .f32) (x3 : Vec F S8x1024 .f32) (x4 : Vec F S1x2048 .f32) (x5 : Vec F S1x2048 .f32) (x6 : Vec F S2048x4224 .bf16) (x7 : Vec F S1x384 .f32) (x8 : Vec F S1x512 .f32) (x9 : Vec F S384x2048 .bf16) (x10 : Vec F S384x1024 .bf16) (x11 : Vec F S512x1024 .bf16) (x12 : Vec F S512x1024 .bf16) (x13 : Vec F S3x1024 .f32) (x14 : Vec F S1x1024 .f32) (xs0 : Vec F S520x1024 .f32)

/-- The pieces stored at a later point into output 15 fill its block. -/
theorem cover0_B_15 (y : S1x8x512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).1 S1x1x512x128.size (by sl_kernel_rfl) y

/-- What the body leaves at a later point in output 15's block. -/
def out0_B_15 : Vec F S1x8x512x256 .bf16 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).1)

/-- The pieces stored at a later point into output 16 fill its block. -/
theorem cover0_B_16 (y : S1x8x512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.1 S1x1x512x128.size (by sl_kernel_rfl) y

/-- What the body leaves at a later point in output 16's block. -/
def out0_B_16 : Vec F S1x8x512x256 .bf16 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.1)

/-- The pieces stored at a later point into output 17 fill its block. -/
theorem cover0_B_17 (y : S1x8x512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.1 S1x1x512x128.size (by sl_kernel_rfl) y

/-- What the body leaves at a later point in output 17's block. -/
def out0_B_17 : Vec F S1x8x512x128 .bf16 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.1)

/-- The pieces stored at a later point into output 18 fill its block. -/
theorem cover0_B_18 (y : S1x512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.1 S1x512x1024.size (by sl_kernel_rfl) y

/-- What the body leaves at a later point in output 18's block. -/
def out0_B_18 : Vec F S1x512x1024 .bf16 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.1)

/-- The pieces stored at a later point into output 19 fill its block. -/
theorem cover0_B_19 (y : S1x8x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.2.1 S1x8x1024.size (by sl_kernel_rfl) y

/-- What the body leaves at a later point in output 19's block. -/
def out0_B_19 : Vec F S1x8x1024 .f32 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.2.1)

/-- The pieces stored at a later point into the carried scratch fill it. -/
theorem scover0_B_0 (y : S520x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.2.2.1 ![8, 1024] (by sl_kernel_rfl) y

/-- What the body leaves at a later point in the carried scratch. -/
def sout0_B_0 : Vec F S520x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0).2.2.2.2.2.1)

end Later

variable (m : (ℓ : Loc nD τ sig) → Buf (Elt F) ℓ) (ρ : Dev nD → PrngReg)

/-! ## What the outputs hold after each point -/

/-- What the output blocks and the carried scratch hold after each point: the first point of a batch row starts afresh,
    every later one goes on from the scratch of the point before. -/
def outsAt0 (c : Dev nD) : (n : ℕ) → n < cfg0.N → Vec F S1x8x512x256 .bf16 × Vec F S1x8x512x256 .bf16 × Vec F S1x8x512x128 .bf16 × Vec F S1x512x1024 .bf16 × Vec F S1x8x1024 .f32 × Vec F S520x1024 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 32 = 0 then
      (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2.2.2)

/-- The same at a first point. -/
theorem outsAt0_A (c : Dev nD) (t : Fin cfg0.N) (h0 : t.val % 32 = 0) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans rfl

/-- The same at a later point. -/
theorem outsAt0_B (c : Dev nD) (t : Fin cfg0.N) (h0 : ¬t.val % 32 = 0) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- What is kept between points: nothing known before the first, afterwards the carried scratch as the last point left it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

/-- Before the first point nothing is known of the scratch. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The pipeline's data: the arrays on entry, each input block unchanged by the body, each output block as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨_ + 20, h⟩ => absurd h (Nat.not_lt.2 (Nat.le_add_left _ _))
  Φ t := PhiS m c t.val (Nat.le_of_lt_succ t.isLt)
  q _ := fullShare
  owed _ := 0

/-- The arrays on entry. -/
theorem A_eq (c : Dev nD) (w : Fin cfg0.W) : (dats m 0 c).A w = V m c (Pipeline.arrRef spec0 w) := by
  dsimp only [dats]

/-- What is kept, at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- Argument window 1 still holds its block after a point. -/
theorem after0_1 (c : Dev nD) (t : Fin cfg0.N) : (dats m 0 c).after 1 t = iblk m c 1 t := by dsimp only [dats]
/-- Argument window 2 still holds its block after a point. -/
theorem after0_2 (c : Dev nD) (t : Fin cfg0.N) : (dats m 0 c).after 2 t = iblk m c 2 t := by dsimp only [dats]
/-- Argument window 3 still holds its block after a point. -/
theorem after0_3 (c : Dev nD) (t : Fin cfg0.N) : (dats m 0 c).after 3 t = iblk m c 3 t := by dsimp only [dats]
/-- Argument window 4 still holds its block after a point. -/
theorem after0_4 (c : Dev nD) (t : Fin cfg0.N) : (dats m 0 c).after 4 t = iblk m c 4 t := by dsimp only [dats]
/-- Argument window 5 still holds its block after a point. -/
theorem after0_5 (c : Dev nD) (t : Fin cfg0.N) : (dats m 0 c).after 5 t = iblk m c 5 t := by dsimp only [dats]
/-- Argument window 6 still holds its block after a point. -/
theorem after0_6 (c : Dev nD) (t : Fin cfg0.N) : (dats m 0 c).after 6 t = iblk m c 6 t := by dsimp only [dats]
/-- Argument window 7 still holds its block after a point. -/
theorem after0_7 (c : Dev nD) (t : Fin cfg0.N) : (dats m 0 c).after 7 t = iblk m c 7 t := by dsimp only [dats]
/-- Argument window 8 still holds its block after a point. -/
theorem after0_8 (c : Dev nD) (t : Fin cfg0.N) : (dats m 0 c).after 8 t = iblk m c 8 t := by dsimp only [dats]
/-- Argument window 9 still holds its block after a point. -/
theorem after0_9 (c : Dev nD) (t : Fin cfg0.N) : (dats m 0 c).after 9 t = iblk m c 9 t := by dsimp only [dats]
/-- Argument window 10 still holds its block after a point. -/
theorem after0_10 (c : Dev nD) (t : Fin cfg0.N) : (dats m 0 c).after 10 t = iblk m c 10 t := by dsimp only [dats]
/-- Argument window 11 still holds its block after a point. -/
theorem after0_11 (c : Dev nD) (t : Fin cfg0.N) : (dats m 0 c).after 11 t = iblk m c 11 t := by dsimp only [dats]
/-- Argument window 12 still holds its block after a point. -/
theorem after0_12 (c : Dev nD) (t : Fin cfg0.N) : (dats m 0 c).after 12 t = iblk m c 12 t := by dsimp only [dats]
/-- Argument window 13 still holds its block after a point. -/
theorem after0_13 (c : Dev nD) (t : Fin cfg0.N) : (dats m 0 c).after 13 t = iblk m c 13 t := by dsimp only [dats]
/-- Argument window 14 still holds its block after a point. -/
theorem after0_14 (c : Dev nD) (t : Fin cfg0.N) : (dats m 0 c).after 14 t = iblk m c 14 t := by dsimp only [dats]
/-- Result window 15 holds after a point what the point wrote. -/
theorem after0_15 (c : Dev nD) (t : Fin cfg0.N) : (dats m 0 c).after 15 t = (outsAt0 m c t.val t.isLt).1 := by dsimp only [dats]
/-- Result window 16 holds after a point what the point wrote. -/
theorem after0_16 (c : Dev nD) (t : Fin cfg0.N) : (dats m 0 c).after 16 t = (outsAt0 m c t.val t.isLt).2.1 := by dsimp only [dats]
/-- Result window 17 holds after a point what the point wrote. -/
theorem after0_17 (c : Dev nD) (t : Fin cfg0.N) : (dats m 0 c).after 17 t = (outsAt0 m c t.val t.isLt).2.2.1 := by dsimp only [dats]
/-- Result window 18 holds after a point what the point wrote. -/
theorem after0_18 (c : Dev nD) (t : Fin cfg0.N) : (dats m 0 c).after 18 t = (outsAt0 m c t.val t.isLt).2.2.2.1 := by dsimp only [dats]
/-- Result window 19 holds after a point what the point wrote. -/
theorem after0_19 (c : Dev nD) (t : Fin cfg0.N) : (dats m 0 c).after 19 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Argument window 1 holds its block before a point. -/
theorem before0_1 (c : Dev nD) (t : Fin cfg0.N) (d) : (dats m 0 c).before 1 t d = iblk m c 1 t :=
  before0_1_of m (dats m 0 c) (A_eq m c 1) (after0_1 m c) t d
/-- Argument window 2 holds its block before a point. -/
theorem before0_2 (c : Dev nD) (t : Fin cfg0.N) (d) : (dats m 0 c).before 2 t d = iblk m c 2 t :=
  before0_2_of m (dats m 0 c) (A_eq m c 2) (after0_2 m c) t d
/-- Argument window 3 holds its block before a point. -/
theorem before0_3 (c : Dev nD) (t : Fin cfg0.N) (d) : (dats m 0 c).before 3 t d = iblk m c 3 t :=
  before0_3_of m (dats m 0 c) (A_eq m c 3) (after0_3 m c) t d
/-- Argument window 4 holds its block before a point. -/
theorem before0_4 (c : Dev nD) (t : Fin cfg0.N) (d) : (dats m 0 c).before 4 t d = iblk m c 4 t :=
  before0_4_of m (dats m 0 c) (A_eq m c 4) (after0_4 m c) t d
/-- Argument window 5 holds its block before a point. -/
theorem before0_5 (c : Dev nD) (t : Fin cfg0.N) (d) : (dats m 0 c).before 5 t d = iblk m c 5 t :=
  before0_5_of m (dats m 0 c) (A_eq m c 5) (after0_5 m c) t d
/-- Argument window 6 holds its block before a point. -/
theorem before0_6 (c : Dev nD) (t : Fin cfg0.N) (d) : (dats m 0 c).before 6 t d = iblk m c 6 t :=
  before0_6_of m (dats m 0 c) (A_eq m c 6) (after0_6 m c) t d
/-- Argument window 7 holds its block before a point. -/
theorem before0_7 (c : Dev nD) (t : Fin cfg0.N) (d) : (dats m 0 c).before 7 t d = iblk m c 7 t :=
  before0_7_of m (dats m 0 c) (A_eq m c 7) (after0_7 m c) t d
/-- Argument window 8 holds its block before a point. -/
theorem before0_8 (c : Dev nD) (t : Fin cfg0.N) (d) : (dats m 0 c).before 8 t d = iblk m c 8 t :=
  before0_8_of m (dats m 0 c) (A_eq m c 8) (after0_8 m c) t d
/-- Argument window 9 holds its block before a point. -/
theorem before0_9 (c : Dev nD) (t : Fin cfg0.N) (d) : (dats m 0 c).before 9 t d = iblk m c 9 t :=
  before0_9_of m (dats m 0 c) (A_eq m c 9) (after0_9 m c) t d
/-- Argument window 10 holds its block before a point. -/
theorem before0_10 (c : Dev nD) (t : Fin cfg0.N) (d) : (dats m 0 c).before 10 t d = iblk m c 10 t :=
  before0_10_of m (dats m 0 c) (A_eq m c 10) (after0_10 m c) t d
/-- Argument window 11 holds its block before a point. -/
theorem before0_11 (c : Dev nD) (t : Fin cfg0.N) (d) : (dats m 0 c).before 11 t d = iblk m c 11 t :=
  before0_11_of m (dats m 0 c) (A_eq m c 11) (after0_11 m c) t d
/-- Argument window 12 holds its block before a point. -/
theorem before0_12 (c : Dev nD) (t : Fin cfg0.N) (d) : (dats m 0 c).before 12 t d = iblk m c 12 t :=
  before0_12_of m (dats m 0 c) (A_eq m c 12) (after0_12 m c) t d
/-- Argument window 13 holds its block before a point. -/
theorem before0_13 (c : Dev nD) (t : Fin cfg0.N) (d) : (dats m 0 c).before 13 t d = iblk m c 13 t :=
  before0_13_of m (dats m 0 c) (A_eq m c 13) (after0_13 m c) t d
/-- Argument window 14 holds its block before a point. -/
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 16000000 in
/-- The body runs at any point, from its input blocks and the carried scratch to what the data say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases hz : t.val = 0
    · rw [PhiS_castSucc m c t, PhiS_zero m c _ _ hz, PhiA0_eq]
      rw [outsAt0_A m c t h0]
      unfold out0_A_15 out0_A_16 out0_A_17 out0_A_18 out0_A_19 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_15 out0_A_16 out0_A_17 out0_A_18 out0_A_19 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexists _; iexact HS0
      iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_15 out0_B_16 out0_B_17 out0_B_18 out0_B_19 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the program ends on every schedule with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.InpI

end
-- ==== Proof.InpSame.lean ====
module

public import proofs.«01_k».proof.Defs
public import proofs.«01_k».proof.Proof.InpFrameI
public import proofs.«01_k».proof.Proof.Gen.Kernel3

@[expose] public section

noncomputable section

/-! The input projection: the kernel and the ideal kernel are one program, as no operation of it is replaced. -/

namespace Cert.Inp

open Idealize.ShloMosaic

-- the two programs unfold to the same term, their matches on window and label numbers included
set_option smartUnfolding false in
set_option maxHeartbeats 40000000 in
/-- The kernel runs, leaves its arguments unchanged and ends with every counter at zero: it is the ideal kernel's program,
    whose frame holds of floats of any kind. -/
theorem kernel_frame : Cert.quiescent_Kernel3 := fun m ρ _ => Cert.InpI.frame (F := Bits) m ρ

end Cert.Inp

end
-- ==== Proof.Inp.lean ====
module

public import proofs.«01_k».proof.Proof.Mix
public import proofs.«01_k».proof.Proof.Gen.Kernel3Ideal.Skeleton
public import Idealize.ShloMosaic.Lib.Pointwise

@[expose] public section

noncomputable section

/-! The input projections of a row, in plain words, and what the kernel's body computes from a block. -/

namespace Cert.Inp

open Idealize.ShloMosaic Cert.Mix
open scoped BigOperators

/-- The query rank 384, as the norm divides by it. -/
def len384 : EReal := Scalar.ofBits (F := Ideal) .f32 0x43C00000#32

/-- The key and value rank 512, as the norm divides by it. -/
def len512 : EReal := Scalar.ofBits (F := Ideal) .f32 0x44000000#32

/-- The queries' scale. -/
def scale : EReal := Scalar.ofBits (F := Ideal) .f32 0x3D93CD3A#32

/-- The root-mean-square norm of a row, its length given as a number. -/
def rms {n : ℕ} (c : EReal) (x g : Fin n → EReal) (d : Fin n) : EReal :=
  x d * Ideal.rsqrt (mean c (fun k => x k * x k) + eps) * g d

/-- A row against a column. -/
def dotp {n : ℕ} (h w : Fin n → EReal) : EReal := ∑ k, h k * w k

end Cert.Inp

namespace Cert.Inp

open Cert.Kernel3Ideal Cert.Kernel3Ideal.Gen Idealize.ShloMosaic Cert.Mix
open scoped BigOperators

/-- The normed input, at a row and a lane. -/
theorem pay3_apply (x : Vec Ideal S1x512x2048 .f32) (g b : Vec Ideal S1x2048 .f32) (r : Fin 512) (d : Fin 2048) :
    k0_pay3 x g b (ix2 r d) = layerNorm (fun k => x (ix3 0 r k)) (fun k => g (ix2 0 k)) (fun k => b (ix2 0 k)) d := by
  pointwise [k0_pay3]
  rfl

/-- The rotated shared key, at a row and a lane. -/
theorem pay7_apply (h : Vec Ideal S512x2048 .bf16) (t1 t2 : Vec Ideal S512x128 .f32) (wa wb : Vec Ideal S2048x128 .bf16) (r : Fin 512) (d : Fin 128) :
    k0_pay7 h t1 t2 wa wb (ix2 r d)
      = dotp (fun k => h (ix2 r k)) (fun k => wa (ix2 k d)) * t1 (ix2 r d) + dotp (fun k => h (ix2 r k)) (fun k => wb (ix2 k d)) * t2 (ix2 r d) := by
  pointwise [k0_pay7]
  rfl

/-- The normed query rank, at a row and a lane. -/
theorem pay8_apply (h : Vec Ideal S512x2048 .bf16) (w : Vec Ideal S2048x384 .bf16) (g : Vec Ideal S1x384 .f32) (r : Fin 512) (d : Fin 384) :
    k0_pay8 h w (constant (F := Ideal) S512x384 .f32 0x00000000#32) g (ix2 r d)
      = rms len384 (fun j => dotp (fun k => h (ix2 r k)) (fun k => w (ix2 k j))) (fun j => g (ix2 0 j)) d := by
  pointwise [k0_pay8]
  rfl

/-- The normed key and value rank, at a row and a lane. -/
theorem pay11_apply (h : Vec Ideal S512x2048 .bf16) (w : Vec Ideal S2048x512 .bf16) (g : Vec Ideal S1x512 .f32) (r : Fin 512) (d : Fin 512) :
    k0_pay11 g (k0_pay10 h w) (ix2 r d)
      = rms len512 (fun j => dotp (fun k => h (ix2 r k)) (fun k => w (ix2 k j))) (fun j => g (ix2 0 j)) d := by
  pointwise [k0_pay11, k0_pay10]
  rfl

/-- A head's queries without rotation, at a row and a lane. -/
theorem pay13_apply (q : Vec Ideal S512x384 .bf16) (wa : Vec Ideal S384x256 .bf16) (r : Fin 512) (d : Fin 128) :
    k0_pay13 q wa (ix4 0 0 r d) = dotp (fun k => q (ix2 r k)) (fun k => wa (ix2 k ⟨d.val, by omega⟩)) * scale := by
  pointwise [k0_pay13, k0_pay12]
  rfl

/-- A head's rotated queries, at a row and a lane. -/
theorem pay14_apply (t1 t2 : Vec Ideal S512x128 .f32) (q : Vec Ideal S512x384 .bf16) (wa : Vec Ideal S384x256 .bf16) (wb : Vec Ideal S384x128 .bf16) (r : Fin 512) (d : Fin 128) :
    k0_pay14 t1 t2 q wa wb (ix4 0 0 r d)
      = (dotp (fun k => q (ix2 r k)) (fun k => wa (ix2 k ⟨128 + d.val, by omega⟩)) * t1 (ix2 r d)
        + dotp (fun k => q (ix2 r k)) (fun k => wb (ix2 k d)) * t2 (ix2 r d)) * scale := by
  pointwise [k0_pay14, k0_pay12]
  rfl

/-- A head's keys without rotation, at a row and a lane. -/
theorem pay15_apply (g : Vec Ideal S1x512 .f32) (y : Vec Ideal S512x512 .f32) (w : Vec Ideal S512x128 .bf16) (r : Fin 512) (d : Fin 128) :
    k0_pay15 g y w (ix4 0 0 r d) = dotp (fun k => k0_pay11 (F := Ideal) g y (ix2 r k)) (fun k => w (ix2 k d)) := by
  pointwise [k0_pay15]
  rfl

/-- The shared rotated key as a head's block. -/
theorem pay16_apply (x : Vec Ideal S512x128 .bf16) (r : Fin 512) (d : Fin 128) :
    k0_pay16 (F := Ideal) x (ix4 0 0 r d) = x (ix2 r d) := by
  pointwise [k0_pay16]

/-- A head's values, at a row and a lane. -/
theorem pay17_apply (y : Vec Ideal S512x512 .bf16) (w : Vec Ideal S512x128 .bf16) (r : Fin 512) (d : Fin 128) :
    k0_pay17 y w (ix4 0 0 r d) = dotp (fun k => y (ix2 r k)) (fun k => w (ix2 k d)) := by
  pointwise [k0_pay17]
  rfl

/-- The outer gate, at a row and a lane. -/
theorem pay65_apply (h : Vec Ideal S512x2048 .bf16) (w : Vec Ideal S2048x1024 .bf16) (r : Fin 512) (d : Fin 1024) :
    k0_pay65 h w (ix2 r d) = dotp (fun k => h (ix2 r k)) (fun k => w (ix2 k d)) := by
  pointwise [k0_pay65]
  rfl

/-- The gated state, at a row and a lane. -/
theorem pay66_apply (h : Vec Ideal S512x2048 .bf16) (w w' : Vec Ideal S2048x1024 .bf16) (r : Fin 512) (d : Fin 1024) :
    k0_pay66 h w w' (ix2 r d) = dotp (fun k => h (ix2 r k)) (fun k => w (ix2 k d)) * dotp (fun k => h (ix2 r k)) (fun k => w' (ix2 k d)) := by
  pointwise [k0_pay66]
  rfl

/-- The convolution of three states and its norm. -/
def convRow (bg u u1 u2 : Fin 1024 → EReal) (w : Fin 3 → Fin 1024 → EReal) (g : Fin 1024 → EReal) : Fin 1024 → EReal :=
  rms half (fun j => bg j * (u2 j * w 0 j + u1 j * w 1 j + u j * w 2 j)) g

/-- The normed convolution, at a row and a lane. -/
theorem pay68_apply (bg u u1 u2 : Vec Ideal S512x1024 .f32) (w : Vec Ideal S3x1024 .f32) (g : Vec Ideal S1x1024 .f32) (r : Fin 512) (d : Fin 1024) :
    k0_pay68 bg u u1 u2 w g (ix3 0 r d)
      = convRow (fun j => bg (ix2 r j)) (fun j => u (ix2 r j)) (fun j => u1 (ix2 r j)) (fun j => u2 (ix2 r j)) (fun a j => w (ix2 a j)) (fun j => g (ix2 0 j)) d := by
  pointwise [k0_pay68]
  rfl

end Cert.Inp

end
-- ==== Proof.InpBody.lean ====
module

public import proofs.«01_k».proof.Proof.Inp
public import Idealize.ShloMosaic.Lib.Pipeline.Value
public import Idealize.ShloMosaic.Lib.Pipeline.FrameBody
public import Idealize.ShloMosaic.Lib.Writes
public import Idealize.ShloMosaic.Lib.WritesUnit

@[expose] public section

noncomputable section

/-! What one tile of the input projections stores, from the blocks it loads. -/

namespace Cert.Inp

open Cert.Kernel3Ideal Cert.Kernel3Ideal.Gen Idealize.ShloMosaic Cert.Mix
open scoped BigOperators

/-- Every index of a two-axis array is a pair. -/
theorem exists_ix2 {n0 n1 : ℕ} (y : (⟨2, ![n0, n1]⟩ : Shape).Idx) : ∃ a b, y = ix2 a b :=
  ⟨y 0, y 1, by funext a; fin_cases a <;> rfl⟩

/-- Every index of a four-axis array is a quadruple. -/
theorem exists_ix4 {n0 n1 n2 n3 : ℕ} (y : (⟨4, ![n0, n1, n2, n3]⟩ : Shape).Idx) : ∃ a b c d, y = ix4 a b c d :=
  ⟨y 0, y 1, y 2, y 3, by funext a; fin_cases a <;> rfl⟩

/-- A load of a run of columns, at a row and a column. -/
theorem ld_cols {R C n : ℕ} {e : EltTy} (X : Vec Ideal (⟨2, ![R, C]⟩ : Shape) e) (o : ℕ) (inb) (k : Fin R) (j : Fin n) (h : o + j.val < C) :
    View.ld X (Rect.unit (s := (⟨2, ![R, C]⟩ : Shape)) ![0, o] ![R, n] inb) (ix2 k j) = X (ix2 k ⟨o + j.val, h⟩) :=
  View.ld_unit_apply_of _ _ _ _ _ _ fun a => by fin_cases a <;> simp [ix2]

/-- The gated state of a tile is stored as it is. -/
theorem pay67_eq (h : Vec Ideal S512x2048 .bf16) (w w' : Vec Ideal S2048x1024 .bf16) : k0_pay67 h w w' = k0_pay66 h w w' :=
  funext fun y => by obtain ⟨r, d, rfl⟩ := exists_ix2 y; pointwise [k0_pay67]

/-- The carried rows are stored as they are. -/
theorem pay1_eq (x : Vec Ideal S8x1024 .f32) : k0_pay1 (F := Ideal) x = x :=
  funext fun y => by obtain ⟨r, d, rfl⟩ := exists_ix2 y; pointwise [k0_pay1]

/-- The first rows are stored as they are. -/
theorem pay2_eq (x : Vec Ideal S8x1024 .f32) : k0_pay2 (F := Ideal) x = x :=
  funext fun y => by obtain ⟨r, d, rfl⟩ := exists_ix2 y; pointwise [k0_pay2]

/-- The cosine table is used as it is. -/
theorem pay4_eq (x : Vec Ideal S512x128 .f32) : k0_pay4 (F := Ideal) x = x :=
  funext fun y => by obtain ⟨r, d, rfl⟩ := exists_ix2 y; pointwise [k0_pay4]

/-- The sine table is used as it is. -/
theorem pay5_eq (x : Vec Ideal S512x128 .f32) : k0_pay5 (F := Ideal) x = x :=
  funext fun y => by obtain ⟨r, d, rfl⟩ := exists_ix2 y; pointwise [k0_pay5]

/-- The query rank's columns are used as they are. -/
theorem pay6_eq (x : Vec Ideal S2048x384 .bf16) : k0_pay6 (F := Ideal) x = x :=
  funext fun y => by obtain ⟨r, d, rfl⟩ := exists_ix2 y; pointwise [k0_pay6]

/-- The key and value rank's gains are used as they are. -/
theorem pay9_eq (x : Vec Ideal S1x512 .f32) : k0_pay9 (F := Ideal) x = x :=
  funext fun y => by obtain ⟨r, d, rfl⟩ := exists_ix2 y; pointwise [k0_pay9]

variable (x0 : Vec Ideal S1x512x2048 .f32) (x1 x2 : Vec Ideal S512x128 .f32) (x4 x5 : Vec Ideal S1x2048 .f32) (x6 : Vec Ideal S2048x4224 .bf16)
  (x7 : Vec Ideal S1x384 .f32) (x8 : Vec Ideal S1x512 .f32) (x9 : Vec Ideal S384x2048 .bf16) (x10 : Vec Ideal S384x1024 .bf16)
  (x11 x12 : Vec Ideal S512x1024 .bf16) (x13 : Vec Ideal S3x1024 .f32) (x14 : Vec Ideal S1x1024 .f32)

/-- A row of the block, normed. -/
def hB (r : Fin 512) : Fin 2048 → EReal :=
  layerNorm (fun k => x0 (ix3 0 r k)) (fun k => x4 (ix2 0 k)) (fun k => x5 (ix2 0 k))

/-- A row's projection onto a column. -/
def prB (r : Fin 512) (j : Fin 4224) : EReal := dotp (hB x0 x4 x5 r) (fun k => x6 (ix2 k j))

/-- A row's query rank, normed. -/
def cqB (r : Fin 512) : Fin 384 → EReal :=
  rms len384 (fun j : Fin 384 => prB x0 x4 x5 x6 r ⟨0 + j.val, by omega⟩) (fun j => x7 (ix2 0 j))

/-- A row's key and value rank, normed. -/
def ckvB (r : Fin 512) : Fin 512 → EReal :=
  rms len512 (fun j : Fin 512 => prB x0 x4 x5 x6 r ⟨384 + j.val, by omega⟩) (fun j => x8 (ix2 0 j))

/-- A row's queries, at a head and a lane. -/
def qB (r : Fin 512) (hd : Fin 8) (l : Fin 256) : EReal :=
  if h : l.val < 128 then dotp (cqB x0 x4 x5 x6 x7 r) (fun k => x9 (ix2 k ⟨256 * hd.val + l.val, by omega⟩)) * scale
  else (dotp (cqB x0 x4 x5 x6 x7 r) (fun k => x9 (ix2 k ⟨256 * hd.val + l.val, by omega⟩)) * x1 (ix2 r ⟨l.val - 128, by omega⟩)
    + dotp (cqB x0 x4 x5 x6 x7 r) (fun k => x10 (ix2 k ⟨128 * hd.val + (l.val - 128), by omega⟩)) * x2 (ix2 r ⟨l.val - 128, by omega⟩)) * scale

/-- A row's keys, at a head and a lane. -/
def kB (r : Fin 512) (hd : Fin 8) (l : Fin 256) : EReal :=
  if h : l.val < 128 then dotp (ckvB x0 x4 x5 x6 x8 r) (fun k => x11 (ix2 k ⟨128 * hd.val + l.val, by omega⟩))
  else prB x0 x4 x5 x6 r ⟨896 + (l.val - 128), by omega⟩ * x1 (ix2 r ⟨l.val - 128, by omega⟩)
    + prB x0 x4 x5 x6 r ⟨1024 + (l.val - 128), by omega⟩ * x2 (ix2 r ⟨l.val - 128, by omega⟩)

/-- A row's values, at a head and a lane. -/
def vB (r : Fin 512) (hd : Fin 8) (l : Fin 128) : EReal :=
  dotp (ckvB x0 x4 x5 x6 x8 r) (fun k => x12 (ix2 k ⟨128 * hd.val + l.val, by omega⟩))

/-- A row's gated state. -/
def uB (r : Fin 512) (j : Fin 1024) : EReal :=
  prB x0 x4 x5 x6 r ⟨2176 + j.val, by omega⟩ * prB x0 x4 x5 x6 r ⟨3200 + j.val, by omega⟩

/-- The states of a tile with the eight rows before it. -/
def bufB (s : Fin 8 → Fin 1024 → EReal) (n : Fin 520) (j : Fin 1024) : EReal :=
  if h : n.val < 8 then s ⟨n.val, h⟩ j else uB x0 x4 x5 x6 ⟨n.val - 8, by omega⟩ j

/-- A row's normed convolution. -/
def cB (s : Fin 8 → Fin 1024 → EReal) (r : Fin 512) : Fin 1024 → EReal :=
  convRow (fun j => prB x0 x4 x5 x6 r ⟨1152 + j.val, by omega⟩) (uB x0 x4 x5 x6 r) (bufB x0 x4 x5 x6 s ⟨7 + r.val, by omega⟩)
    (bufB x0 x4 x5 x6 s ⟨6 + r.val, by omega⟩) (fun a j => x13 (ix2 a j)) (fun j => x14 (ix2 0 j))

/-- A run of columns against the normed block. -/
theorem dotp_cols {n : ℕ} (o : ℕ) (inb) (r : Fin 512) (j : Fin n) (h : o + j.val < 4224) :
    dotp (fun k => k0_pay3 x0 x4 x5 (ix2 r k)) (fun k => View.ld x6 (Rect.unit (s := S2048x4224) ![0, o] ![2048, n] inb) (ix2 k j))
      = prB x0 x4 x5 x6 r ⟨o + j.val, h⟩ :=
  congrArg₂ dotp (funext fun k => pay3_apply x0 x4 x5 r k) (funext fun k => ld_cols x6 o inb k j h)

/-- The query rank of the block. -/
theorem cq_apply (inb) (r : Fin 512) (d : Fin 384) :
    k0_pay8 (k0_pay3 x0 x4 x5) (View.ld x6 (Rect.unit (s := S2048x4224) ![0, 0] ![2048, 384] inb)) (constant (F := Ideal) S512x384 .f32 0x00000000#32) x7 (ix2 r d)
      = cqB x0 x4 x5 x6 x7 r d :=
  (pay8_apply _ _ _ r d).trans (congrArg (fun f => rms len384 f _ d) (funext fun j => dotp_cols x0 x4 x5 x6 0 inb r j _))

/-- The key and value rank of the block. -/
theorem ckv_apply (inb) (r : Fin 512) (d : Fin 512) :
    k0_pay11 x8 (k0_pay10 (k0_pay3 x0 x4 x5) (View.ld x6 (Rect.unit (s := S2048x4224) ![0, 384] ![2048, 512] inb))) (ix2 r d)
      = ckvB x0 x4 x5 x6 x8 r d :=
  (pay11_apply _ _ _ r d).trans (congrArg (fun f => rms len512 f _ d) (funext fun j => dotp_cols x0 x4 x5 x6 384 inb r j _))

/-- The gated state of the block. -/
theorem u_apply (inb inb') (r : Fin 512) (d : Fin 1024) :
    k0_pay66 (k0_pay3 x0 x4 x5) (View.ld x6 (Rect.unit (s := S2048x4224) ![0, 2176] ![2048, 1024] inb))
        (View.ld x6 (Rect.unit (s := S2048x4224) ![0, 3200] ![2048, 1024] inb')) (ix2 r d)
      = uB x0 x4 x5 x6 r d :=
  (pay66_apply _ _ _ r d).trans (congrArg₂ (· * ·) (dotp_cols x0 x4 x5 x6 2176 inb r d _) (dotp_cols x0 x4 x5 x6 3200 inb' r d _))

/-- An index of a head's piece, in the block. -/
theorem emb_head {L n : ℕ} (o a : ℕ) (ho : o < 8) (inb) (r : Fin 512) (d : Fin n) (h : a + d.val < L) :
    (Rect.unit (s := (⟨4, ![1, 8, 512, L]⟩ : Shape)) ![0, o, 0, a] ![1, 1, 512, n] inb).emb (ix4 0 0 r d) = ix4 0 ⟨o, ho⟩ r ⟨a + d.val, h⟩ :=
  funext fun b => Fin.ext ((Rect.idx_unit_val _ _ _ _ _).trans (by fin_cases b <;> simp [ix4]))

/-- A head's unrotated queries are the queries at its first lanes. -/
theorem q_store_plain (o w : ℕ) (ho : o < 8) (hw : w = 256 * o) (inb inb6 inb9) (x : (Rect.unit (s := S1x8x512x256) ![0, o, 0, 0] ![1, 1, 512, 128] inb).shape.Idx) :
    k0_pay13 (k0_pay8 (k0_pay3 x0 x4 x5) (View.ld x6 (Rect.unit (s := S2048x4224) ![0, 0] ![2048, 384] inb6)) (constant (F := Ideal) S512x384 .f32 0x00000000#32) x7)
        (View.ld x9 (Rect.unit (s := S384x2048) ![0, w] ![384, 256] inb9)) x
      = (fun y : S1x8x512x256.Idx => qB x0 x1 x2 x4 x5 x6 x7 x9 x10 (y 2) (y 1) (y 3)) ((Rect.unit (s := S1x8x512x256) ![0, o, 0, 0] ![1, 1, 512, 128] inb).emb x) := by
  subst hw
  obtain ⟨z, z', r, d, rfl⟩ : ∃ (a b : Fin 1) (r : Fin 512) (d : Fin 128), x = ix4 a b r d := exists_ix4 x
  obtain rfl : z = 0 := Subsingleton.elim _ _
  obtain rfl : z' = 0 := Subsingleton.elim _ _
  rw [emb_head o 0 ho inb r d (by omega)]
  refine (pay13_apply _ _ r d).trans ?_
  show _ = qB x0 x1 x2 x4 x5 x6 x7 x9 x10 r ⟨o, ho⟩ ⟨0 + d.val, _⟩
  rw [qB, dif_pos (show 0 + d.val < 128 by omega)]
  refine congrArg (· * scale) (congrArg₂ dotp (funext fun k => cq_apply x0 x4 x5 x6 x7 inb6 r k) (funext fun k => ?_))
  refine (ld_cols x9 (256 * o) inb9 k (⟨d.val, by omega⟩ : Fin 256) (by show 256 * o + d.val < 2048; omega)).trans (congrArg (fun e => x9 (ix2 k e)) (Fin.ext ?_))
  show 256 * o + d.val = 256 * o + (0 + d.val)
  omega

/-- A head's rotated queries are the queries at its last lanes. -/
theorem q_store_rot (o w w' : ℕ) (ho : o < 8) (hw : w = 256 * o) (hw' : w' = 128 * o) (inb inb6 inb9 inb10) (x : (Rect.unit (s := S1x8x512x256) ![0, o, 0, 128] ![1, 1, 512, 128] inb).shape.Idx) :
    k0_pay14 x1 x2 (k0_pay8 (k0_pay3 x0 x4 x5) (View.ld x6 (Rect.unit (s := S2048x4224) ![0, 0] ![2048, 384] inb6)) (constant (F := Ideal) S512x384 .f32 0x00000000#32) x7)
        (View.ld x9 (Rect.unit (s := S384x2048) ![0, w] ![384, 256] inb9)) (View.ld x10 (Rect.unit (s := S384x1024) ![0, w'] ![384, 128] inb10)) x
      = (fun y : S1x8x512x256.Idx => qB x0 x1 x2 x4 x5 x6 x7 x9 x10 (y 2) (y 1) (y 3)) ((Rect.unit (s := S1x8x512x256) ![0, o, 0, 128] ![1, 1, 512, 128] inb).emb x) := by
  subst hw hw'
  obtain ⟨z, z', r, d, rfl⟩ : ∃ (a b : Fin 1) (r : Fin 512) (d : Fin 128), x = ix4 a b r d := exists_ix4 x
  obtain rfl : z = 0 := Subsingleton.elim _ _
  obtain rfl : z' = 0 := Subsingleton.elim _ _
  rw [emb_head o 128 ho inb r d (by omega)]
  refine (pay14_apply _ _ _ _ _ r d).trans ?_
  show _ = qB x0 x1 x2 x4 x5 x6 x7 x9 x10 r ⟨o, ho⟩ ⟨128 + d.val, _⟩
  rw [qB, dif_neg (show ¬128 + d.val < 128 by omega)]
  have hd : (⟨128 + d.val - 128, by omega⟩ : Fin 128) = d := Fin.ext (by show 128 + d.val - 128 = d.val; omega)
  have ea := congrArg₂ dotp (funext fun k => cq_apply x0 x4 x5 x6 x7 inb6 r k)
    (funext fun k => ld_cols x9 (256 * o) inb9 k (⟨128 + d.val, by omega⟩ : Fin 256) (by show 256 * o + (128 + d.val) < 2048; omega))
  have eb := congrArg₂ dotp (funext fun k => cq_apply x0 x4 x5 x6 x7 inb6 r k)
    (funext fun k => ld_cols x10 (128 * o) inb10 k d (by omega))
  simp only [hd]
  refine congrArg (· * scale) (congrArg₂ (· + ·) (congrArg (· * _) ea) (congrArg (· * _) (eb.trans ?_)))
  exact congrArg (fun e => dotp _ (fun k => x10 (ix2 k e))) (Fin.ext (by show 128 * o + d.val = 128 * o + (128 + d.val - 128); omega))

/-- A head's unrotated keys are the keys at its first lanes. -/
theorem k_store_plain (o w : ℕ) (ho : o < 8) (hw : w = 128 * o) (inb inb6 inb11) (x : (Rect.unit (s := S1x8x512x256) ![0, o, 0, 0] ![1, 1, 512, 128] inb).shape.Idx) :
    k0_pay15 x8 (k0_pay10 (k0_pay3 x0 x4 x5) (View.ld x6 (Rect.unit (s := S2048x4224) ![0, 384] ![2048, 512] inb6)))
        (View.ld x11 (Rect.unit (s := S512x1024) ![0, w] ![512, 128] inb11)) x
      = (fun y : S1x8x512x256.Idx => kB x0 x1 x2 x4 x5 x6 x8 x11 (y 2) (y 1) (y 3)) ((Rect.unit (s := S1x8x512x256) ![0, o, 0, 0] ![1, 1, 512, 128] inb).emb x) := by
  subst hw
  obtain ⟨z, z', r, d, rfl⟩ : ∃ (a b : Fin 1) (r : Fin 512) (d : Fin 128), x = ix4 a b r d := exists_ix4 x
  obtain rfl : z = 0 := Subsingleton.elim _ _
  obtain rfl : z' = 0 := Subsingleton.elim _ _
  rw [emb_head o 0 ho inb r d (by omega)]
  refine (pay15_apply _ _ _ r d).trans ?_
  show _ = kB x0 x1 x2 x4 x5 x6 x8 x11 r ⟨o, ho⟩ ⟨0 + d.val, _⟩
  rw [kB, dif_pos (show 0 + d.val < 128 by omega)]
  refine congrArg₂ dotp (funext fun k => ckv_apply x0 x4 x5 x6 x8 inb6 r k) (funext fun k => ?_)
  refine (ld_cols x11 (128 * o) inb11 k d (by omega)).trans (congrArg (fun e => x11 (ix2 k e)) (Fin.ext ?_))
  show 128 * o + d.val = 128 * o + (0 + d.val)
  omega

/-- The shared rotated key is the keys at a head's last lanes. -/
theorem k_store_rot (o : ℕ) (ho : o < 8) (inb inb6 inb6') (x : (Rect.unit (s := S1x8x512x256) ![0, o, 0, 128] ![1, 1, 512, 128] inb).shape.Idx) :
    k0_pay16 (F := Ideal) (k0_pay7 (k0_pay3 x0 x4 x5) x1 x2 (View.ld x6 (Rect.unit (s := S2048x4224) ![0, 896] ![2048, 128] inb6))
        (View.ld x6 (Rect.unit (s := S2048x4224) ![0, 1024] ![2048, 128] inb6'))) x
      = (fun y : S1x8x512x256.Idx => kB x0 x1 x2 x4 x5 x6 x8 x11 (y 2) (y 1) (y 3)) ((Rect.unit (s := S1x8x512x256) ![0, o, 0, 128] ![1, 1, 512, 128] inb).emb x) := by
  obtain ⟨z, z', r, d, rfl⟩ : ∃ (a b : Fin 1) (r : Fin 512) (d : Fin 128), x = ix4 a b r d := exists_ix4 x
  obtain rfl : z = 0 := Subsingleton.elim _ _
  obtain rfl : z' = 0 := Subsingleton.elim _ _
  rw [emb_head o 128 ho inb r d (by omega)]
  refine (pay16_apply _ r d).trans ((pay7_apply _ _ _ _ _ r d).trans ?_)
  show _ = kB x0 x1 x2 x4 x5 x6 x8 x11 r ⟨o, ho⟩ ⟨128 + d.val, _⟩
  rw [kB, dif_neg (show ¬128 + d.val < 128 by omega)]
  have hd : (⟨128 + d.val - 128, by omega⟩ : Fin 128) = d := Fin.ext (by show 128 + d.val - 128 = d.val; omega)
  simp only [hd]
  refine congrArg₂ (· + ·) (congrArg (· * _) ((dotp_cols x0 x4 x5 x6 896 inb6 r d (by omega)).trans ?_))
    (congrArg (· * _) ((dotp_cols x0 x4 x5 x6 1024 inb6' r d (by omega)).trans ?_))
  · exact congrArg (prB x0 x4 x5 x6 r) (Fin.ext (by show 896 + d.val = 896 + (128 + d.val - 128); omega))
  · exact congrArg (prB x0 x4 x5 x6 r) (Fin.ext (by show 1024 + d.val = 1024 + (128 + d.val - 128); omega))

/-- A head's values are the values at its lanes. -/
theorem v_store (o w : ℕ) (ho : o < 8) (hw : w = 128 * o) (inb inb6 inb12) (x : (Rect.unit (s := S1x8x512x128) ![0, o, 0, 0] ![1, 1, 512, 128] inb).shape.Idx) :
    k0_pay17 (k0_pay11 x8 (k0_pay10 (k0_pay3 x0 x4 x5) (View.ld x6 (Rect.unit (s := S2048x4224) ![0, 384] ![2048, 512] inb6))))
        (View.ld x12 (Rect.unit (s := S512x1024) ![0, w] ![512, 128] inb12)) x
      = (fun y : S1x8x512x128.Idx => vB x0 x4 x5 x6 x8 x12 (y 2) (y 1) (y 3)) ((Rect.unit (s := S1x8x512x128) ![0, o, 0, 0] ![1, 1, 512, 128] inb).emb x) := by
  subst hw
  obtain ⟨z, z', r, d, rfl⟩ : ∃ (a b : Fin 1) (r : Fin 512) (d : Fin 128), x = ix4 a b r d := exists_ix4 x
  obtain rfl : z = 0 := Subsingleton.elim _ _
  obtain rfl : z' = 0 := Subsingleton.elim _ _
  rw [emb_head o 0 ho inb r d (by omega)]
  refine (pay17_apply _ _ r d).trans ?_
  show _ = vB x0 x4 x5 x6 x8 x12 r ⟨o, ho⟩ ⟨0 + d.val, _⟩
  refine congrArg₂ dotp (funext fun k => ckv_apply x0 x4 x5 x6 x8 inb6 r k) (funext fun k => ?_)
  refine (ld_cols x12 (128 * o) inb12 k d (by omega)).trans (congrArg (fun e => x12 (ix2 k e)) (Fin.ext ?_))
  show 128 * o + d.val = 128 * o + (0 + d.val)
  omega

/-- The stored states are the buffer from row 8. -/
theorem u_store (s : Fin 8 → Fin 1024 → EReal) (inb inb6 inb6') (x : (Rect.unit (s := S520x1024) ![8, 0] ![512, 1024] inb).shape.Idx) :
    k0_pay67 (k0_pay3 x0 x4 x5) (View.ld x6 (Rect.unit (s := S2048x4224) ![0, 2176] ![2048, 1024] inb6))
        (View.ld x6 (Rect.unit (s := S2048x4224) ![0, 3200] ![2048, 1024] inb6')) x
      = (fun y : S520x1024.Idx => bufB x0 x4 x5 x6 s (y 0) (y 1)) ((Rect.unit (s := S520x1024) ![8, 0] ![512, 1024] inb).emb x) := by
  rw [pay67_eq]
  obtain ⟨r, d, rfl⟩ : ∃ (r : Fin 512) (d : Fin 1024), x = ix2 r d := exists_ix2 x
  have e : (Rect.unit (s := S520x1024) ![8, 0] ![512, 1024] inb).emb (ix2 r d) = ix2 ⟨8 + r.val, by omega⟩ d :=
    funext fun b => Fin.ext ((Rect.idx_unit_val _ _ _ _ _).trans (by fin_cases b <;> simp [ix2]))
  rw [e]
  refine (u_apply x0 x4 x5 x6 inb6 inb6' r d).trans ?_
  show _ = bufB x0 x4 x5 x6 s ⟨8 + r.val, _⟩ d
  rw [bufB, dif_neg (show ¬8 + r.val < 8 by omega)]
  exact congrArg (fun e => uB x0 x4 x5 x6 e d) (Fin.ext (by show r.val = 8 + r.val - 8; omega))

/-- The rows stored first are the buffer's first eight. -/
theorem s_store (X : Vec Ideal S8x1024 .f32) (inb) (x : (Rect.unit (s := S520x1024) ![0, 0] ![8, 1024] inb).shape.Idx) :
    X x = (fun y : S520x1024.Idx => bufB x0 x4 x5 x6 (fun n j => X (ix2 n j)) (y 0) (y 1)) ((Rect.unit (s := S520x1024) ![0, 0] ![8, 1024] inb).emb x) := by
  obtain ⟨r, d, rfl⟩ : ∃ (r : Fin 8) (d : Fin 1024), x = ix2 r d := exists_ix2 x
  have e : (Rect.unit (s := S520x1024) ![0, 0] ![8, 1024] inb).emb (ix2 r d) = ix2 ⟨r.val, by omega⟩ d :=
    funext fun b => Fin.ext ((Rect.idx_unit_val _ _ _ _ _).trans (by fin_cases b <;> simp [ix2]))
  rw [e]
  show _ = bufB x0 x4 x5 x6 (fun n j => X (ix2 n j)) ⟨r.val, _⟩ d
  rw [bufB, dif_pos r.isLt]

/-- A row from the eighth on lies under the stored states. -/
theorem mem_u (inb) (y : S520x1024.Idx) (h : 8 ≤ (y 0 : ℕ)) : y ∈ (Rect.unit (s := S520x1024) ![8, 0] ![512, 1024] inb).set := by
  have h0 : (y 0 : ℕ) < 520 := (y 0).isLt
  have h1 : (y 1 : ℕ) < 1024 := (y 1).isLt
  rw [Rect.mem_set_unit]
  intro a
  fin_cases a
  · exact ⟨h, h0⟩
  · exact ⟨Nat.zero_le _, by simpa using h1⟩

/-- A row before the eighth lies under the rows stored first. -/
theorem mem_s (inb) (y : S520x1024.Idx) (h : (y 0 : ℕ) < 8) : y ∈ (Rect.unit (s := S520x1024) ![0, 0] ![8, 1024] inb).set := by
  have h1 : (y 1 : ℕ) < 1024 := (y 1).isLt
  rw [Rect.mem_set_unit]
  intro a
  fin_cases a
  · exact ⟨Nat.zero_le _, by simpa using h⟩
  · exact ⟨Nat.zero_le _, by simpa using h1⟩

/-- A row before the eighth lies outside the stored states. -/
theorem not_mem_u (inb) (y : S520x1024.Idx) (h : (y 0 : ℕ) < 8) : y ∉ (Rect.unit (s := S520x1024) ![8, 0] ![512, 1024] inb).set := by
  rw [Rect.mem_set_unit]
  intro h'
  have := (h' 0).1
  simp at this
  omega

/-- A row's normed convolution, its two earlier states read from the buffer. -/
theorem c_apply (s : Fin 8 → Fin 1024 → EReal) (inb1 inb2 inb3) (u1 u2 : Vec Ideal S512x1024 .f32)
    (h1 : ∀ (r : Fin 512) (j : Fin 1024), u1 (ix2 r j) = bufB x0 x4 x5 x6 s ⟨7 + r.val, by omega⟩ j)
    (h2 : ∀ (r : Fin 512) (j : Fin 1024), u2 (ix2 r j) = bufB x0 x4 x5 x6 s ⟨6 + r.val, by omega⟩ j) (r : Fin 512) (d : Fin 1024) :
    k0_pay68 (k0_pay65 (k0_pay3 x0 x4 x5) (View.ld x6 (Rect.unit (s := S2048x4224) ![0, 1152] ![2048, 1024] inb1)))
        (k0_pay66 (k0_pay3 x0 x4 x5) (View.ld x6 (Rect.unit (s := S2048x4224) ![0, 2176] ![2048, 1024] inb2))
          (View.ld x6 (Rect.unit (s := S2048x4224) ![0, 3200] ![2048, 1024] inb3))) u1 u2 x13 x14 (ix3 0 r d)
      = cB x0 x4 x5 x6 x13 x14 s r d := by
  refine (pay68_apply _ _ _ _ _ _ r d).trans ?_
  have e1 : (fun j => k0_pay65 (k0_pay3 x0 x4 x5) (View.ld x6 (Rect.unit (s := S2048x4224) ![0, 1152] ![2048, 1024] inb1)) (ix2 r j))
      = fun j : Fin 1024 => prB x0 x4 x5 x6 r ⟨1152 + j.val, by omega⟩ :=
    funext fun j => (pay65_apply _ _ r j).trans (dotp_cols x0 x4 x5 x6 1152 inb1 r j _)
  rw [e1, funext fun j => u_apply x0 x4 x5 x6 inb2 inb3 r j, funext (h1 r), funext (h2 r)]
  rfl

end Cert.Inp

end
-- ==== Proof.InpOut.lean ====
module

public import proofs.«01_k».proof.Proof.InpFrameI
public import proofs.«01_k».proof.Proof.InpBody

@[expose] public section

set_option maxRecDepth 16384

noncomputable section

/-! What a grid point of the input projection leaves in each output block and in the carried rows. -/

namespace Cert.Inp

open Cert.Kernel3Ideal Cert.Kernel3Ideal.Gen Cert.InpI Cert.Mix
open Idealize.ShloMosaic Idealize.ShloMosaic.TcCoe Idealize.ShloMosaic.Tactic

/-- Every index of a three-axis array is a triple. -/
theorem exists_ix3 {n0 n1 n2 : ℕ} (y : (⟨3, ![n0, n1, n2]⟩ : Shape).Idx) : ∃ a b c, y = ix3 a b c :=
  ⟨y 0, y 1, y 2, by funext a; fin_cases a <;> rfl⟩

/-- A load of all of the tile is the tile. -/
theorem ld_S1x512x2048 (X : Vec Ideal S1x512x2048 .f32) (inb) : View.ld X (Rect.unit (s := S1x512x2048) ![0, 0, 0] ![1, 512, 2048] inb) = X :=
  funext fun y => View.ld_unit_apply_of _ _ _ _ _ _ fun a => by fin_cases a <;> simp

/-- A load of all of a table is a table. -/
theorem ld_S512x128 (X : Vec Ideal S512x128 .f32) (inb) : View.ld X (Rect.unit (s := S512x128) ![0, 0] ![512, 128] inb) = X :=
  funext fun y => View.ld_unit_apply_of _ _ _ _ _ _ fun a => by fin_cases a <;> simp

/-- A load of all of the first rows is the first rows. -/
theorem ld_S8x1024 (X : Vec Ideal S8x1024 .f32) (inb) : View.ld X (Rect.unit (s := S8x1024) ![0, 0] ![8, 1024] inb) = X :=
  funext fun y => View.ld_unit_apply_of _ _ _ _ _ _ fun a => by fin_cases a <;> simp

/-- A load of all of a norm is a norm. -/
theorem ld_S1x2048 (X : Vec Ideal S1x2048 .f32) (inb) : View.ld X (Rect.unit (s := S1x2048) ![0, 0] ![1, 2048] inb) = X :=
  funext fun y => View.ld_unit_apply_of _ _ _ _ _ _ fun a => by fin_cases a <;> simp

/-- A load of all of the query gains is the query gains. -/
theorem ld_S1x384 (X : Vec Ideal S1x384 .f32) (inb) : View.ld X (Rect.unit (s := S1x384) ![0, 0] ![1, 384] inb) = X :=
  funext fun y => View.ld_unit_apply_of _ _ _ _ _ _ fun a => by fin_cases a <;> simp

/-- A load of all of the key gains is the key gains. -/
theorem ld_S1x512 (X : Vec Ideal S1x512 .f32) (inb) : View.ld X (Rect.unit (s := S1x512) ![0, 0] ![1, 512] inb) = X :=
  funext fun y => View.ld_unit_apply_of _ _ _ _ _ _ fun a => by fin_cases a <;> simp

/-- A load of all of the taps is the taps. -/
theorem ld_S3x1024 (X : Vec Ideal S3x1024 .f32) (inb) : View.ld X (Rect.unit (s := S3x1024) ![0, 0] ![3, 1024] inb) = X :=
  funext fun y => View.ld_unit_apply_of _ _ _ _ _ _ fun a => by fin_cases a <;> simp

/-- A load of all of the convolution gains is the convolution gains. -/
theorem ld_S1x1024 (X : Vec Ideal S1x1024 .f32) (inb) : View.ld X (Rect.unit (s := S1x1024) ![0, 0] ![1, 1024] inb) = X :=
  funext fun y => View.ld_unit_apply_of _ _ _ _ _ _ fun a => by fin_cases a <;> simp

/-- A load of rows of the buffer just stored reads what every stored piece agrees with. -/
theorem readCov_buf {κ : Kind} {sp : Space} (v : View sig κ sp S520x1024 .f32) (L : List (View.Piece (Elt Ideal) S520x1024 .f32)) (G : S520x1024.Idx → EReal)
    (hL : ∀ p ∈ L, ∀ x, p.2 x = G (p.1.emb x)) (o R : ℕ) (inb) (hcov : ∀ y : S520x1024.Idx, o ≤ (y 0 : ℕ) → ∃ p ∈ L, y ∈ p.1.set)
    (r : Fin R) (j : Fin 1024) (h : o + r.val < 520) :
    v.readCov L (Rect.unit (s := S520x1024) ![o, 0] ![R, 1024] inb).toLoadRect (ix2 r j) = G (ix2 ⟨o + r.val, h⟩ j) := by
  have e : (Rect.unit (s := S520x1024) ![o, 0] ![R, 1024] inb).toLoadRect.idx (ix2 r j) = ix2 ⟨o + r.val, h⟩ j :=
    funext fun b => Fin.ext ((Rect.idx_unit_val _ _ _ _ _).trans (by fin_cases b <;> simp [ix2]))
  rw [View.readCov_eq_canon']
  show View.canon L ((Rect.unit (s := S520x1024) ![o, 0] ![R, 1024] inb).toLoadRect.idx (ix2 r j)) = _
  rw [e]
  exact View.canon_apply_of_pieces G L hL _ (hcov (ix2 ⟨o + r.val, h⟩ j) (by show o ≤ o + r.val; omega))

/-- A load of rows of the carried buffer under one store of states reads the states, and the carried rows before them. -/
theorem ld_buf {κ : Kind} {sp : Space} (v : View sig κ sp S520x1024 .f32) (f : v.ty.Contents (Elt Ideal)) (xs : Vec Ideal S520x1024 .f32) (hf : v.read (Elt Ideal) f = xs)
    (x0 : Vec Ideal S1x512x2048 .f32) (x4 x5 : Vec Ideal S1x2048 .f32) (x6 : Vec Ideal S2048x4224 .bf16) (inb8 inb6 inb6') (o : ℕ) (inb) (r : Fin 512) (j : Fin 1024) (h : o + r.val < 520) :
    View.ld (View.read (Elt Ideal) v (v.writes (Elt Ideal) f [⟨Rect.unit (s := S520x1024) ![8, 0] ![512, 1024] inb8,
        k0_pay67 (k0_pay3 x0 x4 x5) (View.ld x6 (Rect.unit (s := S2048x4224) ![0, 2176] ![2048, 1024] inb6))
        (View.ld x6 (Rect.unit (s := S2048x4224) ![0, 3200] ![2048, 1024] inb6'))⟩])) (Rect.unit (s := S520x1024) ![o, 0] ![512, 1024] inb) (ix2 r j)
      = bufB x0 x4 x5 x6 (fun n j => xs (ix2 ⟨n.val, by omega⟩ j)) ⟨o + r.val, h⟩ j := by
  refine (View.ld_unit_apply_of _ _ _ _ _ (ix2 ⟨o + r.val, h⟩ j) fun a => by fin_cases a <;> simp [ix2]).trans ?_
  by_cases h8 : o + r.val < 8
  · rw [View.read_writes_apply_of_forall_not_mem v f _ _ (by simp only [List.forall_mem_cons]; exact ⟨not_mem_u _ _ h8, by simp⟩), hf, bufB, dif_pos h8]
  · refine View.read_writes_apply_of_pieces v f (fun y : S520x1024.Idx => bufB x0 x4 x5 x6 (fun n j => xs (ix2 ⟨n.val, by omega⟩ j)) (y 0) (y 1)) _ ?_ _
      ⟨_, List.mem_cons_self, mem_u inb8 _ (by show 8 ≤ o + r.val; omega)⟩
    simp only [List.forall_mem_cons]
    exact ⟨fun x => u_store x0 x4 x5 x6 _ _ _ _ x, by simp⟩

/-- The stored states and the rows stored first fill the buffer. -/
theorem cover_buf (inb inb') (a : (Rect.unit (s := S520x1024) ![8, 0] ![512, 1024] inb).shape.Idx → EReal)
    (b : (Rect.unit (s := S520x1024) ![0, 0] ![8, 1024] inb').shape.Idx → EReal) (y : S520x1024.Idx) :
    ∃ p ∈ ([⟨Rect.unit (s := S520x1024) ![8, 0] ![512, 1024] inb, a⟩, ⟨Rect.unit (s := S520x1024) ![0, 0] ![8, 1024] inb', b⟩] :
      List (View.Piece (Elt Ideal) S520x1024 .f32)), y ∈ p.1.set := by
  by_cases h : (y 0 : ℕ) < 8
  · exact ⟨_, List.mem_cons_of_mem _ List.mem_cons_self, mem_s inb' y h⟩
  · exact ⟨_, List.mem_cons_self, mem_u inb y (Nat.le_of_not_lt h)⟩

/-- The stored states fill the buffer's last eight rows. -/
theorem cover_tail (inb) (a : (Rect.unit (s := S520x1024) ![8, 0] ![512, 1024] inb).shape.Idx → EReal)
    (L : List (View.Piece (Elt Ideal) S520x1024 .f32)) (y : S520x1024.Idx) (h : 512 ≤ (y 0 : ℕ)) :
    ∃ p ∈ ((⟨Rect.unit (s := S520x1024) ![8, 0] ![512, 1024] inb, a⟩ : View.Piece (Elt Ideal) S520x1024 .f32) :: L), y ∈ p.1.set :=
  ⟨_, List.mem_cons_self, mem_u inb y (Nat.le_trans (by decide) h)⟩

/-- An index of the carried rows. -/
theorem emb_carry (inb) (n : Fin 520) (h : n.val < 8) (j : Fin 1024) :
    (ix2 n j : S520x1024.Idx) = (Rect.unit (s := S520x1024) ![0, 0] ![8, 1024] inb).emb (ix2 (⟨n.val, h⟩ : Fin 8) j) :=
  funext fun b => Fin.ext ((Rect.idx_unit_val _ _ _ _ _).trans (by fin_cases b <;> simp [ix2])).symm

/-- An index of the convolution's block. -/
theorem emb_conv (inb) (r : Fin 512) (d : Fin 1024) :
    (Rect.unit (s := S1x512x1024) ![0, 0, 0] S1x512x1024.size inb).emb (ix3 0 r d) = ix3 0 r d :=
  funext fun b => Fin.ext ((Rect.idx_unit_val _ _ _ _ _).trans (by fin_cases b <;> simp [ix3]))

section First

variable (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4224 .bf16) (harg8 : arg8.IsWhole) (arg9 : Memref sig .tc .vmem S1x384 .f32) (harg9 : arg9.IsWhole) (arg10 : Memref sig .tc .vmem S1x512 .f32) (harg10 : arg10.IsWhole) (arg11 : Memref sig .tc .vmem S384x2048 .bf16) (harg11 : arg11.IsWhole) (arg12 : Memref sig .tc .vmem S384x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1x8x512x256 .bf16) (harg17 : arg17.IsWhole) (arg18 : Memref sig .tc .vmem S1x8x512x256 .bf16) (harg18 : arg18.IsWhole) (arg19 : Memref sig .tc .vmem S1x8x512x128 .bf16) (harg19 : arg19.IsWhole) (arg20 : Memref sig .tc .vmem S1x512x1024 .bf16) (harg20 : arg20.IsWhole) (arg21 : Memref sig .tc .vmem S1x8x1024 .f32) (harg21 : arg21.IsWhole) (arg22 : Memref sig .tc .vmem S520x1024 .f32) (harg22 : arg22.IsWhole) (hc0 : cond0_0 i)
    (x0 : Vec Ideal S1x512x2048 .f32) (x1 : Vec Ideal S512x128 .f32) (x2 : Vec Ideal S512x128 .f32) (x3 : Vec Ideal S8x1024 .f32) (x4 : Vec Ideal S1x2048 .f32) (x5 : Vec Ideal S1x2048 .f32) (x6 : Vec Ideal S2048x4224 .bf16) (x7 : Vec Ideal S1x384 .f32) (x8 : Vec Ideal S1x512 .f32) (x9 : Vec Ideal S384x2048 .bf16) (x10 : Vec Ideal S384x1024 .bf16) (x11 : Vec Ideal S512x1024 .bf16) (x12 : Vec Ideal S512x1024 .bf16) (x13 : Vec Ideal S3x1024 .f32) (x14 : Vec Ideal S1x1024 .f32)

/-- The queries a first point leaves. -/
theorem outA_15_apply (y : S1x8x512x256.Idx) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 y = qB x0 x1 x2 x4 x5 x6 x7 x9 x10 (y 2) (y 1) (y 3) := by
  refine View.read_writes_apply_of_pieces _ _ (fun y : S1x8x512x256.Idx => qB x0 x1 x2 x4 x5 x6 x7 x9 x10 (y 2) (y 1) (y 3)) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 y)
  dsimp only [kernelRun0_A]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  simp only [List.forall_mem_cons]
  exact ⟨fun x => q_store_rot x0 x1 x2 x4 x5 x6 x7 x9 x10 7 1792 896 (by decide) rfl rfl _ _ _ _ x, fun x => q_store_plain x0 x1 x2 x4 x5 x6 x7 x9 x10 7 1792 (by decide) rfl _ _ _ x,
    fun x => q_store_rot x0 x1 x2 x4 x5 x6 x7 x9 x10 6 1536 768 (by decide) rfl rfl _ _ _ _ x, fun x => q_store_plain x0 x1 x2 x4 x5 x6 x7 x9 x10 6 1536 (by decide) rfl _ _ _ x,
    fun x => q_store_rot x0 x1 x2 x4 x5 x6 x7 x9 x10 5 1280 640 (by decide) rfl rfl _ _ _ _ x, fun x => q_store_plain x0 x1 x2 x4 x5 x6 x7 x9 x10 5 1280 (by decide) rfl _ _ _ x,
    fun x => q_store_rot x0 x1 x2 x4 x5 x6 x7 x9 x10 4 1024 512 (by decide) rfl rfl _ _ _ _ x, fun x => q_store_plain x0 x1 x2 x4 x5 x6 x7 x9 x10 4 1024 (by decide) rfl _ _ _ x,
    fun x => q_store_rot x0 x1 x2 x4 x5 x6 x7 x9 x10 3 768 384 (by decide) rfl rfl _ _ _ _ x, fun x => q_store_plain x0 x1 x2 x4 x5 x6 x7 x9 x10 3 768 (by decide) rfl _ _ _ x,
    fun x => q_store_rot x0 x1 x2 x4 x5 x6 x7 x9 x10 2 512 256 (by decide) rfl rfl _ _ _ _ x, fun x => q_store_plain x0 x1 x2 x4 x5 x6 x7 x9 x10 2 512 (by decide) rfl _ _ _ x,
    fun x => q_store_rot x0 x1 x2 x4 x5 x6 x7 x9 x10 1 256 128 (by decide) rfl rfl _ _ _ _ x, fun x => q_store_plain x0 x1 x2 x4 x5 x6 x7 x9 x10 1 256 (by decide) rfl _ _ _ x,
    fun x => q_store_rot x0 x1 x2 x4 x5 x6 x7 x9 x10 0 0 0 (by decide) rfl rfl _ _ _ _ x, fun x => q_store_plain x0 x1 x2 x4 x5 x6 x7 x9 x10 0 0 (by decide) rfl _ _ _ x, by simp⟩

/-- The keys a first point leaves. -/
theorem outA_16_apply (y : S1x8x512x256.Idx) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 y = kB x0 x1 x2 x4 x5 x6 x8 x11 (y 2) (y 1) (y 3) := by
  refine View.read_writes_apply_of_pieces _ _ (fun y : S1x8x512x256.Idx => kB x0 x1 x2 x4 x5 x6 x8 x11 (y 2) (y 1) (y 3)) _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 y)
  dsimp only [kernelRun0_A]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  simp only [List.forall_mem_cons]
  exact ⟨fun x => k_store_rot x0 x1 x2 x4 x5 x6 x8 x11 7 (by decide) _ _ _ x, fun x => k_store_plain x0 x1 x2 x4 x5 x6 x8 x11 7 896 (by decide) rfl _ _ _ x,
    fun x => k_store_rot x0 x1 x2 x4 x5 x6 x8 x11 6 (by decide) _ _ _ x, fun x => k_store_plain x0 x1 x2 x4 x5 x6 x8 x11 6 768 (by decide) rfl _ _ _ x,
    fun x => k_store_rot x0 x1 x2 x4 x5 x6 x8 x11 5 (by decide) _ _ _ x, fun x => k_store_plain x0 x1 x2 x4 x5 x6 x8 x11 5 640 (by decide) rfl _ _ _ x,
    fun x => k_store_rot x0 x1 x2 x4 x5 x6 x8 x11 4 (by decide) _ _ _ x, fun x => k_store_plain x0 x1 x2 x4 x5 x6 x8 x11 4 512 (by decide) rfl _ _ _ x,
    fun x => k_store_rot x0 x1 x2 x4 x5 x6 x8 x11 3 (by decide) _ _ _ x, fun x => k_store_plain x0 x1 x2 x4 x5 x6 x8 x11 3 384 (by decide) rfl _ _ _ x,
    fun x => k_store_rot x0 x1 x2 x4 x5 x6 x8 x11 2 (by decide) _ _ _ x, fun x => k_store_plain x0 x1 x2 x4 x5 x6 x8 x11 2 256 (by decide) rfl _ _ _ x,
    fun x => k_store_rot x0 x1 x2 x4 x5 x6 x8 x11 1 (by decide) _ _ _ x, fun x => k_store_plain x0 x1 x2 x4 x5 x6 x8 x11 1 128 (by decide) rfl _ _ _ x,
    fun x => k_store_rot x0 x1 x2 x4 x5 x6 x8 x11 0 (by decide) _ _ _ x, fun x => k_store_plain x0 x1 x2 x4 x5 x6 x8 x11 0 0 (by decide) rfl _ _ _ x, by simp⟩

/-- The values a first point leaves. -/
theorem outA_17_apply (y : S1x8x512x128.Idx) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 y = vB x0 x4 x5 x6 x8 x12 (y 2) (y 1) (y 3) := by
  refine View.read_writes_apply_of_pieces _ _ (fun y : S1x8x512x128.Idx => vB x0 x4 x5 x6 x8 x12 (y 2) (y 1) (y 3)) _ ?_ y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 y)
  dsimp only [kernelRun0_A]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  simp only [List.forall_mem_cons]
  exact ⟨fun x => v_store x0 x4 x5 x6 x8 x12 7 896 (by decide) rfl _ _ _ x,
    fun x => v_store x0 x4 x5 x6 x8 x12 6 768 (by decide) rfl _ _ _ x,
    fun x => v_store x0 x4 x5 x6 x8 x12 5 640 (by decide) rfl _ _ _ x,
    fun x => v_store x0 x4 x5 x6 x8 x12 4 512 (by decide) rfl _ _ _ x,
    fun x => v_store x0 x4 x5 x6 x8 x12 3 384 (by decide) rfl _ _ _ x,
    fun x => v_store x0 x4 x5 x6 x8 x12 2 256 (by decide) rfl _ _ _ x,
    fun x => v_store x0 x4 x5 x6 x8 x12 1 128 (by decide) rfl _ _ _ x,
    fun x => v_store x0 x4 x5 x6 x8 x12 0 0 (by decide) rfl _ _ _ x, by simp⟩

/-- The normed convolution a first point leaves. -/
theorem outA_18_apply (y : S1x512x1024.Idx) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 y = cB x0 x4 x5 x6 x13 x14 (fun n j => x3 (ix2 n j)) (y 1) (y 2) := by
  refine View.read_writes_apply_of_pieces _ _ (fun y : S1x512x1024.Idx => cB x0 x4 x5 x6 x13 x14 (fun n j => x3 (ix2 n j)) (y 1) (y 2)) _ ?_ y (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 y)
  dsimp only [kernelRun0_A]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  simp only [List.forall_mem_cons]
  refine ⟨fun x => ?_, by simp⟩
  obtain ⟨z, r, d, rfl⟩ : ∃ (a : Fin 1) (r : Fin 512) (d : Fin 1024), x = ix3 a r d := exists_ix3 x
  obtain rfl : z = 0 := Subsingleton.elim _ _
  rw [emb_conv]
  refine c_apply x0 x4 x5 x6 x13 x14 _ _ _ _ _ _ (fun r j => readCov_buf _ _ (fun y : S520x1024.Idx => bufB x0 x4 x5 x6 (fun n j => x3 (ix2 n j)) (y 0) (y 1)) ?_ 7 512 _ ?_ r j _) (fun r j => readCov_buf _ _ (fun y : S520x1024.Idx => bufB x0 x4 x5 x6 (fun n j => x3 (ix2 n j)) (y 0) (y 1)) ?_ 6 512 _ ?_ r j _) r d
  all_goals first
    | exact fun y _ => cover_buf _ _ _ _ y
    | (simp only [List.forall_mem_cons]
       exact ⟨fun x => u_store x0 x4 x5 x6 _ _ _ _ x, fun x => s_store x0 x4 x5 x6 x3 _ x, by simp⟩)

/-- The first eight rows a first point carries on are its tile's last states. -/
theorem soutA_apply (n : Fin 520) (h : n.val < 8) (j : Fin 1024) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix2 n j) = uB x0 x4 x5 x6 ⟨504 + n.val, by omega⟩ j := by
  unfold sout0_A_0
  dsimp only [kernelRun0_A]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  rw [emb_carry inb_S520x1024_S8x1024_0_0 n h j]
  refine (View.read_writes_cons_emb _ _ _ _ _ _).trans ?_
  refine (readCov_buf _ _ (fun y : S520x1024.Idx => bufB x0 x4 x5 x6 (fun n j => x3 (ix2 n j)) (y 0) (y 1)) ?_ 512 8 _
    (fun y hy => cover_tail _ _ _ y hy) _ j (by show 512 + n.val < 520; omega)).trans ?_
  · simp only [List.forall_mem_cons]
    exact ⟨fun x => u_store x0 x4 x5 x6 _ _ _ _ x, fun x => s_store x0 x4 x5 x6 x3 _ x, by simp⟩
  · show bufB x0 x4 x5 x6 _ ⟨512 + n.val, _⟩ j = _
    rw [bufB, dif_neg (show ¬512 + n.val < 8 by omega)]
    exact congrArg (fun e => uB x0 x4 x5 x6 e j) (Fin.ext (by show 512 + n.val - 8 = 504 + n.val; omega))

end First

section Later

variable (c : Dev nD) (i : grid0.Coords) (arg2 : Memref sig .tc .vmem S1x512x2048 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8x1024 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x4224 .bf16) (harg8 : arg8.IsWhole) (arg9 : Memref sig .tc .vmem S1x384 .f32) (harg9 : arg9.IsWhole) (arg10 : Memref sig .tc .vmem S1x512 .f32) (harg10 : arg10.IsWhole) (arg11 : Memref sig .tc .vmem S384x2048 .bf16) (harg11 : arg11.IsWhole) (arg12 : Memref sig .tc .vmem S384x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S3x1024 .f32) (harg15 : arg15.IsWhole) (arg16 : Memref sig .tc .vmem S1x1024 .f32) (harg16 : arg16.IsWhole) (arg17 : Memref sig .tc .vmem S1x8x512x256 .bf16) (harg17 : arg17.IsWhole) (arg18 : Memref sig .tc .vmem S1x8x512x256 .bf16) (harg18 : arg18.IsWhole) (arg19 : Memref sig .tc .vmem S1x8x512x128 .bf16) (harg19 : arg19.IsWhole) (arg20 : Memref sig .tc .vmem S1x512x1024 .bf16) (harg20 : arg20.IsWhole) (arg21 : Memref sig .tc .vmem S1x8x1024 .f32) (harg21 : arg21.IsWhole) (arg22 : Memref sig .tc .vmem S520x1024 .f32) (harg22 : arg22.IsWhole) (hc0 : ¬cond0_0 i)
    (x0 : Vec Ideal S1x512x2048 .f32) (x1 : Vec Ideal S512x128 .f32) (x2 : Vec Ideal S512x128 .f32) (x3 : Vec Ideal S8x1024 .f32) (x4 : Vec Ideal S1x2048 .f32) (x5 : Vec Ideal S1x2048 .f32) (x6 : Vec Ideal S2048x4224 .bf16) (x7 : Vec Ideal S1x384 .f32) (x8 : Vec Ideal S1x512 .f32) (x9 : Vec Ideal S384x2048 .bf16) (x10 : Vec Ideal S384x1024 .bf16) (x11 : Vec Ideal S512x1024 .bf16) (x12 : Vec Ideal S512x1024 .bf16) (x13 : Vec Ideal S3x1024 .f32) (x14 : Vec Ideal S1x1024 .f32) (xs0 : Vec Ideal S520x1024 .f32)

/-- The queries a later point leaves. -/
theorem outB_15_apply (y : S1x8x512x256.Idx) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 y = qB x0 x1 x2 x4 x5 x6 x7 x9 x10 (y 2) (y 1) (y 3) := by
  refine View.read_writes_apply_of_pieces _ _ (fun y : S1x8x512x256.Idx => qB x0 x1 x2 x4 x5 x6 x7 x9 x10 (y 2) (y 1) (y 3)) _ ?_ y (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 y)
  dsimp only [kernelRun0_B]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  simp only [List.forall_mem_cons]
  exact ⟨fun x => q_store_rot x0 x1 x2 x4 x5 x6 x7 x9 x10 7 1792 896 (by decide) rfl rfl _ _ _ _ x, fun x => q_store_plain x0 x1 x2 x4 x5 x6 x7 x9 x10 7 1792 (by decide) rfl _ _ _ x,
    fun x => q_store_rot x0 x1 x2 x4 x5 x6 x7 x9 x10 6 1536 768 (by decide) rfl rfl _ _ _ _ x, fun x => q_store_plain x0 x1 x2 x4 x5 x6 x7 x9 x10 6 1536 (by decide) rfl _ _ _ x,
    fun x => q_store_rot x0 x1 x2 x4 x5 x6 x7 x9 x10 5 1280 640 (by decide) rfl rfl _ _ _ _ x, fun x => q_store_plain x0 x1 x2 x4 x5 x6 x7 x9 x10 5 1280 (by decide) rfl _ _ _ x,
    fun x => q_store_rot x0 x1 x2 x4 x5 x6 x7 x9 x10 4 1024 512 (by decide) rfl rfl _ _ _ _ x, fun x => q_store_plain x0 x1 x2 x4 x5 x6 x7 x9 x10 4 1024 (by decide) rfl _ _ _ x,
    fun x => q_store_rot x0 x1 x2 x4 x5 x6 x7 x9 x10 3 768 384 (by decide) rfl rfl _ _ _ _ x, fun x => q_store_plain x0 x1 x2 x4 x5 x6 x7 x9 x10 3 768 (by decide) rfl _ _ _ x,
    fun x => q_store_rot x0 x1 x2 x4 x5 x6 x7 x9 x10 2 512 256 (by decide) rfl rfl _ _ _ _ x, fun x => q_store_plain x0 x1 x2 x4 x5 x6 x7 x9 x10 2 512 (by decide) rfl _ _ _ x,
    fun x => q_store_rot x0 x1 x2 x4 x5 x6 x7 x9 x10 1 256 128 (by decide) rfl rfl _ _ _ _ x, fun x => q_store_plain x0 x1 x2 x4 x5 x6 x7 x9 x10 1 256 (by decide) rfl _ _ _ x,
    fun x => q_store_rot x0 x1 x2 x4 x5 x6 x7 x9 x10 0 0 0 (by decide) rfl rfl _ _ _ _ x, fun x => q_store_plain x0 x1 x2 x4 x5 x6 x7 x9 x10 0 0 (by decide) rfl _ _ _ x, by simp⟩

/-- The keys a later point leaves. -/
theorem outB_16_apply (y : S1x8x512x256.Idx) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 y = kB x0 x1 x2 x4 x5 x6 x8 x11 (y 2) (y 1) (y 3) := by
  refine View.read_writes_apply_of_pieces _ _ (fun y : S1x8x512x256.Idx => kB x0 x1 x2 x4 x5 x6 x8 x11 (y 2) (y 1) (y 3)) _ ?_ y (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 y)
  dsimp only [kernelRun0_B]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  simp only [List.forall_mem_cons]
  exact ⟨fun x => k_store_rot x0 x1 x2 x4 x5 x6 x8 x11 7 (by decide) _ _ _ x, fun x => k_store_plain x0 x1 x2 x4 x5 x6 x8 x11 7 896 (by decide) rfl _ _ _ x,
    fun x => k_store_rot x0 x1 x2 x4 x5 x6 x8 x11 6 (by decide) _ _ _ x, fun x => k_store_plain x0 x1 x2 x4 x5 x6 x8 x11 6 768 (by decide) rfl _ _ _ x,
    fun x => k_store_rot x0 x1 x2 x4 x5 x6 x8 x11 5 (by decide) _ _ _ x, fun x => k_store_plain x0 x1 x2 x4 x5 x6 x8 x11 5 640 (by decide) rfl _ _ _ x,
    fun x => k_store_rot x0 x1 x2 x4 x5 x6 x8 x11 4 (by decide) _ _ _ x, fun x => k_store_plain x0 x1 x2 x4 x5 x6 x8 x11 4 512 (by decide) rfl _ _ _ x,
    fun x => k_store_rot x0 x1 x2 x4 x5 x6 x8 x11 3 (by decide) _ _ _ x, fun x => k_store_plain x0 x1 x2 x4 x5 x6 x8 x11 3 384 (by decide) rfl _ _ _ x,
    fun x => k_store_rot x0 x1 x2 x4 x5 x6 x8 x11 2 (by decide) _ _ _ x, fun x => k_store_plain x0 x1 x2 x4 x5 x6 x8 x11 2 256 (by decide) rfl _ _ _ x,
    fun x => k_store_rot x0 x1 x2 x4 x5 x6 x8 x11 1 (by decide) _ _ _ x, fun x => k_store_plain x0 x1 x2 x4 x5 x6 x8 x11 1 128 (by decide) rfl _ _ _ x,
    fun x => k_store_rot x0 x1 x2 x4 x5 x6 x8 x11 0 (by decide) _ _ _ x, fun x => k_store_plain x0 x1 x2 x4 x5 x6 x8 x11 0 0 (by decide) rfl _ _ _ x, by simp⟩

/-- The values a later point leaves. -/
theorem outB_17_apply (y : S1x8x512x128.Idx) :
    out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 y = vB x0 x4 x5 x6 x8 x12 (y 2) (y 1) (y 3) := by
  refine View.read_writes_apply_of_pieces _ _ (fun y : S1x8x512x128.Idx => vB x0 x4 x5 x6 x8 x12 (y 2) (y 1) (y 3)) _ ?_ y (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 y)
  dsimp only [kernelRun0_B]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  simp only [List.forall_mem_cons]
  exact ⟨fun x => v_store x0 x4 x5 x6 x8 x12 7 896 (by decide) rfl _ _ _ x,
    fun x => v_store x0 x4 x5 x6 x8 x12 6 768 (by decide) rfl _ _ _ x,
    fun x => v_store x0 x4 x5 x6 x8 x12 5 640 (by decide) rfl _ _ _ x,
    fun x => v_store x0 x4 x5 x6 x8 x12 4 512 (by decide) rfl _ _ _ x,
    fun x => v_store x0 x4 x5 x6 x8 x12 3 384 (by decide) rfl _ _ _ x,
    fun x => v_store x0 x4 x5 x6 x8 x12 2 256 (by decide) rfl _ _ _ x,
    fun x => v_store x0 x4 x5 x6 x8 x12 1 128 (by decide) rfl _ _ _ x,
    fun x => v_store x0 x4 x5 x6 x8 x12 0 0 (by decide) rfl _ _ _ x, by simp⟩

/-- The normed convolution a later point leaves. -/
theorem outB_18_apply (y : S1x512x1024.Idx) :
    out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 y = cB x0 x4 x5 x6 x13 x14 (fun n j => xs0 (ix2 ⟨n.val, by omega⟩ j)) (y 1) (y 2) := by
  refine View.read_writes_apply_of_pieces _ _ (fun y : S1x512x1024.Idx => cB x0 x4 x5 x6 x13 x14 (fun n j => xs0 (ix2 ⟨n.val, by omega⟩ j)) (y 1) (y 2)) _ ?_ y (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 y)
  dsimp only [kernelRun0_B]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  simp only [List.forall_mem_cons]
  refine ⟨fun x => ?_, by simp⟩
  obtain ⟨z, r, d, rfl⟩ : ∃ (a : Fin 1) (r : Fin 512) (d : Fin 1024), x = ix3 a r d := exists_ix3 x
  obtain rfl : z = 0 := Subsingleton.elim _ _
  rw [emb_conv]
  refine c_apply x0 x4 x5 x6 x13 x14 _ _ _ _ _ _ (fun r j => ld_buf _ _ xs0 (harg22.read_unread xs0) x0 x4 x5 x6 _ _ _ 7 _ r j _) (fun r j => ld_buf _ _ xs0 (harg22.read_unread xs0) x0 x4 x5 x6 _ _ _ 6 _ r j _) r d

/-- The first eight rows a later point carries on are its tile's last states. -/
theorem soutB_apply (n : Fin 520) (h : n.val < 8) (j : Fin 1024) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 (ix2 n j) = uB x0 x4 x5 x6 ⟨504 + n.val, by omega⟩ j := by
  unfold sout0_B_0
  dsimp only [kernelRun0_B]
  sl_unfold_run_names
  simp only [View.readAt_eq_ld, Memref.IsWhole.read_unread, ld_S1x512x2048, ld_S512x128, ld_S8x1024, ld_S1x2048, ld_S1x384, ld_S1x512, ld_S3x1024, ld_S1x1024,
    pay1_eq, pay2_eq, pay4_eq, pay5_eq, pay6_eq, pay9_eq]
  rw [emb_carry inb_S520x1024_S8x1024_0_0 n h j]
  refine (View.read_writes_cons_emb _ _ _ _ _ _).trans ?_
  refine (readCov_buf _ _ (fun y : S520x1024.Idx => bufB x0 x4 x5 x6 (fun _ _ => 0) (y 0) (y 1)) ?_ 512 8 _
    (fun y hy => cover_tail _ _ _ y hy) _ j (by show 512 + n.val < 520; omega)).trans ?_
  · simp only [List.forall_mem_cons]
    exact ⟨fun x => u_store x0 x4 x5 x6 _ _ _ _ x, by simp⟩
  · show bufB x0 x4 x5 x6 _ ⟨512 + n.val, _⟩ j = _
    rw [bufB, dif_neg (show ¬512 + n.val < 8 by omega)]
    exact congrArg (fun e => uB x0 x4 x5 x6 e j) (Fin.ext (by show 512 + n.val - 8 = 504 + n.val; omega))

end Later

end Cert.Inp

end
-- ==== Proof.InpTab.lean ====
module

public import proofs.«01_k».proof.Proof.Inp
public import proofs.«01_k».proof.Proof.Gen.Kernel3Ideal.Frame.Runs
public import Idealize.ShloMosaic.Lib.Pipeline.ValueKit
public import Idealize.ShloMosaic.Lib.Claim
public import Idealize.ShloMosaic.Lib.StableHlo.RunRead
public import Idealize.ShloMosaic.Lib.KernelVsHost

@[expose] public section

noncomputable section

/-! The input projection kernel's arguments as its blocks read them. -/

namespace Cert.Inp

open Cert.Kernel3Ideal Cert.Kernel3Ideal.Gen Idealize.ShloMosaic Idealize.ShloMosaic.TcCoe
open Idealize.ShloMosaic.Pipeline (Dat)
open scoped BigOperators

/-- The angles' frequencies. -/
def tabInv : Vec Ideal S32 .f32 :=
  Host.divf (F := Ideal) (φ := .f32) (broadcastInDim S32 ![] bcast_S_S32 (constant (F := Ideal) S_ .f32 0x3F800000#32))
    (Host.powf (F := Ideal) (φ := .f32) (broadcastInDim S32 ![] bcast_S_S32 (constant (F := Ideal) S_ .f32 0x461C4000#32))
      (Host.divf (F := Ideal) (φ := .f32) (addf (F := Ideal) (φ := .f32) (broadcastInDim S32 ![] bcast_S_S32 (constant (F := Ideal) S_ .f32 0x00000000#32))
          (mulf (F := Ideal) (φ := .f32) (broadcastInDim S32 ![] bcast_S_S32 (constant (F := Ideal) S_ .f32 0x40000000#32)) (sitofp (F := Ideal) .f32 (iotaInDim S32 32 0))))
        (broadcastInDim S32 ![] bcast_S_S32 (constant (F := Ideal) S_ .f32 0x42800000#32))))

/-- The positions after the meta tokens. -/
def tabPos : Vec Ideal S16384 .f32 :=
  addf (F := Ideal) (φ := .f32) (broadcastInDim S16384 ![] bcast_S_S16384 (constant (F := Ideal) S_ .f32 0x41800000#32)) (sitofp (F := Ideal) .f32 (iotaInDim S16384 32 0))

/-- The rotation's angles. -/
def tabAng : Vec Ideal S16384x32 .f32 :=
  mulf (F := Ideal) (φ := .f32) (broadcastInDim S16384x32 ![0, 1] bcast_S16384x1_S16384x32_0_1 (broadcastInDim S16384x1 ![0] bcast_S16384_S16384x1_0 tabPos))
    (broadcastInDim S16384x32 ![0, 1] bcast_S1x32_S16384x32_0_1 (broadcastInDim S1x32 ![1] bcast_S32_S1x32_1 tabInv))

/-- The cosines, twice, and zeros. -/
def tab1 : Vec Ideal S16384x128 .f32 :=
  concatenate S16384x128 1 [⟨S16384x32, Host.cos (F := Ideal) (φ := .f32) tabAng⟩, ⟨S16384x32, Host.cos (F := Ideal) (φ := .f32) tabAng⟩,
    ⟨S16384x64, broadcastInDim S16384x64 ![] bcast_S_S16384x64 (constant (F := Ideal) S_ .f32 0x00000000#32)⟩] concatenates_S16384x32_S16384x32_S16384x64_S16384x128_d1

/-- The negated sines, the sines, and zeros. -/
def tab2 : Vec Ideal S16384x128 .f32 :=
  concatenate S16384x128 1 [⟨S16384x32, Host.negf (F := Ideal) (φ := .f32) (Host.sin (F := Ideal) (φ := .f32) tabAng)⟩, ⟨S16384x32, Host.sin (F := Ideal) (φ := .f32) tabAng⟩,
    ⟨S16384x64, broadcastInDim S16384x64 ![] bcast_S_S16384x64 (constant (F := Ideal) S_ .f32 0x00000000#32)⟩] concatenates_S16384x32_S16384x32_S16384x64_S16384x128_d1

/-- An angle, at a position and a frequency. -/
theorem ang_apply (i : Fin 16384) (l : Fin 32) :
    tabAng (ix2 i l) = (Ideal.ofBits FTy.f32 1098907648#32 + FloatOps.sitofp (F := Ideal) FTy.f32 (BitVec.ofNat 32 i.val)) *
      Ideal.div 1
        (Ideal.pow (Ideal.ofBits FTy.f32 1176256512#32)
          (Ideal.div (Ideal.ofBits FTy.f32 1073741824#32 * FloatOps.sitofp (F := Ideal) FTy.f32 (BitVec.ofNat 32 l.val))
            (Ideal.ofBits FTy.f32 1115684864#32))) := by
  pointwise [tabAng, tabPos, tabInv]

/-- The first table, at a position and a lane. -/
theorem tab1_apply (i : Fin 16384) (l : Fin 128) : tab1 (ix2 i l)
    = if h : l.val < 32 then Ideal.cos (tabAng (ix2 i ⟨l.val, h⟩))
      else if h : l.val - 32 < 32 then Ideal.cos (tabAng (ix2 i ⟨l.val - 32, h⟩)) else 0 := by
  pointwise [tab1]

/-- The second table, at a position and a lane. -/
theorem tab2_apply (i : Fin 16384) (l : Fin 128) : tab2 (ix2 i l)
    = if h : l.val < 32 then -Ideal.sin (tabAng (ix2 i ⟨l.val, h⟩))
      else if h : l.val - 32 < 32 then Ideal.sin (tabAng (ix2 i ⟨l.val - 32, h⟩)) else 0 := by
  pointwise [tab2]

variable (m : (ℓ : Loc nD τ sig) → Buf (Elt Ideal) ℓ)

set_option maxHeartbeats 4000000 in
/-- The first table the kernel takes. -/
theorem tab1_entry (c : Dev nD) : V m c main_v62 = tab1 := by
  unfold V
  after_reads_simp
  rfl

set_option maxHeartbeats 4000000 in
/-- The second table the kernel takes. -/
theorem tab2_entry (c : Dev nD) : V m c main_v64 = tab2 := by
  unfold V
  after_reads_simp
  rfl

/-- The gain, laid out as a row, is the gain. -/
theorem ln_g_entry_cast (X : Vec Ideal S2048 .f32) (k : Fin 2048) : (shapeCast S1x2048 X shapeCasts_S2048_S1x2048) (ix2 0 k) = X (ix1 k) := by
  pointwise []

/-- The layer norm's gain. -/
theorem ln_g_entry (c : Dev nD) (k : Fin 2048) :
    V m c main_v31 (ix2 0 k) = m ((c : Thread nD τ).loc main_arg2) (ix1 k) := by
  have h : V m c main_v31 = shapeCast S1x2048 (m ((c : Thread nD τ).loc main_arg2)) shapeCasts_S2048_S1x2048 := by
    unfold V
    after_reads_simp
    rfl
  rw [h]
  exact ln_g_entry_cast _ k

/-- The shift, laid out as a row, is the shift. -/
theorem ln_b_entry_cast (X : Vec Ideal S2048 .f32) (k : Fin 2048) : (shapeCast S1x2048 X shapeCasts_S2048_S1x2048) (ix2 0 k) = X (ix1 k) := by
  pointwise []

/-- The layer norm's shift. -/
theorem ln_b_entry (c : Dev nD) (k : Fin 2048) :
    V m c main_v32 (ix2 0 k) = m ((c : Thread nD τ).loc main_arg3) (ix1 k) := by
  have h : V m c main_v32 = shapeCast S1x2048 (m ((c : Thread nD τ).loc main_arg3)) shapeCasts_S2048_S1x2048 := by
    unfold V
    after_reads_simp
    rfl
  rw [h]
  exact ln_b_entry_cast _ k

/-- The query gain, laid out twice, is the gain. -/
theorem qg_entry_cast (X : Vec Ideal S1x384 .f32) (k : Fin 384) : (shapeCast S1x384 (shapeCast S384 X shapeCasts_S1x384_S384) shapeCasts_S384_S1x384) (ix2 0 k) = X (ix2 0 k) := by
  pointwise []

/-- The query norm's gain. -/
theorem qg_entry (c : Dev nD) (k : Fin 384) :
    V m c main_v34 (ix2 0 k) = m ((c : Thread nD τ).loc main_arg5) (ix2 0 k) := by
  have h : V m c main_v34 = shapeCast S1x384 (shapeCast S384 (m ((c : Thread nD τ).loc main_arg5)) shapeCasts_S1x384_S384) shapeCasts_S384_S1x384 := by
    unfold V
    after_reads_simp
    rfl
  rw [h]
  exact qg_entry_cast _ k

/-- The key and value gain, laid out twice, is the gain. -/
theorem kvg_entry_cast (X : Vec Ideal S1x512 .f32) (k : Fin 512) : (shapeCast S1x512 (shapeCast S512 X shapeCasts_S1x512_S512) shapeCasts_S512_S1x512) (ix2 0 k) = X (ix2 0 k) := by
  pointwise []

/-- The key and value norm's gain. -/
theorem kvg_entry (c : Dev nD) (k : Fin 512) :
    V m c main_v36 (ix2 0 k) = m ((c : Thread nD τ).loc main_arg6) (ix2 0 k) := by
  have h : V m c main_v36 = shapeCast S1x512 (shapeCast S512 (m ((c : Thread nD τ).loc main_arg6)) shapeCasts_S1x512_S512) shapeCasts_S512_S1x512 := by
    unfold V
    after_reads_simp
    rfl
  rw [h]
  exact kvg_entry_cast _ k

/-- The convolution gain, laid out twice, is the gain. -/
theorem cg_entry_cast (X : Vec Ideal S1x1024 .f32) (k : Fin 1024) : (shapeCast S1x1024 (shapeCast S1024 X shapeCasts_S1x1024_S1024) shapeCasts_S1024_S1x1024) (ix2 0 k) = X (ix2 0 k) := by
  pointwise []

/-- The convolution norm's gain. -/
theorem cg_entry (c : Dev nD) (k : Fin 1024) :
    V m c main_v39 (ix2 0 k) = m ((c : Thread nD τ).loc main_arg10) (ix2 0 k) := by
  have h : V m c main_v39 = shapeCast S1x1024 (shapeCast S1024 (m ((c : Thread nD τ).loc main_arg10)) shapeCasts_S1x1024_S1024) shapeCasts_S1024_S1x1024 := by
    unfold V
    after_reads_simp
    rfl
  rw [h]
  exact cg_entry_cast _ k

/-- The earlier states, laid out as rows, are the states. -/
theorem tail_entry_cast (X : Vec Ideal S1x8x1024 .f32) (a : Fin 8) (k : Fin 1024) : (shapeCast S8x1024 X shapeCasts_S1x8x1024_S8x1024) (ix2 a k) = X (ix3 0 a k) := by
  pointwise []

/-- The states before the first position. -/
theorem tail_entry (c : Dev nD) (a : Fin 8) (k : Fin 1024) :
    V m c main_v65 (ix2 a k) = m ((c : Thread nD τ).loc main_arg1) (ix3 0 a k) := by
  have h : V m c main_v65 = shapeCast S8x1024 (m ((c : Thread nD τ).loc main_arg1)) shapeCasts_S1x8x1024_S8x1024 := by
    unfold V
    after_reads_simp
    rfl
  rw [h]
  exact tail_entry_cast _ a k

/-- The taps, laid out as rows, are the taps. -/
theorem cw_entry_cast (X : Vec Ideal S1x3x1024 .f32) (a : Fin 3) (k : Fin 1024) : (shapeCast S3x1024 X shapeCasts_S1x3x1024_S3x1024) (ix2 a k) = X (ix3 0 a k) := by
  pointwise []

/-- The convolution's taps. -/
theorem cw_entry (c : Dev nD) (a : Fin 3) (k : Fin 1024) :
    V m c main_v37 (ix2 a k) = m ((c : Thread nD τ).loc main_arg9) (ix3 0 a k) := by
  have h : V m c main_v37 = shapeCast S3x1024 (m ((c : Thread nD τ).loc main_arg9)) shapeCasts_S1x3x1024_S3x1024 := by
    unfold V
    after_reads_simp
    rfl
  rw [h]
  exact cw_entry_cast _ a k

/-- The input weight as the kernel takes it: the shared key's columns a second time, their halves exchanged, and zeros. -/
def winT (X : Vec Ideal S1x2048x4032 .f32) : Vec Ideal S2048x4224 .bf16 :=
  truncf (F := Ideal) (φ := .f32) .bf16 (concatenate S2048x4224 1 [
    ⟨S2048x896, extractStridedSlice S2048x896 ![0, 0] (shapeCast S2048x4032 X shapeCasts_S1x2048x4032_S2048x4032) slices_S2048x4032_S2048x896_0_0⟩,
    ⟨S2048x64, extractStridedSlice S2048x64 ![0, 896] (shapeCast S2048x4032 X shapeCasts_S1x2048x4032_S2048x4032) slices_S2048x4032_S2048x64_0_896⟩,
    ⟨S2048x64, broadcastInDim S2048x64 ![] bcast_S_S2048x64 (constant (F := Ideal) S_ .f32 0x00000000#32)⟩,
    ⟨S2048x64, concatenate S2048x64 1 [
      ⟨S2048x32, extractStridedSlice S2048x32 ![0, 32] (extractStridedSlice S2048x64 ![0, 896] (shapeCast S2048x4032 X shapeCasts_S1x2048x4032_S2048x4032) slices_S2048x4032_S2048x64_0_896) slices_S2048x64_S2048x32_0_32⟩,
      ⟨S2048x32, extractStridedSlice S2048x32 ![0, 0] (extractStridedSlice S2048x64 ![0, 896] (shapeCast S2048x4032 X shapeCasts_S1x2048x4032_S2048x4032) slices_S2048x4032_S2048x64_0_896) slices_S2048x64_S2048x32_0_0⟩]
      concatenates_S2048x32_S2048x32_S2048x64_d1⟩,
    ⟨S2048x64, broadcastInDim S2048x64 ![] bcast_S_S2048x64 (constant (F := Ideal) S_ .f32 0x00000000#32)⟩,
    ⟨S2048x3072, extractStridedSlice S2048x3072 ![0, 960] (shapeCast S2048x4032 X shapeCasts_S1x2048x4032_S2048x4032) slices_S2048x4032_S2048x3072_0_960⟩]
    concatenates_S2048x896_S2048x64_S2048x64_S2048x64_S2048x64_S2048x3072_S2048x4224_d1) bitsLt_bf16_f32

/-- The first 960 columns are the weight's own. -/
theorem win_id (X : Vec Ideal S1x2048x4032 .f32) (k : Fin 2048) (j : Fin 4224) (h : j.val < 960) :
    winT X (ix2 k j) = X (ix3 0 k ⟨j.val, by omega⟩) := by
  pointwise [winT]
  split_ifs <;> first
    | (exfalso; omega)
    | exact congrArg (fun e => X (ix3 0 k e)) (Fin.ext (by first | (dsimp only; omega) | rfl))

/-- The exchanged columns' first half is the shared key's second. -/
theorem win_swap_lo (X : Vec Ideal S1x2048x4032 .f32) (k : Fin 2048) (j : Fin 4224) (h : 1024 ≤ j.val) (h' : j.val < 1056) :
    winT X (ix2 k j) = X (ix3 0 k ⟨j.val - 96, by omega⟩) := by
  pointwise [winT]
  split_ifs <;> first
    | (exfalso; omega)
    | exact congrArg (fun e => X (ix3 0 k e)) (Fin.ext (by first | (dsimp only; omega) | rfl))

/-- The exchanged columns' second half is the shared key's first. -/
theorem win_swap_hi (X : Vec Ideal S1x2048x4032 .f32) (k : Fin 2048) (j : Fin 4224) (h : 1056 ≤ j.val) (h' : j.val < 1088) :
    winT X (ix2 k j) = X (ix3 0 k ⟨j.val - 160, by omega⟩) := by
  pointwise [winT]
  split_ifs <;> first
    | (exfalso; omega)
    | exact congrArg (fun e => X (ix3 0 k e)) (Fin.ext (by first | (dsimp only; omega) | rfl))

/-- The last columns are the weight's last. -/
theorem win_tail (X : Vec Ideal S1x2048x4032 .f32) (k : Fin 2048) (j : Fin 4224) (h : 1152 ≤ j.val) :
    winT X (ix2 k j) = X (ix3 0 k ⟨j.val - 192, by omega⟩) := by
  pointwise [winT]
  split_ifs <;> first
    | (exfalso; omega)
    | exact congrArg (fun e => X (ix3 0 k e)) (Fin.ext (by first | (dsimp only; omega) | rfl))

/-- The input weight the kernel takes. -/
theorem win_entry (c : Dev nD) : V m c main_v9 = winT (m ((c : Thread nD τ).loc main_arg4)) := by
  unfold V
  after_reads_simp
  rfl

/-- The queries' weight as the kernel takes it: each head's columns and zeros. -/
def wqaT (X : Vec Ideal S1x384x1536 .f32) : Vec Ideal S384x2048 .bf16 :=
  truncf (F := Ideal) (φ := .f32) .bf16 (shapeCast S384x2048 (concatenate S384x8x256 2 [
    ⟨S384x8x192, shapeCast S384x8x192 (shapeCast S384x1536 X shapeCasts_S1x384x1536_S384x1536) shapeCasts_S384x1536_S384x8x192⟩,
    ⟨S384x8x64, broadcastInDim S384x8x64 ![] bcast_S_S384x8x64 (constant (F := Ideal) S_ .f32 0x00000000#32)⟩]
    concatenates_S384x8x192_S384x8x64_S384x8x256_d2) shapeCasts_S384x8x256_S384x2048) bitsLt_bf16_f32

/-- A head's first 192 columns are the weight's own. -/
theorem wqa_id (X : Vec Ideal S1x384x1536 .f32) (k : Fin 384) (j : Fin 2048) (h : j.val % 256 < 192) :
    wqaT X (ix2 k j) = X (ix3 0 k ⟨j.val / 256 * 192 + j.val % 256, by omega⟩) := by
  pointwise [wqaT]
  split_ifs <;> first
    | (exfalso; omega)
    | exact congrArg (fun e => X (ix3 0 k e)) (Fin.ext (by first | (dsimp only; omega) | rfl))

/-- The queries' weight the kernel takes. -/
theorem wqa_entry (c : Dev nD) : V m c main_v15 = wqaT (m ((c : Thread nD τ).loc main_arg7)) := by
  unfold V
  after_reads_simp
  rfl

/-- The rotated queries' weight as the kernel takes it: each head's rotated columns, their halves exchanged, and zeros. -/
def wqbT (X : Vec Ideal S1x384x1536 .f32) : Vec Ideal S384x1024 .bf16 :=
  truncf (F := Ideal) (φ := .f32) .bf16 (shapeCast S384x1024 (concatenate S384x8x128 2 [
    ⟨S384x8x64, concatenate S384x8x64 2 [
      ⟨S384x8x32, extractStridedSlice S384x8x32 ![0, 0, 32] (extractStridedSlice S384x8x64 ![0, 0, 128] (shapeCast S384x8x192 (shapeCast S384x1536 X shapeCasts_S1x384x1536_S384x1536) shapeCasts_S384x1536_S384x8x192) slices_S384x8x192_S384x8x64_0_0_128) slices_S384x8x64_S384x8x32_0_0_32⟩,
      ⟨S384x8x32, extractStridedSlice S384x8x32 ![0, 0, 0] (extractStridedSlice S384x8x64 ![0, 0, 128] (shapeCast S384x8x192 (shapeCast S384x1536 X shapeCasts_S1x384x1536_S384x1536) shapeCasts_S384x1536_S384x8x192) slices_S384x8x192_S384x8x64_0_0_128) slices_S384x8x64_S384x8x32_0_0_0⟩]
      concatenates_S384x8x32_S384x8x32_S384x8x64_d2⟩,
    ⟨S384x8x64, broadcastInDim S384x8x64 ![] bcast_S_S384x8x64 (constant (F := Ideal) S_ .f32 0x00000000#32)⟩]
    concatenates_S384x8x64_S384x8x64_S384x8x128_d2) shapeCasts_S384x8x128_S384x1024) bitsLt_bf16_f32

/-- A head's exchanged columns' first half is its rotated columns' second. -/
theorem wqb_lo (X : Vec Ideal S1x384x1536 .f32) (k : Fin 384) (j : Fin 1024) (h : j.val % 128 < 32) :
    wqbT X (ix2 k j) = X (ix3 0 k ⟨j.val / 128 * 192 + (160 + j.val % 128), by omega⟩) := by
  pointwise [wqbT]
  split_ifs <;> first
    | (exfalso; omega)
    | exact congrArg (fun e => X (ix3 0 k e)) (Fin.ext (by first | (dsimp only; omega) | rfl))

/-- A head's exchanged columns' second half is its rotated columns' first. -/
theorem wqb_hi (X : Vec Ideal S1x384x1536 .f32) (k : Fin 384) (j : Fin 1024) (h : 32 ≤ j.val % 128) (h' : j.val % 128 < 64) :
    wqbT X (ix2 k j) = X (ix3 0 k ⟨j.val / 128 * 192 + (96 + j.val % 128), by omega⟩) := by
  pointwise [wqbT]
  split_ifs <;> first
    | (exfalso; omega)
    | exact congrArg (fun e => X (ix3 0 k e)) (Fin.ext (by first | (dsimp only; omega) | rfl))

/-- The rotated queries' weight the kernel takes. -/
theorem wqb_entry (c : Dev nD) : V m c main_v22 = wqbT (m ((c : Thread nD τ).loc main_arg7)) := by
  unfold V
  after_reads_simp
  rfl

/-- The keys' weight as the kernel takes it. -/
def wkT (X : Vec Ideal S1x512x2048 .f32) : Vec Ideal S512x1024 .bf16 :=
  truncf (F := Ideal) (φ := .f32) .bf16 (shapeCast S512x1024 (extractStridedSlice S512x8x128 ![0, 0, 0] (shapeCast S512x8x256 (shapeCast S512x2048 X shapeCasts_S1x512x2048_S512x2048) shapeCasts_S512x2048_S512x8x256) slices_S512x8x256_S512x8x128_0_0_0) shapeCasts_S512x8x128_S512x1024) bitsLt_bf16_f32

/-- A head's key columns are the weight's first 128 of the head. -/
theorem wk_id (X : Vec Ideal S1x512x2048 .f32) (k : Fin 512) (j : Fin 1024) :
    wkT X (ix2 k j) = X (ix3 0 k ⟨j.val / 128 * 256 + j.val % 128, by omega⟩) := by
  pointwise [wkT]
  all_goals exact congrArg (fun e => X (ix3 0 k e)) (Fin.ext (by first | (dsimp only; omega) | rfl))

/-- The keys' weight the kernel takes. -/
theorem wk_entry (c : Dev nD) : V m c main_v27 = wkT (m ((c : Thread nD τ).loc main_arg8)) := by
  unfold V
  after_reads_simp
  rfl

/-- The values' weight as the kernel takes it. -/
def wvT (X : Vec Ideal S1x512x2048 .f32) : Vec Ideal S512x1024 .bf16 :=
  truncf (F := Ideal) (φ := .f32) .bf16 (shapeCast S512x1024 (extractStridedSlice S512x8x128 ![0, 0, 128] (shapeCast S512x8x256 (shapeCast S512x2048 X shapeCasts_S1x512x2048_S512x2048) shapeCasts_S512x2048_S512x8x256) slices_S512x8x256_S512x8x128_0_0_128) shapeCasts_S512x8x128_S512x1024) bitsLt_bf16_f32

/-- A head's value columns are the weight's last 128 of the head. -/
theorem wv_id (X : Vec Ideal S1x512x2048 .f32) (k : Fin 512) (j : Fin 1024) :
    wvT X (ix2 k j) = X (ix3 0 k ⟨j.val / 128 * 256 + (128 + j.val % 128), by omega⟩) := by
  pointwise [wvT]
  all_goals exact congrArg (fun e => X (ix3 0 k e)) (Fin.ext (by first | (dsimp only; omega) | rfl))

/-- The values' weight the kernel takes. -/
theorem wv_entry (c : Dev nD) : V m c main_v30 = wvT (m ((c : Thread nD τ).loc main_arg8)) := by
  unfold V
  after_reads_simp
  rfl

end Cert.Inp

end
-- ==== Proof.InpBlk.lean ====
module

public import proofs.«01_k».proof.Proof.InpTab
public import proofs.«01_k».proof.Proof.InpBody

@[expose] public section

noncomputable section

/-! The input projection's blocks at a grid point, from the call's arguments. -/

namespace Cert.Inp

open Cert.Kernel3Ideal Cert.Kernel3Ideal.Gen Idealize.ShloMosaic Idealize.ShloMosaic.TcCoe
open Idealize.ShloMosaic.Pipeline (Dat)
open scoped BigOperators

variable (m : (ℓ : Loc nD τ sig) → Buf (Elt Ideal) ℓ)

/-- Where window 0's block lies. -/
theorem index0 : ∀ t : Fin cfg0.N, win0_0.index t = ![(grid0.coords t 0).val, (grid0.coords t 1).val, 0] :=
  (by decide +kernel : ∀ t : Fin grid0.N, _)

/-- Where window 1's block lies. -/
theorem index1 : ∀ t : Fin cfg0.N, win0_1.index t = ![(grid0.coords t 1).val, 0] :=
  (by decide +kernel : ∀ t : Fin grid0.N, _)

/-- Where window 2's block lies. -/
theorem index2 : ∀ t : Fin cfg0.N, win0_2.index t = ![(grid0.coords t 1).val, 0] :=
  (by decide +kernel : ∀ t : Fin grid0.N, _)

/-- Where window 3's block lies. -/
theorem index3 : ∀ t : Fin cfg0.N, win0_3.index t = ![0, 0] :=
  (by decide +kernel : ∀ t : Fin grid0.N, _)

/-- Where window 4's block lies. -/
theorem index4 : ∀ t : Fin cfg0.N, win0_4.index t = ![0, 0] :=
  (by decide +kernel : ∀ t : Fin grid0.N, _)

/-- Where window 5's block lies. -/
theorem index5 : ∀ t : Fin cfg0.N, win0_5.index t = ![0, 0] :=
  (by decide +kernel : ∀ t : Fin grid0.N, _)

/-- Where window 6's block lies. -/
theorem index6 : ∀ t : Fin cfg0.N, win0_6.index t = ![0, 0] :=
  (by decide +kernel : ∀ t : Fin grid0.N, _)

/-- Where window 7's block lies. -/
theorem index7 : ∀ t : Fin cfg0.N, win0_7.index t = ![0, 0] :=
  (by decide +kernel : ∀ t : Fin grid0.N, _)

/-- Where window 8's block lies. -/
theorem index8 : ∀ t : Fin cfg0.N, win0_8.index t = ![0, 0] :=
  (by decide +kernel : ∀ t : Fin grid0.N, _)

/-- Where window 9's block lies. -/
theorem index9 : ∀ t : Fin cfg0.N, win0_9.index t = ![0, 0] :=
  (by decide +kernel : ∀ t : Fin grid0.N, _)

/-- Where window 10's block lies. -/
theorem index10 : ∀ t : Fin cfg0.N, win0_10.index t = ![0, 0] :=
  (by decide +kernel : ∀ t : Fin grid0.N, _)

/-- Where window 11's block lies. -/
theorem index11 : ∀ t : Fin cfg0.N, win0_11.index t = ![0, 0] :=
  (by decide +kernel : ∀ t : Fin grid0.N, _)

/-- Where window 12's block lies. -/
theorem index12 : ∀ t : Fin cfg0.N, win0_12.index t = ![0, 0] :=
  (by decide +kernel : ∀ t : Fin grid0.N, _)

/-- Where window 13's block lies. -/
theorem index13 : ∀ t : Fin cfg0.N, win0_13.index t = ![0, 0] :=
  (by decide +kernel : ∀ t : Fin grid0.N, _)

/-- Where window 14's block lies. -/
theorem index14 : ∀ t : Fin cfg0.N, win0_14.index t = ![0, 0] :=
  (by decide +kernel : ∀ t : Fin grid0.N, _)

/-- Where window 15's block lies. -/
theorem index15 : ∀ t : Fin cfg0.N, win0_15.index t = ![(grid0.coords t 0).val, 0, (grid0.coords t 1).val, 0] :=
  (by decide +kernel : ∀ t : Fin grid0.N, _)

/-- Where window 16's block lies. -/
theorem index16 : ∀ t : Fin cfg0.N, win0_16.index t = ![(grid0.coords t 0).val, 0, (grid0.coords t 1).val, 0] :=
  (by decide +kernel : ∀ t : Fin grid0.N, _)

/-- Where window 17's block lies. -/
theorem index17 : ∀ t : Fin cfg0.N, win0_17.index t = ![(grid0.coords t 0).val, 0, (grid0.coords t 1).val, 0] :=
  (by decide +kernel : ∀ t : Fin grid0.N, _)

/-- Where window 18's block lies. -/
theorem index18 : ∀ t : Fin cfg0.N, win0_18.index t = ![(grid0.coords t 0).val, (grid0.coords t 1).val, 0] :=
  (by decide +kernel : ∀ t : Fin grid0.N, _)

variable (c : Dev nD) (t : Fin cfg0.N)

/-- The tile's input rows. -/
theorem blk0_apply (b : Fin 2) (r : Fin 512) (k : Fin 2048) (i : Fin 16384)
    (hb : b.val = (grid0.coords t 0).val) (hi : i.val = (grid0.coords t 1).val * 512 + r.val) :
    iblk m c 0 t (ix3 0 r k) = (m ((c : Thread nD τ).loc main_arg0)) (ix3 b i k) := by
  blk_simp [iblk]
  rw [← V_main_arg0 m c]
  refine congrArg _ (funext fun a => Fin.ext ?_)
  blk_simp [index0]
  fin_cases a <;> simp [ix3, hb, hi]

/-- The tile's rows of the first table. -/
theorem blk1_apply (r : Fin 512) (l : Fin 128) (i : Fin 16384)
    (hi : i.val = (grid0.coords t 1).val * 512 + r.val) :
    iblk m c 1 t (ix2 r l) = tab1 (ix2 i l) := by
  blk_simp [iblk]
  rw [← tab1_entry m c]
  refine congrArg _ (funext fun a => Fin.ext ?_)
  blk_simp [index1]
  fin_cases a <;> simp [ix2, hi]

/-- The tile's rows of the second table. -/
theorem blk2_apply (r : Fin 512) (l : Fin 128) (i : Fin 16384)
    (hi : i.val = (grid0.coords t 1).val * 512 + r.val) :
    iblk m c 2 t (ix2 r l) = tab2 (ix2 i l) := by
  blk_simp [iblk]
  rw [← tab2_entry m c]
  refine congrArg _ (funext fun a => Fin.ext ?_)
  blk_simp [index2]
  fin_cases a <;> simp [ix2, hi]

/-- The states before the first position. -/
theorem blk3_apply (n : Fin 8) (j : Fin 1024) :
    iblk m c 3 t (ix2 n j) = (m ((c : Thread nD τ).loc main_arg1)) (ix3 0 n j) := by
  blk_simp [iblk]
  rw [← tail_entry m c n j]
  refine congrArg _ (funext fun a => Fin.ext ?_)
  blk_simp [index3]
  fin_cases a <;> simp [ix2]

/-- The layer norm's gain. -/
theorem blk4_apply (k : Fin 2048) :
    iblk m c 4 t (ix2 0 k) = (m ((c : Thread nD τ).loc main_arg2)) (ix1 k) := by
  blk_simp [iblk]
  rw [← ln_g_entry m c k]
  refine congrArg _ (funext fun a => Fin.ext ?_)
  blk_simp [index4]
  fin_cases a <;> simp [ix2]

/-- The layer norm's shift. -/
theorem blk5_apply (k : Fin 2048) :
    iblk m c 5 t (ix2 0 k) = (m ((c : Thread nD τ).loc main_arg3)) (ix1 k) := by
  blk_simp [iblk]
  rw [← ln_b_entry m c k]
  refine congrArg _ (funext fun a => Fin.ext ?_)
  blk_simp [index5]
  fin_cases a <;> simp [ix2]

/-- The query norm's gain. -/
theorem blk7_apply (k : Fin 384) :
    iblk m c 7 t (ix2 0 k) = (m ((c : Thread nD τ).loc main_arg5)) (ix2 0 k) := by
  blk_simp [iblk]
  rw [← qg_entry m c k]
  refine congrArg _ (funext fun a => Fin.ext ?_)
  blk_simp [index7]
  fin_cases a <;> simp [ix2]

/-- The key and value norm's gain. -/
theorem blk8_apply (k : Fin 512) :
    iblk m c 8 t (ix2 0 k) = (m ((c : Thread nD τ).loc main_arg6)) (ix2 0 k) := by
  blk_simp [iblk]
  rw [← kvg_entry m c k]
  refine congrArg _ (funext fun a => Fin.ext ?_)
  blk_simp [index8]
  fin_cases a <;> simp [ix2]

/-- The convolution's taps. -/
theorem blk13_apply (a : Fin 3) (k : Fin 1024) :
    iblk m c 13 t (ix2 a k) = (m ((c : Thread nD τ).loc main_arg9)) (ix3 0 a k) := by
  blk_simp [iblk]
  rw [← cw_entry m c a k]
  refine congrArg _ (funext fun a => Fin.ext ?_)
  blk_simp [index13]
  fin_cases a <;> simp [ix2]

/-- The convolution norm's gain. -/
theorem blk14_apply (k : Fin 1024) :
    iblk m c 14 t (ix2 0 k) = (m ((c : Thread nD τ).loc main_arg10)) (ix2 0 k) := by
  blk_simp [iblk]
  rw [← cg_entry m c k]
  refine congrArg _ (funext fun a => Fin.ext ?_)
  blk_simp [index14]
  fin_cases a <;> simp [ix2]

/-- The input weight, as the kernel takes it. -/
theorem blk6_eq : iblk m c 6 t = winT (m ((c : Thread nD τ).loc main_arg4)) := by
  funext y
  obtain ⟨k, j, rfl⟩ := exists_ix2 y
  blk_simp [iblk]
  rw [← win_entry m c]
  refine congrArg _ (funext fun a => Fin.ext ?_)
  blk_simp [index6]
  fin_cases a <;> simp [ix2]

/-- The queries' weight, as the kernel takes it. -/
theorem blk9_eq : iblk m c 9 t = wqaT (m ((c : Thread nD τ).loc main_arg7)) := by
  funext y
  obtain ⟨k, j, rfl⟩ := exists_ix2 y
  blk_simp [iblk]
  rw [← wqa_entry m c]
  refine congrArg _ (funext fun a => Fin.ext ?_)
  blk_simp [index9]
  fin_cases a <;> simp [ix2]

/-- The rotated queries' weight, as the kernel takes it. -/
theorem blk10_eq : iblk m c 10 t = wqbT (m ((c : Thread nD τ).loc main_arg7)) := by
  funext y
  obtain ⟨k, j, rfl⟩ := exists_ix2 y
  blk_simp [iblk]
  rw [← wqb_entry m c]
  refine congrArg _ (funext fun a => Fin.ext ?_)
  blk_simp [index10]
  fin_cases a <;> simp [ix2]

/-- The keys' weight, as the kernel takes it. -/
theorem blk11_eq : iblk m c 11 t = wkT (m ((c : Thread nD τ).loc main_arg8)) := by
  funext y
  obtain ⟨k, j, rfl⟩ := exists_ix2 y
  blk_simp [iblk]
  rw [← wk_entry m c]
  refine congrArg _ (funext fun a => Fin.ext ?_)
  blk_simp [index11]
  fin_cases a <;> simp [ix2]

/-- The values' weight, as the kernel takes it. -/
theorem blk12_eq : iblk m c 12 t = wvT (m ((c : Thread nD τ).loc main_arg8)) := by
  funext y
  obtain ⟨k, j, rfl⟩ := exists_ix2 y
  blk_simp [iblk]
  rw [← wv_entry m c]
  refine congrArg _ (funext fun a => Fin.ext ?_)
  blk_simp [index12]
  fin_cases a <;> simp [ix2]

end Cert.Inp

end
-- ==== Proof.InpFun.lean ====
module

public import proofs.«01_k».proof.Proof.Inp

@[expose] public section

noncomputable section

/-! The input projections of every row, in plain words, as functions of the call's arguments. -/

namespace Cert.Inp

open Cert.Kernel3Ideal Idealize.ShloMosaic Cert.Mix
open scoped BigOperators

/-- The normed input of a row. -/
def hAt (x : Vec Ideal S2x16384x2048 .f32) (g b : Vec Ideal S2048 .f32) (β : Fin 2) (i : Fin 16384) : Fin 2048 → EReal :=
  layerNorm (fun k => x (ix3 β i k)) (fun k => g (ix1 k)) (fun k => b (ix1 k))

/-- A row through a column of the input weight. -/
def prAt (h : Fin 2048 → EReal) (W : Vec Ideal S1x2048x4032 .f32) (j : Fin 4032) : EReal := dotp h (fun k => W (ix3 0 k j))

/-- The normed query rank of a row. -/
def cqAt (h : Fin 2048 → EReal) (W : Vec Ideal S1x2048x4032 .f32) (g : Vec Ideal S1x384 .f32) : Fin 384 → EReal :=
  rms len384 (fun j => prAt h W ⟨j.val, by omega⟩) (fun j => g (ix2 0 j))

/-- The normed key and value rank of a row. -/
def ckvAt (h : Fin 2048 → EReal) (W : Vec Ideal S1x2048x4032 .f32) (g : Vec Ideal S1x512 .f32) : Fin 512 → EReal :=
  rms len512 (fun j => prAt h W ⟨384 + j.val, by omega⟩) (fun j => g (ix2 0 j))

/-- The angle of a position, after the sixteen meta tokens, and a frequency. -/
def ang (i : Fin 16384) (l : Fin 32) : EReal :=
  (Ideal.ofBits FTy.f32 1098907648#32 + FloatOps.sitofp (F := Ideal) FTy.f32 (BitVec.ofNat 32 i.val)) *
    Ideal.div 1
      (Ideal.pow (Ideal.ofBits FTy.f32 1176256512#32)
        (Ideal.div (Ideal.ofBits FTy.f32 1073741824#32 * FloatOps.sitofp (F := Ideal) FTy.f32 (BitVec.ofNat 32 l.val))
          (Ideal.ofBits FTy.f32 1115684864#32)))

/-- Sixty-four lanes rotated by a position's angles. -/
def rot (f : Fin 64 → EReal) (i : Fin 16384) (e : Fin 64) : EReal :=
  if h : e.val < 32 then f e * Ideal.cos (ang i ⟨e.val, h⟩) - f ⟨32 + e.val, by omega⟩ * Ideal.sin (ang i ⟨e.val, h⟩)
  else f ⟨e.val - 32, by omega⟩ * Ideal.sin (ang i ⟨e.val - 32, by omega⟩) + f e * Ideal.cos (ang i ⟨e.val - 32, by omega⟩)

/-- A head's queries before rotation. -/
def uqAt (q : Fin 384 → EReal) (U : Vec Ideal S1x384x1536 .f32) (hd : Fin 8) (l : Fin 192) : EReal :=
  dotp q (fun k => U (ix3 0 k ⟨hd.val * 192 + l.val, by omega⟩))

/-- A head's keys and values before rotation. -/
def ukvAt (q : Fin 512 → EReal) (U : Vec Ideal S1x512x2048 .f32) (hd : Fin 8) (l : Fin 256) : EReal :=
  dotp q (fun k => U (ix3 0 k ⟨hd.val * 256 + l.val, by omega⟩))

/-- A head's queries: plain lanes, rotated lanes, zeros. -/
def qRow (q : Fin 384 → EReal) (U : Vec Ideal S1x384x1536 .f32) (i : Fin 16384) (hd : Fin 8) (l : Fin 256) : EReal :=
  if h : l.val < 128 then uqAt q U hd ⟨l.val, by omega⟩ * scale
  else if h : l.val - 128 < 64 then rot (fun e => uqAt q U hd ⟨128 + e.val, by omega⟩) i ⟨l.val - 128, h⟩ * scale
  else 0

/-- A head's keys: plain lanes, the shared rotated lanes, zeros. -/
def kRow (h : Fin 2048 → EReal) (W : Vec Ideal S1x2048x4032 .f32) (q : Fin 512 → EReal) (U : Vec Ideal S1x512x2048 .f32) (i : Fin 16384) (hd : Fin 8) (l : Fin 256) : EReal :=
  if _ : l.val < 128 then ukvAt q U hd l
  else if h' : l.val - 128 < 64 then rot (fun e => prAt h W ⟨896 + e.val, by omega⟩) i ⟨l.val - 128, h'⟩
  else 0

/-- The gated state of a row. -/
def uAt (h : Fin 2048 → EReal) (W : Vec Ideal S1x2048x4032 .f32) (j : Fin 1024) : EReal :=
  prAt h W ⟨1984 + j.val, by omega⟩ * prAt h W ⟨3008 + j.val, by omega⟩

/-- The states in order, two of them from before the first position. -/
def stateAt (tl : Vec Ideal S1x8x1024 .f32) (u : Fin 16384 → Fin 1024 → EReal) (n : Fin 16386) (j : Fin 1024) : EReal :=
  if h : n.val < 2 then tl (ix3 0 ⟨6 + n.val, by omega⟩ j) else u ⟨n.val - 2, by omega⟩ j

/-- The queries. -/
def qAt (x : Vec Ideal S2x16384x2048 .f32) (g b : Vec Ideal S2048 .f32) (W : Vec Ideal S1x2048x4032 .f32) (gq : Vec Ideal S1x384 .f32) (U : Vec Ideal S1x384x1536 .f32)
    (β : Fin 2) (hd : Fin 8) (i : Fin 16384) (l : Fin 256) : EReal :=
  qRow (cqAt (hAt x g b β i) W gq) U i hd l

/-- The keys. -/
def kAt (x : Vec Ideal S2x16384x2048 .f32) (g b : Vec Ideal S2048 .f32) (W : Vec Ideal S1x2048x4032 .f32) (gk : Vec Ideal S1x512 .f32) (U : Vec Ideal S1x512x2048 .f32)
    (β : Fin 2) (hd : Fin 8) (i : Fin 16384) (l : Fin 256) : EReal :=
  kRow (hAt x g b β i) W (ckvAt (hAt x g b β i) W gk) U i hd l

/-- The values. -/
def vAt (x : Vec Ideal S2x16384x2048 .f32) (g b : Vec Ideal S2048 .f32) (W : Vec Ideal S1x2048x4032 .f32) (gk : Vec Ideal S1x512 .f32) (U : Vec Ideal S1x512x2048 .f32)
    (β : Fin 2) (hd : Fin 8) (i : Fin 16384) (l : Fin 128) : EReal :=
  ukvAt (ckvAt (hAt x g b β i) W gk) U hd ⟨128 + l.val, by omega⟩

/-- The normed convolution. -/
def cAt (x : Vec Ideal S2x16384x2048 .f32) (tl : Vec Ideal S1x8x1024 .f32) (g b : Vec Ideal S2048 .f32) (W : Vec Ideal S1x2048x4032 .f32) (w : Vec Ideal S1x3x1024 .f32) (gc : Vec Ideal S1x1024 .f32)
    (β : Fin 2) (i : Fin 16384) : Fin 1024 → EReal :=
  convRow (fun j => prAt (hAt x g b β i) W ⟨960 + j.val, by omega⟩)
    (stateAt tl (fun i => uAt (hAt x g b β i) W) ⟨2 + i.val, by omega⟩) (stateAt tl (fun i => uAt (hAt x g b β i) W) ⟨1 + i.val, by omega⟩)
    (stateAt tl (fun i => uAt (hAt x g b β i) W) ⟨i.val, by omega⟩) (fun a j => w (ix3 0 a j)) (fun j => gc (ix2 0 j))

end Cert.Inp

end
-- ==== Proof.InpRow.lean ====
module

public import proofs.«01_k».proof.Proof.InpBody
public import proofs.«01_k».proof.Proof.InpFun
public import proofs.«01_k».proof.Proof.InpTab

@[expose] public section

noncomputable section

/-! What a tile stores at a row is what the arguments give at the row's position. -/

namespace Cert.Inp

open Cert.Kernel3Ideal Cert.Kernel3Ideal.Gen Idealize.ShloMosaic Cert.Mix
open scoped BigOperators

/-- The first table's first 32 lanes are cosines. -/
theorem tab1_lo (i : Fin 16384) (l : Fin 128) (h : l.val < 32) : tab1 (ix2 i l) = Ideal.cos (ang i ⟨l.val, h⟩) := by
  rw [tab1_apply, dif_pos h, ang_apply]
  rfl

/-- The first table's next 32 lanes are the same cosines. -/
theorem tab1_mid (i : Fin 16384) (l : Fin 128) (h : ¬l.val < 32) (h' : l.val - 32 < 32) : tab1 (ix2 i l) = Ideal.cos (ang i ⟨l.val - 32, h'⟩) := by
  rw [tab1_apply, dif_neg h, dif_pos h', ang_apply]
  rfl

/-- The first table's last lanes are zero. -/
theorem tab1_hi (i : Fin 16384) (l : Fin 128) (h : ¬l.val < 64) : tab1 (ix2 i l) = 0 := by
  rw [tab1_apply, dif_neg (by omega), dif_neg (by omega)]

/-- The second table's first 32 lanes are negated sines. -/
theorem tab2_lo (i : Fin 16384) (l : Fin 128) (h : l.val < 32) : tab2 (ix2 i l) = -Ideal.sin (ang i ⟨l.val, h⟩) := by
  rw [tab2_apply, dif_pos h, ang_apply]
  rfl

/-- The second table's next 32 lanes are sines. -/
theorem tab2_mid (i : Fin 16384) (l : Fin 128) (h : ¬l.val < 32) (h' : l.val - 32 < 32) : tab2 (ix2 i l) = Ideal.sin (ang i ⟨l.val - 32, h'⟩) := by
  rw [tab2_apply, dif_neg h, dif_pos h', ang_apply]
  rfl

/-- The second table's last lanes are zero. -/
theorem tab2_hi (i : Fin 16384) (l : Fin 128) (h : ¬l.val < 64) : tab2 (ix2 i l) = 0 := by
  rw [tab2_apply, dif_neg (by omega), dif_neg (by omega)]

/-- A lane against the first table and its exchanged lane against the second is the rotation, with zeros after it. -/
theorem rot_eq (f : Fin 64 → EReal) (a b : EReal) (i : Fin 16384) (l : Fin 128) (ha : ∀ h : l.val < 64, a = f ⟨l.val, h⟩)
    (hlo : ∀ h : l.val < 32, b = f ⟨32 + l.val, by omega⟩) (hhi : ∀ _ : ¬l.val < 32, ∀ h' : l.val < 64, b = f ⟨l.val - 32, by omega⟩) :
    a * tab1 (ix2 i l) + b * tab2 (ix2 i l) = if h : l.val < 64 then rot f i ⟨l.val, h⟩ else 0 := by
  by_cases h : l.val < 64
  · rw [dif_pos h]
    by_cases h' : l.val < 32
    · rw [tab1_lo i l h', tab2_lo i l h', rot, dif_pos h', ha h, hlo h', mul_neg, ← sub_eq_add_neg]
    · rw [tab1_mid i l h' (by omega), tab2_mid i l h' (by omega), rot, dif_neg h', ha h, hhi h' h, add_comm]
  · rw [dif_neg h, tab1_hi i l h, tab2_hi i l h, mul_zero, mul_zero, add_zero]

variable (x0 : Vec Ideal S1x512x2048 .f32) (x1 x2 : Vec Ideal S512x128 .f32) (x4 x5 : Vec Ideal S1x2048 .f32) (W : Vec Ideal S1x2048x4032 .f32)
  (x7 : Vec Ideal S1x384 .f32) (x8 : Vec Ideal S1x512 .f32) (U : Vec Ideal S1x384x1536 .f32) (K : Vec Ideal S1x512x2048 .f32)
  (x13 : Vec Ideal S3x1024 .f32) (x14 : Vec Ideal S1x1024 .f32) (gq : Vec Ideal S1x384 .f32) (gk : Vec Ideal S1x512 .f32)
  (r : Fin 512) (i : Fin 16384) (h : Fin 2048 → EReal)

section Row

variable (hH : hB x0 x4 x5 r = h)
include hH

/-- A projection onto one of the first 960 columns. -/
theorem prB_id (j : Fin 4224) (j' : Fin 4032) (hj : j.val < 960) (e : j'.val = j.val) :
    prB x0 x4 x5 (winT W) r j = prAt h W j' := by
  rw [prB, hH]
  exact congrArg (dotp h) (funext fun k => (win_id W k j hj).trans (congrArg (fun e => W (ix3 0 k e)) (Fin.ext e.symm)))

/-- A projection onto an exchanged column, first half. -/
theorem prB_swap_lo (j : Fin 4224) (j' : Fin 4032) (hj : 1024 ≤ j.val) (hj' : j.val < 1056) (e : j'.val = j.val - 96) :
    prB x0 x4 x5 (winT W) r j = prAt h W j' := by
  rw [prB, hH]
  exact congrArg (dotp h) (funext fun k => (win_swap_lo W k j hj hj').trans (congrArg (fun e => W (ix3 0 k e)) (Fin.ext e.symm)))

/-- A projection onto an exchanged column, second half. -/
theorem prB_swap_hi (j : Fin 4224) (j' : Fin 4032) (hj : 1056 ≤ j.val) (hj' : j.val < 1088) (e : j'.val = j.val - 160) :
    prB x0 x4 x5 (winT W) r j = prAt h W j' := by
  rw [prB, hH]
  exact congrArg (dotp h) (funext fun k => (win_swap_hi W k j hj hj').trans (congrArg (fun e => W (ix3 0 k e)) (Fin.ext e.symm)))

/-- A projection onto one of the last columns. -/
theorem prB_tail (j : Fin 4224) (j' : Fin 4032) (hj : 1152 ≤ j.val) (e : j'.val = j.val - 192) :
    prB x0 x4 x5 (winT W) r j = prAt h W j' := by
  rw [prB, hH]
  exact congrArg (dotp h) (funext fun k => (win_tail W k j hj).trans (congrArg (fun e => W (ix3 0 k e)) (Fin.ext e.symm)))

/-- The query rank of the row. -/
theorem cqB_eq (h7 : ∀ j : Fin 384, x7 (ix2 0 j) = gq (ix2 0 j)) : cqB x0 x4 x5 (winT W) x7 r = cqAt h W gq :=
  congrArg₂ (rms len384) (funext fun j => prB_id x0 x4 x5 W r h hH _ _ (by show 0 + j.val < 960; omega) (by show j.val = 0 + j.val; omega)) (funext h7)

/-- The key and value rank of the row. -/
theorem ckvB_eq (h8 : ∀ j : Fin 512, x8 (ix2 0 j) = gk (ix2 0 j)) : ckvB x0 x4 x5 (winT W) x8 r = ckvAt h W gk :=
  congrArg₂ (rms len512) (funext fun j => prB_id x0 x4 x5 W r h hH _ _ (by show 384 + j.val < 960; omega) rfl) (funext h8)

/-- The queries of the row. -/
theorem qB_eq (h1 : ∀ l : Fin 128, x1 (ix2 r l) = tab1 (ix2 i l)) (h2 : ∀ l : Fin 128, x2 (ix2 r l) = tab2 (ix2 i l))
    (h7 : ∀ j : Fin 384, x7 (ix2 0 j) = gq (ix2 0 j)) (hd : Fin 8) (l : Fin 256) :
    qB x0 x1 x2 x4 x5 (winT W) x7 (wqaT U) (wqbT U) r hd l = qRow (cqAt h W gq) U i hd l := by
  have hl := l.isLt
  have hhd := hd.isLt
  rw [qB, qRow, cqB_eq x0 x4 x5 W x7 gq r h hH h7]
  by_cases hp : l.val < 128
  · rw [dif_pos hp, dif_pos hp]
    refine congrArg (· * scale) (congrArg (dotp _) (funext fun k => ?_))
    refine (wqa_id U k _ (by show (256 * hd.val + l.val) % 256 < 192; omega)).trans (congrArg (fun e => U (ix3 0 k e)) (Fin.ext ?_))
    show (256 * hd.val + l.val) / 256 * 192 + (256 * hd.val + l.val) % 256 = hd.val * 192 + l.val
    omega
  · rw [dif_neg hp, dif_neg hp, h1, h2,
      rot_eq (fun e => uqAt (cqAt h W gq) U hd ⟨128 + e.val, by omega⟩) _ _ i ⟨l.val - 128, by omega⟩ ?_ ?_ ?_]
    · by_cases hr : l.val - 128 < 64
      · rw [dif_pos hr, dif_pos hr]
      · rw [dif_neg hr, dif_neg hr, zero_mul]
    · intro hr
      have hr : l.val - 128 < 64 := hr
      refine congrArg (dotp _) (funext fun k => ?_)
      refine (wqa_id U k _ (by show (256 * hd.val + l.val) % 256 < 192; omega)).trans (congrArg (fun e => U (ix3 0 k e)) (Fin.ext ?_))
      show (256 * hd.val + l.val) / 256 * 192 + (256 * hd.val + l.val) % 256 = hd.val * 192 + (128 + (l.val - 128))
      omega
    · intro hr
      have hr : l.val - 128 < 32 := hr
      refine congrArg (dotp _) (funext fun k => ?_)
      refine (wqb_lo U k _ (by show (128 * hd.val + (l.val - 128)) % 128 < 32; omega)).trans (congrArg (fun e => U (ix3 0 k e)) (Fin.ext ?_))
      show (128 * hd.val + (l.val - 128)) / 128 * 192 + (160 + (128 * hd.val + (l.val - 128)) % 128) = hd.val * 192 + (128 + (32 + (l.val - 128)))
      omega
    · intro hr hr'
      have hr : ¬l.val - 128 < 32 := hr
      have hr' : l.val - 128 < 64 := hr'
      refine congrArg (dotp _) (funext fun k => ?_)
      refine (wqb_hi U k _ (by show 32 ≤ (128 * hd.val + (l.val - 128)) % 128; omega) (by show (128 * hd.val + (l.val - 128)) % 128 < 64; omega)).trans
        (congrArg (fun e => U (ix3 0 k e)) (Fin.ext ?_))
      show (128 * hd.val + (l.val - 128)) / 128 * 192 + (96 + (128 * hd.val + (l.val - 128)) % 128) = hd.val * 192 + (128 + (l.val - 128 - 32))
      omega

/-- The keys of the row. -/
theorem kB_eq (h1 : ∀ l : Fin 128, x1 (ix2 r l) = tab1 (ix2 i l)) (h2 : ∀ l : Fin 128, x2 (ix2 r l) = tab2 (ix2 i l))
    (h8 : ∀ j : Fin 512, x8 (ix2 0 j) = gk (ix2 0 j)) (hd : Fin 8) (l : Fin 256) :
    kB x0 x1 x2 x4 x5 (winT W) x8 (wkT K) r hd l = kRow h W (ckvAt h W gk) K i hd l := by
  have hl := l.isLt
  have hhd := hd.isLt
  rw [kB, kRow, ckvB_eq x0 x4 x5 W x8 gk r h hH h8]
  by_cases hp : l.val < 128
  · rw [dif_pos hp, dif_pos hp]
    refine congrArg (dotp _) (funext fun k => ?_)
    refine (wk_id K k _).trans (congrArg (fun e => K (ix3 0 k e)) (Fin.ext ?_))
    show (128 * hd.val + l.val) / 128 * 256 + (128 * hd.val + l.val) % 128 = hd.val * 256 + l.val
    omega
  · rw [dif_neg hp, dif_neg hp, h1, h2,
      rot_eq (fun e => prAt h W ⟨896 + e.val, by omega⟩) _ _ i ⟨l.val - 128, by omega⟩ ?_ ?_ ?_]
    · intro hr
      have hr : l.val - 128 < 64 := hr
      exact prB_id x0 x4 x5 W r h hH _ _ (by show 896 + (l.val - 128) < 960; omega) rfl
    · intro hr
      have hr : l.val - 128 < 32 := hr
      exact prB_swap_lo x0 x4 x5 W r h hH _ _ (by show 1024 ≤ 1024 + (l.val - 128); omega) (by show 1024 + (l.val - 128) < 1056; omega)
        (by show 896 + (32 + (l.val - 128)) = 1024 + (l.val - 128) - 96; omega)
    · intro hr hr'
      have hr : ¬l.val - 128 < 32 := hr
      have hr' : l.val - 128 < 64 := hr'
      exact prB_swap_hi x0 x4 x5 W r h hH _ _ (by show 1056 ≤ 1024 + (l.val - 128); omega) (by show 1024 + (l.val - 128) < 1088; omega)
        (by show 896 + (l.val - 128 - 32) = 1024 + (l.val - 128) - 160; omega)

/-- The values of the row. -/
theorem vB_eq (h8 : ∀ j : Fin 512, x8 (ix2 0 j) = gk (ix2 0 j)) (hd : Fin 8) (l : Fin 128) :
    vB x0 x4 x5 (winT W) x8 (wvT K) r hd l = ukvAt (ckvAt h W gk) K hd ⟨128 + l.val, by omega⟩ := by
  have hl := l.isLt
  have hhd := hd.isLt
  rw [vB, ckvB_eq x0 x4 x5 W x8 gk r h hH h8]
  refine congrArg (dotp _) (funext fun k => ?_)
  refine (wv_id K k _).trans (congrArg (fun e => K (ix3 0 k e)) (Fin.ext ?_))
  show (128 * hd.val + l.val) / 128 * 256 + (128 + (128 * hd.val + l.val) % 128) = hd.val * 256 + (128 + l.val)
  omega

/-- The gated state of the row. -/
theorem uB_eq (j : Fin 1024) : uB x0 x4 x5 (winT W) r j = uAt h W j :=
  congrArg₂ (· * ·)
    (prB_tail x0 x4 x5 W r h hH _ _ (by show 1152 ≤ 2176 + j.val; omega) (by show 1984 + j.val = 2176 + j.val - 192; omega))
    (prB_tail x0 x4 x5 W r h hH _ _ (by show 1152 ≤ 3200 + j.val; omega) (by show 3008 + j.val = 3200 + j.val - 192; omega))

end Row

/-- The buffer's rows from the sixth on are the states from the tile's first position on. -/
theorem bufB_eq (tl : Vec Ideal S1x8x1024 .f32) (H : Fin 16384 → Fin 2048 → EReal) (s : Fin 8 → Fin 1024 → EReal) (i0 : ℕ) (hi0 : i0 + 512 ≤ 16384)
    (hH : ∀ r : Fin 512, hB x0 x4 x5 r = H ⟨i0 + r.val, by omega⟩)
    (hs : ∀ (a : Fin 2) (j : Fin 1024), s ⟨6 + a.val, by omega⟩ j = stateAt tl (fun i => uAt (H i) W) ⟨i0 + a.val, by omega⟩ j)
    (n : Fin 514) (j : Fin 1024) :
    bufB x0 x4 x5 (winT W) s ⟨6 + n.val, by omega⟩ j = stateAt tl (fun i => uAt (H i) W) ⟨i0 + n.val, by omega⟩ j := by
  by_cases hn : n.val < 2
  · rw [bufB, dif_pos (show 6 + n.val < 8 by omega)]
    exact hs ⟨n.val, hn⟩ j
  · rw [bufB, dif_neg (show ¬6 + n.val < 8 by omega), stateAt, dif_neg (show ¬i0 + n.val < 2 by omega),
      uB_eq x0 x4 x5 W _ _ (hH _)]
    exact congrArg (fun e => uAt (H e) W j) (Fin.ext (by show i0 + (6 + n.val - 8) = i0 + n.val - 2; omega))

/-- The normed convolution of the row. -/
theorem cB_eq (tl : Vec Ideal S1x8x1024 .f32) (H : Fin 16384 → Fin 2048 → EReal) (s : Fin 8 → Fin 1024 → EReal) (i0 : ℕ) (hi0 : i0 + 512 ≤ 16384)
    (hH : ∀ r : Fin 512, hB x0 x4 x5 r = H ⟨i0 + r.val, by omega⟩)
    (hs : ∀ (a : Fin 2) (j : Fin 1024), s ⟨6 + a.val, by omega⟩ j = stateAt tl (fun i => uAt (H i) W) ⟨i0 + a.val, by omega⟩ j)
    (w : Vec Ideal S1x3x1024 .f32) (gc : Vec Ideal S1x1024 .f32) (h13 : ∀ (a : Fin 3) (j : Fin 1024), x13 (ix2 a j) = w (ix3 0 a j))
    (h14 : ∀ j : Fin 1024, x14 (ix2 0 j) = gc (ix2 0 j)) (hi : i.val = i0 + r.val) :
    cB x0 x4 x5 (winT W) x13 x14 s r
      = convRow (fun j => prAt (H i) W ⟨960 + j.val, by omega⟩)
          (stateAt tl (fun i => uAt (H i) W) ⟨2 + i.val, by omega⟩) (stateAt tl (fun i => uAt (H i) W) ⟨1 + i.val, by omega⟩)
          (stateAt tl (fun i => uAt (H i) W) ⟨i.val, by omega⟩) (fun a j => w (ix3 0 a j)) (fun j => gc (ix2 0 j)) := by
  have hr := r.isLt
  have hHr : hB x0 x4 x5 r = H i := (hH r).trans (congrArg H (Fin.ext hi.symm))
  have eb : (fun j : Fin 1024 => prB x0 x4 x5 (winT W) r ⟨1152 + j.val, by omega⟩) = fun j => prAt (H i) W ⟨960 + j.val, by omega⟩ :=
    funext fun j => prB_tail x0 x4 x5 W r _ hHr _ _ (by show 1152 ≤ 1152 + j.val; omega) (by show 960 + j.val = 1152 + j.val - 192; omega)
  have eu : uB x0 x4 x5 (winT W) r = stateAt tl (fun i => uAt (H i) W) ⟨2 + i.val, by omega⟩ := funext fun j => by
    rw [uB_eq x0 x4 x5 W r _ hHr, stateAt, dif_neg (show ¬2 + i.val < 2 by omega)]
    exact congrArg (fun e => uAt (H e) W j) (Fin.ext (by show i.val = 2 + i.val - 2; omega))
  have e1 : bufB x0 x4 x5 (winT W) s ⟨7 + r.val, by omega⟩ = stateAt tl (fun i => uAt (H i) W) ⟨1 + i.val, by omega⟩ := funext fun j => by
    refine Eq.trans (congrArg (fun e => bufB x0 x4 x5 (winT W) s e j) (Fin.ext ?_)) ((bufB_eq x0 x4 x5 W tl H s i0 hi0 hH hs ⟨1 + r.val, by omega⟩ j).trans
      (congrArg (fun e => stateAt tl (fun i => uAt (H i) W) e j) (Fin.ext ?_)))
    · show 7 + r.val = 6 + (1 + r.val); omega
    · show i0 + (1 + r.val) = 1 + i.val; omega
  have e2 : bufB x0 x4 x5 (winT W) s ⟨6 + r.val, by omega⟩ = stateAt tl (fun i => uAt (H i) W) ⟨i.val, by omega⟩ := funext fun j =>
    (bufB_eq x0 x4 x5 W tl H s i0 hi0 hH hs ⟨r.val, by omega⟩ j).trans
      (congrArg (fun e => stateAt tl (fun i => uAt (H i) W) e j) (Fin.ext hi.symm))
  rw [cB, eb, eu, e1, e2, funext fun a => funext (h13 a), funext h14]

end Cert.Inp

end
-- ==== Proof.InpArr.lean ====
module

public import proofs.«01_k».proof.Proof.InpOut
public import proofs.«01_k».proof.Proof.InpBlk
public import proofs.«01_k».proof.Proof.InpRow

@[expose] public section

noncomputable section

/-! The input projection kernel's result arrays. -/

namespace Cert.Inp

open Cert.Kernel3Ideal Cert.Kernel3Ideal.Gen Cert.InpI Cert.Mix
open Idealize.ShloMosaic Idealize.ShloMosaic.TcCoe
open Idealize.ShloMosaic.Pipeline (Dat)
open scoped BigOperators

variable (m : (ℓ : Loc nD τ sig) → Buf (Elt Ideal) ℓ) (c : Dev nD)

/-- A grid point's batch entry. -/
theorem coord0 : ∀ t : Fin cfg0.N, (grid0.coords t 0).val = t.val / 32 :=
  (by decide +kernel : ∀ t : Fin grid0.N, _)

/-- A grid point's tile. -/
theorem coord1 : ∀ t : Fin cfg0.N, (grid0.coords t 1).val = t.val % 32 :=
  (by decide +kernel : ∀ t : Fin grid0.N, _)

/-- The normed input of a tile's row. -/
theorem row_eq (t : Fin cfg0.N) (b : Fin 2) (r : Fin 512) (i : Fin 16384) (hb : b.val = (grid0.coords t 0).val)
    (hi : i.val = (grid0.coords t 1).val * 512 + r.val) :
    hB (iblk m c 0 t) (iblk m c 4 t) (iblk m c 5 t) r = hAt (m ((c : Thread nD τ).loc main_arg0)) (m ((c : Thread nD τ).loc main_arg2)) (m ((c : Thread nD τ).loc main_arg3)) b i := by
  unfold hB hAt
  exact congr (congr (congrArg layerNorm (funext fun k => blk0_apply m c t b r k i hb hi)) (funext fun k => blk4_apply m c t k)) (funext fun k => blk5_apply m c t k)

/-- The queries a grid point leaves, from its blocks. -/
theorem left15 (t : Fin cfg0.N) (y : S1x8x512x256.Idx) : (dats m 0 c).after 15 t y = qB (iblk m c 0 t) (iblk m c 1 t) (iblk m c 2 t) (iblk m c 4 t) (iblk m c 5 t) (iblk m c 6 t) (iblk m c 7 t) (iblk m c 9 t) (iblk m c 10 t) (y 2) (y 1) (y 3) := by
  rw [after0_15]
  by_cases h0 : t.val % 32 = 0
  · rw [outsAt0_A m c t h0]
    dsimp only
    exact outA_15_apply ..
  · rw [outsAt0_B m c t h0]
    dsimp only
    exact outB_15_apply ..

/-- The keys a grid point leaves, from its blocks. -/
theorem left16 (t : Fin cfg0.N) (y : S1x8x512x256.Idx) : (dats m 0 c).after 16 t y = kB (iblk m c 0 t) (iblk m c 1 t) (iblk m c 2 t) (iblk m c 4 t) (iblk m c 5 t) (iblk m c 6 t) (iblk m c 8 t) (iblk m c 11 t) (y 2) (y 1) (y 3) := by
  rw [after0_16]
  by_cases h0 : t.val % 32 = 0
  · rw [outsAt0_A m c t h0]
    dsimp only
    exact outA_16_apply ..
  · rw [outsAt0_B m c t h0]
    dsimp only
    exact outB_16_apply ..

/-- The values a grid point leaves, from its blocks. -/
theorem left17 (t : Fin cfg0.N) (y : S1x8x512x128.Idx) : (dats m 0 c).after 17 t y = vB (iblk m c 0 t) (iblk m c 4 t) (iblk m c 5 t) (iblk m c 6 t) (iblk m c 8 t) (iblk m c 12 t) (y 2) (y 1) (y 3) := by
  rw [after0_17]
  by_cases h0 : t.val % 32 = 0
  · rw [outsAt0_A m c t h0]
    dsimp only
    exact outA_17_apply ..
  · rw [outsAt0_B m c t h0]
    dsimp only
    exact outB_17_apply ..

/-- The first eight rows a grid point carries on. -/
theorem carry_eq (t : Fin cfg0.N) (n : Fin 520) (h : n.val < 8) (j : Fin 1024) :
    (outsAt0 m c t.val t.isLt).2.2.2.2.2 (ix2 n j) = uB (iblk m c 0 t) (iblk m c 4 t) (iblk m c 5 t) (iblk m c 6 t) ⟨504 + n.val, by omega⟩ j := by
  by_cases h0 : t.val % 32 = 0
  · rw [outsAt0_A m c t h0]
    dsimp only
    exact soutA_apply (h := h) ..
  · rw [outsAt0_B m c t h0]
    dsimp only
    exact soutB_apply (h := h) ..

/-- The eight states before a tile: those given at a first tile, the last tile's last otherwise. -/
def before (t : Fin cfg0.N) (n : Fin 8) (j : Fin 1024) : EReal :=
  if t.val % 32 = 0 then iblk m c 3 t (ix2 n j)
  else (outsAt0 m c (t.val - 1) (Nat.lt_of_le_of_lt (Nat.sub_le _ _) t.isLt)).2.2.2.2.2 (ix2 ⟨n.val, by omega⟩ j)

/-- The convolution a grid point leaves, from its blocks. -/
theorem left18 (t : Fin cfg0.N) (y : S1x512x1024.Idx) :
    (dats m 0 c).after 18 t y = cB (iblk m c 0 t) (iblk m c 4 t) (iblk m c 5 t) (iblk m c 6 t) (iblk m c 13 t) (iblk m c 14 t) (before m c t) (y 1) (y 2) := by
  rw [after0_18]
  by_cases h0 : t.val % 32 = 0
  · have e : before m c t = fun n j => iblk m c 3 t (ix2 n j) := funext fun n => funext fun j => if_pos h0
    rw [outsAt0_A m c t h0, e]
    dsimp only
    exact outA_18_apply ..
  · have e : before m c t = fun n j => (outsAt0 m c (t.val - 1) (Nat.lt_of_le_of_lt (Nat.sub_le _ _) t.isLt)).2.2.2.2.2 (ix2 ⟨n.val, by omega⟩ j) :=
      funext fun n => funext fun j => if_neg h0
    rw [outsAt0_B m c t h0, e]
    dsimp only
    exact outB_18_apply ..

/-- The two states before a tile are the states before its first position. -/
theorem before_eq (t : Fin cfg0.N) (b : Fin 2) (hb : b.val = (grid0.coords t 0).val) (a : Fin 2) (j : Fin 1024)
    (hlt : (grid0.coords t 1).val * 512 + a.val < 16386) :
    before m c t ⟨6 + a.val, by omega⟩ j
      = stateAt (m ((c : Thread nD τ).loc main_arg1)) (fun i => uAt (hAt (m ((c : Thread nD τ).loc main_arg0)) (m ((c : Thread nD τ).loc main_arg2)) (m ((c : Thread nD τ).loc main_arg3)) b i) (m ((c : Thread nD τ).loc main_arg4))) ⟨(grid0.coords t 1).val * 512 + a.val, hlt⟩ j := by
  have ha := a.isLt
  have hN : t.val < 64 := t.isLt
  have h0c := coord0 t
  have h1c := coord1 t
  by_cases h0 : t.val % 32 = 0
  · rw [before, if_pos h0, blk3_apply, stateAt, dif_pos (show (grid0.coords t 1).val * 512 + a.val < 2 by omega)]
    exact congrArg (fun e => m ((c : Thread nD τ).loc main_arg1) (ix3 0 e j)) (Fin.ext (by show 6 + a.val = 6 + ((grid0.coords t 1).val * 512 + a.val); omega))
  · rw [before, if_neg h0, stateAt, dif_neg (show ¬(grid0.coords t 1).val * 512 + a.val < 2 by omega)]
    have hp : t.val - 1 < cfg0.N := Nat.lt_of_le_of_lt (Nat.sub_le _ _) t.isLt
    have h0p : (grid0.coords ⟨t.val - 1, hp⟩ 0).val = (t.val - 1) / 32 := coord0 ⟨t.val - 1, hp⟩
    have h1p : (grid0.coords ⟨t.val - 1, hp⟩ 1).val = (t.val - 1) % 32 := coord1 ⟨t.val - 1, hp⟩
    refine (carry_eq m c ⟨t.val - 1, hp⟩ ⟨6 + a.val, by omega⟩ (by show 6 + a.val < 8; omega) j).trans ?_
    rw [blk6_eq]
    exact uB_eq _ _ _ _ _ _ (row_eq m c ⟨t.val - 1, hp⟩ b _ _ (by omega)
      (by show (grid0.coords t 1).val * 512 + a.val - 2 = (grid0.coords ⟨t.val - 1, hp⟩ 1).val * 512 + (504 + (6 + a.val)); omega)) j

/-- The queries a grid point leaves, from the arguments. -/
theorem after15_apply (t : Fin cfg0.N) (y : S1x8x512x256.Idx) (b : Fin 2) (hd : Fin 8) (i : Fin 16384) (l : Fin 256)
    (hb : b.val = (grid0.coords t 0).val + (y 0 : ℕ)) (hh : hd.val = (y 1 : ℕ)) (hi : i.val = (grid0.coords t 1).val * 512 + (y 2 : ℕ)) (hl : l.val = (y 3 : ℕ)) :
    (dats m 0 c).after 15 t y = qAt (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) b hd i l := by
  have hy0 : (y 0 : ℕ) < 1 := (y 0).isLt
  obtain rfl : hd = y 1 := Fin.ext hh
  obtain rfl : l = y 3 := Fin.ext hl
  rw [left15, blk6_eq, blk9_eq, blk10_eq]
  exact qB_eq _ _ _ _ _ _ _ _ _ _ _ _ (row_eq m c t b (y 2) i (by omega) hi) (fun l => blk1_apply m c t (y 2) l i hi) (fun l => blk2_apply m c t (y 2) l i hi) (fun j => blk7_apply m c t j) _ _

/-- The keys a grid point leaves, from the arguments. -/
theorem after16_apply (t : Fin cfg0.N) (y : S1x8x512x256.Idx) (b : Fin 2) (hd : Fin 8) (i : Fin 16384) (l : Fin 256)
    (hb : b.val = (grid0.coords t 0).val + (y 0 : ℕ)) (hh : hd.val = (y 1 : ℕ)) (hi : i.val = (grid0.coords t 1).val * 512 + (y 2 : ℕ)) (hl : l.val = (y 3 : ℕ)) :
    (dats m 0 c).after 16 t y = kAt (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg8)) b hd i l := by
  have hy0 : (y 0 : ℕ) < 1 := (y 0).isLt
  obtain rfl : hd = y 1 := Fin.ext hh
  obtain rfl : l = y 3 := Fin.ext hl
  rw [left16, blk6_eq, blk11_eq]
  exact kB_eq _ _ _ _ _ _ _ _ _ _ _ _ (row_eq m c t b (y 2) i (by omega) hi) (fun l => blk1_apply m c t (y 2) l i hi) (fun l => blk2_apply m c t (y 2) l i hi) (fun j => blk8_apply m c t j) _ _

/-- The values a grid point leaves, from the arguments. -/
theorem after17_apply (t : Fin cfg0.N) (y : S1x8x512x128.Idx) (b : Fin 2) (hd : Fin 8) (i : Fin 16384) (l : Fin 128)
    (hb : b.val = (grid0.coords t 0).val + (y 0 : ℕ)) (hh : hd.val = (y 1 : ℕ)) (hi : i.val = (grid0.coords t 1).val * 512 + (y 2 : ℕ)) (hl : l.val = (y 3 : ℕ)) :
    (dats m 0 c).after 17 t y = vAt (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg8)) b hd i l := by
  have hy0 : (y 0 : ℕ) < 1 := (y 0).isLt
  obtain rfl : hd = y 1 := Fin.ext hh
  obtain rfl : l = y 3 := Fin.ext hl
  rw [left17, blk6_eq, blk12_eq]
  exact vB_eq _ _ _ _ _ _ _ _ _ (row_eq m c t b (y 2) i (by omega) hi) (fun j => blk8_apply m c t j) _ _

/-- The convolution a grid point leaves, from the arguments. -/
theorem after18_apply (t : Fin cfg0.N) (y : S1x512x1024.Idx) (b : Fin 2) (i : Fin 16384) (j : Fin 1024)
    (hb : b.val = (grid0.coords t 0).val + (y 0 : ℕ)) (hi : i.val = (grid0.coords t 1).val * 512 + (y 1 : ℕ)) (hj : j.val = (y 2 : ℕ)) :
    (dats m 0 c).after 18 t y = cAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) b i j := by
  have hy0 : (y 0 : ℕ) < 1 := (y 0).isLt
  have hN : t.val < 64 := t.isLt
  have h1c := coord1 t
  obtain rfl : j = y 2 := Fin.ext hj
  rw [left18, blk6_eq]
  exact congrFun (cB_eq _ _ _ _ _ _ (y 1) i (m ((c : Thread nD τ).loc main_arg1)) (fun i => hAt (m ((c : Thread nD τ).loc main_arg0)) (m ((c : Thread nD τ).loc main_arg2)) (m ((c : Thread nD τ).loc main_arg3)) b i) _ ((grid0.coords t 1).val * 512) (by omega)
    (fun r => row_eq m c t b r _ (by omega) rfl) (fun a j => before_eq m c t b (by omega) a j _) (m ((c : Thread nD τ).loc main_arg9)) (m ((c : Thread nD τ).loc main_arg10))
    (fun a j => blk13_apply m c t a j) (fun j => blk14_apply m c t j) hi) (y 2)

/-- The kernel's queries. -/
theorem final15 : (dats m 0 c).arrAt 15 cfg0.N = fun y : S2x8x16384x256.Idx => qAt (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (y 0) (y 1) (y 2) (y 3) := by
  refine (dats m 0 c).arrAt_eq_of_covers 15 _ (by decide +kernel) fun t hf y => ?_
  have e0 : ((win0_15.blk t).view.emb y 0 : ℕ) = (grid0.coords t 0).val + (y 0 : ℕ) := by blk_simp [index15]
  have e1 : ((win0_15.blk t).view.emb y 1 : ℕ) = (y 1 : ℕ) := by blk_simp [index15]
  have e2 : ((win0_15.blk t).view.emb y 2 : ℕ) = (grid0.coords t 1).val * 512 + (y 2 : ℕ) := by blk_simp [index15]
  have e3 : ((win0_15.blk t).view.emb y 3 : ℕ) = (y 3 : ℕ) := by blk_simp [index15]
  blk_simp
  exact after15_apply m c t y _ _ _ _ e0 e1 e2 e3

/-- The kernel's keys. -/
theorem final16 : (dats m 0 c).arrAt 16 cfg0.N = fun y : S2x8x16384x256.Idx => kAt (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg8)) (y 0) (y 1) (y 2) (y 3) := by
  refine (dats m 0 c).arrAt_eq_of_covers 16 _ (by decide +kernel) fun t hf y => ?_
  have e0 : ((win0_16.blk t).view.emb y 0 : ℕ) = (grid0.coords t 0).val + (y 0 : ℕ) := by blk_simp [index16]
  have e1 : ((win0_16.blk t).view.emb y 1 : ℕ) = (y 1 : ℕ) := by blk_simp [index16]
  have e2 : ((win0_16.blk t).view.emb y 2 : ℕ) = (grid0.coords t 1).val * 512 + (y 2 : ℕ) := by blk_simp [index16]
  have e3 : ((win0_16.blk t).view.emb y 3 : ℕ) = (y 3 : ℕ) := by blk_simp [index16]
  blk_simp
  exact after16_apply m c t y _ _ _ _ e0 e1 e2 e3

/-- The kernel's values. -/
theorem final17 : (dats m 0 c).arrAt 17 cfg0.N = fun y : S2x8x16384x128.Idx => vAt (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg8)) (y 0) (y 1) (y 2) (y 3) := by
  refine (dats m 0 c).arrAt_eq_of_covers 17 _ (by decide +kernel) fun t hf y => ?_
  have e0 : ((win0_17.blk t).view.emb y 0 : ℕ) = (grid0.coords t 0).val + (y 0 : ℕ) := by blk_simp [index17]
  have e1 : ((win0_17.blk t).view.emb y 1 : ℕ) = (y 1 : ℕ) := by blk_simp [index17]
  have e2 : ((win0_17.blk t).view.emb y 2 : ℕ) = (grid0.coords t 1).val * 512 + (y 2 : ℕ) := by blk_simp [index17]
  have e3 : ((win0_17.blk t).view.emb y 3 : ℕ) = (y 3 : ℕ) := by blk_simp [index17]
  blk_simp
  exact after17_apply m c t y _ _ _ _ e0 e1 e2 e3

/-- The kernel's normed convolution. -/
theorem final18 : (dats m 0 c).arrAt 18 cfg0.N = fun y : S2x16384x1024.Idx => cAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (y 0) (y 1) (y 2) := by
  refine (dats m 0 c).arrAt_eq_of_covers 18 _ (by decide +kernel) fun t hf y => ?_
  have e0 : ((win0_18.blk t).view.emb y 0 : ℕ) = (grid0.coords t 0).val + (y 0 : ℕ) := by blk_simp [index18]
  have e1 : ((win0_18.blk t).view.emb y 1 : ℕ) = (grid0.coords t 1).val * 512 + (y 1 : ℕ) := by blk_simp [index18]
  have e2 : ((win0_18.blk t).view.emb y 2 : ℕ) = (y 2 : ℕ) := by blk_simp [index18]
  blk_simp
  exact after18_apply m c t y _ _ _ e0 e1 e2

end Cert.Inp

end
-- ==== Proof.InpRef.lean ====
module

public import proofs.«01_k».proof.Proof.InpFun
public import proofs.«01_k».proof.Proof.Gen.Reference3Ideal.Run
public import proofs.«01_k».proof.Proof.Gen.Reference3Ideal.Read
public import Idealize.ShloMosaic.Lib.Pointwise

@[expose] public section

noncomputable section

/-! The input projection reference's result arrays, from its arguments. -/

namespace Cert.Inp.Ref

open Cert.Reference3Ideal Cert.Reference3Ideal.Gen Cert.Reference3Ideal.Read Idealize.ShloMosaic Idealize.ShloMosaic.TcCoe Cert.Mix
open scoped BigOperators

/-- Sixteen and a position, added as numbers or as words. -/
theorem shift_eq (i : Fin 16384) :
    (FloatOps.sitofp (F := Ideal) FTy.f32 (BitVec.ofNat 32 (16 + i.val)) : EReal)
      = Ideal.ofBits FTy.f32 1098907648#32 + FloatOps.sitofp (F := Ideal) FTy.f32 (BitVec.ofNat 32 i.val) := by
  have h16 : Ideal.ofBits FTy.f32 1098907648#32 = ((16 : ℝ) : EReal) := by
    simp [Ideal.ofBits, Ideal.ieee, -EReal.coe_mul]; norm_num
  have e : ∀ n : ℕ, n < 2 ^ 31 → (FloatOps.sitofp (F := Ideal) FTy.f32 (BitVec.ofNat 32 n) : EReal) = ((n : ℝ) : EReal) := by
    intro n hn
    show (((BitVec.ofNat 32 n).toInt : ℝ) : EReal) = _
    rw [BitVec.toInt_ofNat', Int.bmod_eq_of_le (by omega) (by omega)]
    norm_cast
  rw [e _ (by omega), e _ (by omega), h16, ← EReal.coe_add]
  push_cast
  rfl

/-- The reference's angles. -/
theorem ang_eq (i : Fin 16384) (l : Fin 32) : val_main_v16 (F := Ideal) (ix2 ⟨16 + i.val, by omega⟩ l) = ang i l := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  exact congrArg (· * _) (shift_eq i)

/-- The reference's cosines. -/
theorem cos_eq (i : Fin 16384) (l : Fin 32) : val_main_v19 (F := Ideal) (ix2 i l) = Ideal.cos (ang i l) := by
  rw [← ang_eq]
  pointwise [val_main_v19, val_main_v17]

/-- The reference's sines. -/
theorem sin_eq (i : Fin 16384) (l : Fin 32) : val_main_v20 (F := Ideal) (ix2 i l) = Ideal.sin (ang i l) := by
  rw [← ang_eq]
  pointwise [val_main_v20, val_main_v18]

variable (x : Vec Ideal S2x16384x2048 .f32) (tl : Vec Ideal S1x8x1024 .f32) (g0 b0 : Vec Ideal S2048 .f32) (W : Vec Ideal S1x2048x4032 .f32)
    (gq : Vec Ideal S1x384 .f32) (gk : Vec Ideal S1x512 .f32) (Uq : Vec Ideal S1x384x1536 .f32) (Uk : Vec Ideal S1x512x2048 .f32)
    (w : Vec Ideal S1x3x1024 .f32) (gc : Vec Ideal S1x1024 .f32) (b : Fin 2) (i : Fin 16384)

/-- The reference's normed input. -/
theorem norm_eq (d : Fin 2048) : val_main_v44 (F := Ideal) x g0 b0 (ix3 b i d) = hAt x g0 b0 b i d := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst_4, val_main_cst_5, val_main_cst_6, val_main_cst_7, val_main_cst_8]
  unfold hAt layerNorm scaled mean
  rfl

/-- The reference's input projection. -/
theorem proj_eq (j : Fin 4032) : val_main_v46 (F := Ideal) x g0 b0 W (ix3 b i j) = prAt (hAt x g0 b0 b i) W j := by
  have h : val_main_v46 (F := Ideal) x g0 b0 W (ix3 b i j) = ∑ k : Fin 2048, val_main_v44 (F := Ideal) x g0 b0 (ix3 b i k) * W (ix3 0 k j) := by
    pointwise [val_main_v46, val_main_v45]
  rw [h]
  exact Finset.sum_congr rfl fun k _ => congrArg (· * W (ix3 0 k j)) (norm_eq x g0 b0 b i k)

/-- The reference's normed query rank. -/
theorem cq_eq (d : Fin 384) : val_main_v66 (F := Ideal) x g0 b0 W gq (ix3 b i d) = cqAt (hAt x g0 b0 b i) W gq d := by
  have h : val_main_v66 (F := Ideal) x g0 b0 W gq (ix3 b i d)
      = rms len384 (fun j : Fin 384 => val_main_v46 (F := Ideal) x g0 b0 W (ix3 b i ⟨j.val, by omega⟩)) (fun j => gq (ix2 0 j)) d := by
    pointwise [val_main_v66, val_main_v65, val_main_v64, val_main_v63, val_main_v62, val_main_v61, val_main_v60, val_main_v59, val_main_v58, val_main_v57, val_main_v56, val_main_v55, val_main_v54, val_main_v53, val_main_v47, val_main_cst_9, val_main_cst_10, val_main_cst_11]
    unfold rms mean
    rfl
  rw [h]
  exact congrArg (fun f => rms len384 f _ d) (funext fun k => proj_eq x g0 b0 W b i _)

/-- The reference's normed key and value rank. -/
theorem ckv_eq (d : Fin 512) : val_main_v83 (F := Ideal) x g0 b0 W gk (ix3 b i d) = ckvAt (hAt x g0 b0 b i) W gk d := by
  have h : val_main_v83 (F := Ideal) x g0 b0 W gk (ix3 b i d)
      = rms len512 (fun j : Fin 512 => val_main_v46 (F := Ideal) x g0 b0 W (ix3 b i ⟨384 + j.val, by omega⟩)) (fun j => gk (ix2 0 j)) d := by
    pointwise [val_main_v83, val_main_v82, val_main_v81, val_main_v80, val_main_v79, val_main_v78, val_main_v77, val_main_v76, val_main_v75, val_main_v74, val_main_v73, val_main_v72, val_main_v71, val_main_v70, val_main_v48, val_main_cst_12, val_main_cst_13, val_main_cst_14]
    unfold rms mean
    rfl
  rw [h]
  exact congrArg (fun f => rms len512 f _ d) (funext fun k => proj_eq x g0 b0 W b i _)

/-- The reference's queries before rotation. -/
theorem uq_eq (hd : Fin 8) (l : Fin 192) : val_main_v69 (F := Ideal) x g0 b0 W gq Uq (ix4 b i hd l) = uqAt (cqAt (hAt x g0 b0 b i) W gq) Uq hd l := by
  have h : val_main_v69 (F := Ideal) x g0 b0 W gq Uq (ix4 b i hd l)
      = ∑ k : Fin 384, val_main_v66 (F := Ideal) x g0 b0 W gq (ix3 b i k) * Uq (ix3 0 k ⟨hd.val * 192 + l.val, by omega⟩) := by
    pointwise [val_main_v69, val_main_v68, val_main_v67]
  rw [h]
  exact Finset.sum_congr rfl fun k _ => congrArg (· * Uq _) (cq_eq x g0 b0 W gq b i k)

/-- The reference's keys and values before rotation. -/
theorem ukv_eq (hd : Fin 8) (l : Fin 256) : val_main_v86 (F := Ideal) x g0 b0 W gk Uk (ix4 b i hd l) = ukvAt (ckvAt (hAt x g0 b0 b i) W gk) Uk hd l := by
  have h : val_main_v86 (F := Ideal) x g0 b0 W gk Uk (ix4 b i hd l)
      = ∑ k : Fin 512, val_main_v83 (F := Ideal) x g0 b0 W gk (ix3 b i k) * Uk (ix3 0 k ⟨hd.val * 256 + l.val, by omega⟩) := by
    pointwise [val_main_v86, val_main_v85, val_main_v84]
  rw [h]
  exact Finset.sum_congr rfl fun k _ => congrArg (· * Uk _) (ckv_eq x g0 b0 W gk b i k)

/-- The reference's rotated queries, from the queries before rotation. -/
theorem rotq_eq (hd : Fin 8) (e : Fin 64) : val_main_v106 (F := Ideal) x g0 b0 W gq Uq (ix4 b i hd e)
    = rot (fun e => val_main_v69 (F := Ideal) x g0 b0 W gq Uq (ix4 b i hd ⟨128 + e.val, by omega⟩)) i e := by
  unfold rot
  simp only [← cos_eq, ← sin_eq]
  pointwise [val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87]
  split_ifs with h
  · rfl
  all_goals exact congrArg (_ + ·) (congrArg (· * _) (congrArg (fun k => val_main_v69 (F := Ideal) x g0 b0 W gq Uq (ix4 b i hd k)) (Fin.ext (by show 128 + (32 + (e.val - 32)) = 128 + e.val; omega))))

/-- The reference's rotated shared key, from the projection. -/
theorem rotk_eq (e : Fin 64) : val_main_v125 (F := Ideal) x g0 b0 W (ix3 b i e)
    = rot (fun e => val_main_v46 (F := Ideal) x g0 b0 W (ix3 b i ⟨896 + e.val, by omega⟩)) i e := by
  unfold rot
  simp only [← cos_eq, ← sin_eq]
  pointwise [val_main_v125, val_main_v124, val_main_v123, val_main_v122, val_main_v121, val_main_v120, val_main_v119, val_main_v118, val_main_v117, val_main_v116, val_main_v115, val_main_v114, val_main_v113, val_main_v112, val_main_v111, val_main_v110, val_main_v109, val_main_v49]
  split_ifs with h
  · rfl
  all_goals exact congrArg (_ + ·) (congrArg (· * _) (congrArg (fun k => val_main_v46 (F := Ideal) x g0 b0 W (ix3 b i k)) (Fin.ext (by show 896 + (32 + (e.val - 32)) = 896 + e.val; omega))))

/-- The reference's first result. -/
theorem q_eq (hd : Fin 8) (l : Fin 256) : val_main_v163 (F := Ideal) x g0 b0 W gq Uq (ix4 b hd i l) = qAt x g0 b0 W gq Uq b hd i l := by
  unfold qAt qRow
  simp only [← uq_eq, ← rotq_eq]
  pointwise [val_main_v163, val_main_v162, val_main_v132, val_main_v131, val_main_v130, val_main_cst_17, val_main_v129, val_main_v128, val_main_cst_16, val_main_v108, val_main_v107, val_main_cst_15]
  rfl

/-- The reference's second result. -/
theorem k_eq (hd : Fin 8) (l : Fin 256) : val_main_v165 (F := Ideal) x g0 b0 W gk Uk (ix4 b hd i l) = kAt x g0 b0 W gk Uk b hd i l := by
  unfold kAt kRow
  simp only [← ukv_eq, ← proj_eq, ← rotk_eq]
  pointwise [val_main_v165, val_main_v164, val_main_v134, val_main_v133, val_main_v128, val_main_cst_16, val_main_v127, val_main_v126]

/-- The reference's third result. -/
theorem v_eq (hd : Fin 8) (l : Fin 128) : val_main_v168 (F := Ideal) x g0 b0 W gk Uk (ix4 b hd i l) = vAt x g0 b0 W gk Uk b hd i l := by
  unfold vAt
  rw [← ukv_eq]
  pointwise [val_main_v168, val_main_v167, val_main_v166]

/-- The reference's gated state. -/
theorem u_eq (j : Fin 1024) : val_main_v137 (F := Ideal) x g0 b0 W (ix3 b i j) = uAt (hAt x g0 b0 b i) W j := by
  unfold uAt
  rw [← proj_eq, ← proj_eq]
  pointwise [val_main_v137, val_main_v51, val_main_v52]

/-- The reference's states, two of them from before the first position. -/
theorem state_eq (n : Fin 16386) (j : Fin 1024) : val_main_v138 (F := Ideal) x tl g0 b0 W (ix3 b n j) = stateAt tl (fun i => uAt (hAt x g0 b0 b i) W) n j := by
  unfold stateAt
  simp only [← u_eq]
  pointwise [val_main_v138, val_main_v136, val_main_v135]

/-- The reference's fourth result. -/
theorem c_eq (j : Fin 1024) : val_main_v183 (F := Ideal) x tl g0 b0 W w gc (ix3 b i j) = cAt x tl g0 b0 W w gc b i j := by
  have h1 : ∀ j : Fin 1024, val_main_v161 (F := Ideal) x tl g0 b0 W w (ix3 b i j)
      = val_main_v46 (F := Ideal) x g0 b0 W (ix3 b i ⟨960 + j.val, by omega⟩) *
        (val_main_v138 (F := Ideal) x tl g0 b0 W (ix3 b ⟨i.val, by omega⟩ j) * w (ix3 0 0 j) + val_main_v138 (F := Ideal) x tl g0 b0 W (ix3 b ⟨1 + i.val, by omega⟩ j) * w (ix3 0 1 j)
          + val_main_v138 (F := Ideal) x tl g0 b0 W (ix3 b ⟨2 + i.val, by omega⟩ j) * w (ix3 0 2 j)) := by
    intro j
    pointwise [val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v50, val_main_cst_18]
  have h : val_main_v183 (F := Ideal) x tl g0 b0 W w gc (ix3 b i j)
      = rms half (fun j : Fin 1024 => val_main_v161 (F := Ideal) x tl g0 b0 W w (ix3 b i j)) (fun j => gc (ix2 0 j)) j := by
    pointwise [val_main_v183, val_main_v182, val_main_v181, val_main_v180, val_main_v179, val_main_v178, val_main_v177, val_main_v176, val_main_v175, val_main_v174, val_main_v173, val_main_v172, val_main_v171, val_main_v170, val_main_v169, val_main_cst_19, val_main_cst_20, val_main_cst_21]
    unfold rms mean
    rfl
  rw [h]
  unfold cAt convRow
  refine congrArg (fun f => rms half f _ j) (funext fun k => (h1 k).trans ?_)
  rw [proj_eq, state_eq, state_eq, state_eq]

end Cert.Inp.Ref

end
-- ==== Proof.InpEnd.lean ====
module

public import proofs.«01_k».proof.Defs
public import proofs.«01_k».proof.Proof.InpArr
public import proofs.«01_k».proof.Proof.InpRef
public import proofs.«01_k».proof.Proof.Gen.Reference3Ideal.Run
public import proofs.«01_k».proof.Proof.Gen.Reference3Ideal.Read

@[expose] public section

noncomputable section

/-! The input projection: the kernel's and the reference's results are the same functions of the arguments. -/

namespace Cert.Inp

section Kernel

open Cert.Kernel3Ideal Cert.Kernel3Ideal.Gen Cert.InpI Idealize.ShloMosaic Idealize.ShloMosaic.TcCoe Idealize.SL.Sem

/-- The kernel runs, leaves its four result arrays at what its grid points wrote and its arguments unchanged. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v66_0) = (dats m 0 c).arrAt 15 cfg0.N
      ∧ r.2.mem ((c : Thread nD τ).loc main_v66_1) = (dats m 0 c).arrAt 16 cfg0.N
      ∧ r.2.mem ((c : Thread nD τ).loc main_v66_2) = (dats m 0 c).arrAt 17 cfg0.N
      ∧ r.2.mem ((c : Thread nD τ).loc main_v66_3) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h.1 c).1 15, (h.1 c).1 16, (h.1 c).1 17, (h.1 c).1 18, h.2 c⟩) (θ_run_and (run_main m ρ) (unchanged m ρ))

end Kernel

open Idealize.ShloMosaic Idealize.SL.Sem

section Reference

open Cert.Reference3Ideal

/-- The reference's queries, as an array. -/
theorem reference_q (x : (⟨S2x16384x2048, .f32⟩ : BufTy).Contents (Elt Ideal)) (g0 : (⟨S2048, .f32⟩ : BufTy).Contents (Elt Ideal)) (b0 : (⟨S2048, .f32⟩ : BufTy).Contents (Elt Ideal)) (W : (⟨S1x2048x4032, .f32⟩ : BufTy).Contents (Elt Ideal)) (gq : (⟨S1x384, .f32⟩ : BufTy).Contents (Elt Ideal)) (Uq : (⟨S1x384x1536, .f32⟩ : BufTy).Contents (Elt Ideal)) :
    Read.val_main_v163 (F := Ideal) x g0 b0 W gq Uq = fun y : S2x8x16384x256.Idx => qAt x g0 b0 W gq Uq (y 0) (y 1) (y 2) (y 3) := by
  funext y
  obtain ⟨b, hd, i, l, rfl⟩ := exists_ix4 y
  exact Ref.q_eq ..

/-- The reference's keys, as an array. -/
theorem reference_k (x : (⟨S2x16384x2048, .f32⟩ : BufTy).Contents (Elt Ideal)) (g0 : (⟨S2048, .f32⟩ : BufTy).Contents (Elt Ideal)) (b0 : (⟨S2048, .f32⟩ : BufTy).Contents (Elt Ideal)) (W : (⟨S1x2048x4032, .f32⟩ : BufTy).Contents (Elt Ideal)) (gk : (⟨S1x512, .f32⟩ : BufTy).Contents (Elt Ideal)) (Uk : (⟨S1x512x2048, .f32⟩ : BufTy).Contents (Elt Ideal)) :
    Read.val_main_v165 (F := Ideal) x g0 b0 W gk Uk = fun y : S2x8x16384x256.Idx => kAt x g0 b0 W gk Uk (y 0) (y 1) (y 2) (y 3) := by
  funext y
  obtain ⟨b, hd, i, l, rfl⟩ := exists_ix4 y
  exact Ref.k_eq ..

/-- The reference's values, as an array. -/
theorem reference_v (x : (⟨S2x16384x2048, .f32⟩ : BufTy).Contents (Elt Ideal)) (g0 : (⟨S2048, .f32⟩ : BufTy).Contents (Elt Ideal)) (b0 : (⟨S2048, .f32⟩ : BufTy).Contents (Elt Ideal)) (W : (⟨S1x2048x4032, .f32⟩ : BufTy).Contents (Elt Ideal)) (gk : (⟨S1x512, .f32⟩ : BufTy).Contents (Elt Ideal)) (Uk : (⟨S1x512x2048, .f32⟩ : BufTy).Contents (Elt Ideal)) :
    Read.val_main_v168 (F := Ideal) x g0 b0 W gk Uk = fun y : S2x8x16384x128.Idx => vAt x g0 b0 W gk Uk (y 0) (y 1) (y 2) (y 3) := by
  funext y
  obtain ⟨b, hd, i, l, rfl⟩ := exists_ix4 y
  exact Ref.v_eq ..

/-- The reference's normed convolution, as an array. -/
theorem reference_c (x : (⟨S2x16384x2048, .f32⟩ : BufTy).Contents (Elt Ideal)) (tl : (⟨S1x8x1024, .f32⟩ : BufTy).Contents (Elt Ideal)) (g0 : (⟨S2048, .f32⟩ : BufTy).Contents (Elt Ideal)) (b0 : (⟨S2048, .f32⟩ : BufTy).Contents (Elt Ideal)) (W : (⟨S1x2048x4032, .f32⟩ : BufTy).Contents (Elt Ideal)) (w : (⟨S1x3x1024, .f32⟩ : BufTy).Contents (Elt Ideal)) (gc : (⟨S1x1024, .f32⟩ : BufTy).Contents (Elt Ideal)) :
    Read.val_main_v183 (F := Ideal) x tl g0 b0 W w gc = fun y : S2x16384x1024.Idx => cAt x tl g0 b0 W w gc (y 0) (y 1) (y 2) := by
  funext y
  obtain ⟨b, i, j, rfl⟩ := exists_ix3 y
  exact Ref.c_eq ..

end Reference

/-- The reference runs, leaves its arguments unchanged and ends with every counter at zero. -/
theorem reference_frame : Cert.quiescent_Reference3Ideal := fun m ρ _ =>
  (θ_run Cert.Reference3Ideal.defs _ _).mono (fun r h => And.intro (fun c => (h c).2.2.2.2) (sem_eq_zero_of_no_sems (by decide) r.2))
    (Cert.Reference3Ideal.Value.run m ρ)

set_option maxHeartbeats 2000000 in
/-- The kernel's and the reference's four results are the same. -/
theorem algebraic : Cert.algebraic_Kernel3Ideal_Reference3Ideal := by
  intro m g m' g' _ hargs
  refine ⟨fun c => (Cert.InpI.dats m 0 c).arrAt 15 Cert.Kernel3Ideal.cfg0.N, fun c => (Cert.InpI.dats m 0 c).arrAt 16 Cert.Kernel3Ideal.cfg0.N,
    fun c => (Cert.InpI.dats m 0 c).arrAt 17 Cert.Kernel3Ideal.cfg0.N, fun c => (Cert.InpI.dats m 0 c).arrAt 18 Cert.Kernel3Ideal.cfg0.N, run_blocks m g, ?_⟩
  refine (θ_run Cert.Reference3Ideal.defs _ _).mono (fun r h c => ⟨((h c).1.trans (Cert.Reference3Ideal.Read.val_main_v163_eq _)).trans ((reference_q ..).trans ?_),
    ((h c).2.1.trans (Cert.Reference3Ideal.Read.val_main_v165_eq _)).trans ((reference_k ..).trans ?_),
    ((h c).2.2.1.trans (Cert.Reference3Ideal.Read.val_main_v168_eq _)).trans ((reference_v ..).trans ?_),
    ((h c).2.2.2.1.trans (Cert.Reference3Ideal.Read.val_main_v183_eq _)).trans ((reference_c ..).trans ?_), (h c).2.2.2.2⟩) (Cert.Reference3Ideal.Value.run m' g')
  all_goals obtain ⟨h0, h1, h2, h3, h4, h5, h6, h7, h8, h9, h10⟩ := hargs c
  all_goals have e0 : StableHlo.launchContents m' c (Proc.devRef .tc Cert.Reference3Ideal.main_arg0) = _ := h0
  all_goals have e1 : StableHlo.launchContents m' c (Proc.devRef .tc Cert.Reference3Ideal.main_arg1) = _ := h1
  all_goals have e2 : StableHlo.launchContents m' c (Proc.devRef .tc Cert.Reference3Ideal.main_arg2) = _ := h2
  all_goals have e3 : StableHlo.launchContents m' c (Proc.devRef .tc Cert.Reference3Ideal.main_arg3) = _ := h3
  all_goals have e4 : StableHlo.launchContents m' c (Proc.devRef .tc Cert.Reference3Ideal.main_arg4) = _ := h4
  all_goals have e5 : StableHlo.launchContents m' c (Proc.devRef .tc Cert.Reference3Ideal.main_arg5) = _ := h5
  all_goals have e6 : StableHlo.launchContents m' c (Proc.devRef .tc Cert.Reference3Ideal.main_arg6) = _ := h6
  all_goals have e7 : StableHlo.launchContents m' c (Proc.devRef .tc Cert.Reference3Ideal.main_arg7) = _ := h7
  all_goals have e8 : StableHlo.launchContents m' c (Proc.devRef .tc Cert.Reference3Ideal.main_arg8) = _ := h8
  all_goals have e9 : StableHlo.launchContents m' c (Proc.devRef .tc Cert.Reference3Ideal.main_arg9) = _ := h9
  all_goals have e10 : StableHlo.launchContents m' c (Proc.devRef .tc Cert.Reference3Ideal.main_arg10) = _ := h10
  · rw [e0, e2, e3, e4, e5, e7]
    exact (final15 m c).symm
  · rw [e0, e2, e3, e4, e6, e8]
    exact (final16 m c).symm
  · rw [e0, e2, e3, e4, e6, e8]
    exact (final17 m c).symm
  · rw [e0, e1, e2, e3, e4, e9, e10]
    exact (final18 m c).symm

end Cert.Inp

end
-- ==== Proof.Softmax.lean ====
module

public import Idealize.ShloMosaic.PureOps.Ideal.Laws
public import Mathlib.Data.Fin.Tuple.Basic
public import Mathlib.Algebra.BigOperators.Fin

@[expose] public section

noncomputable section

/-! Softmax of one row of scores computed tile by tile, on the extended reals.

A row is a sequence of scores `S c`, each a real or `⊥` (a key the query does not see), and a sequence of
values `V c`. The three numbers a tile-by-tile kernel carries, after the first `n` columns, are the greatest
score so far, the sum of the exponentials relative to it, and the exponentials' sum weighted by the values. -/

namespace Cert.Softmax

open Idealize.ShloMosaic
open scoped BigOperators

/-- A score is a real number, or `⊥` for a key that is hidden. -/
def Score (x : EReal) : Prop := x = ⊥ ∨ ∃ r : ℝ, x = (r : EReal)

/-- The greatest of the first `n` scores. -/
def top (S : ℕ → EReal) (n : ℕ) : EReal := (Finset.range n).sup S

/-- The sum of the exponentials of the first `n` scores, relative to `m`. -/
def den (S : ℕ → EReal) (n : ℕ) (m : EReal) : EReal := ∑ c ∈ Finset.range n, Ideal.exp (S c - m)

/-- The sum of the first `n` values weighted by the exponentials of their scores, relative to `m`. -/
def num (S V : ℕ → EReal) (n : ℕ) (m : EReal) : EReal := ∑ c ∈ Finset.range n, Ideal.exp (S c - m) * V c

/-- A product of a non-negative real with a sum is the sum of the products, whatever the summands are. -/
theorem mul_sum_real {ι : Type*} (a : EReal) (h0 : 0 ≤ a) (ht : a ≠ ⊤) (s : Finset ι) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- The exponential of a score less a real is a non-negative real. -/
theorem exp_sub_real {s : EReal} (hs : Score s) (m : ℝ) : ∃ r : ℝ, 0 ≤ r ∧ Ideal.exp (s - (m : EReal)) = (r : EReal) := by
  rcases hs with rfl | ⟨r, rfl⟩
  · exact ⟨0, le_refl _, by simp⟩
  · exact ⟨Real.exp (r - m), (Real.exp_pos _).le, by rw [← EReal.coe_sub, Ideal.exp_coe]⟩

/-- Changing the number the exponentials are relative to multiplies them by one exponential. -/
theorem exp_rescale {s : EReal} (hs : Score s) (m m' : ℝ) :
    Ideal.exp ((m : EReal) - m') * Ideal.exp (s - (m : EReal)) = Ideal.exp (s - (m' : EReal)) := by
  rcases hs with rfl | ⟨r, rfl⟩
  · simp
  · rw [← EReal.coe_sub, ← EReal.coe_sub, ← EReal.coe_sub, Ideal.exp_coe, Ideal.exp_coe, Ideal.exp_coe, ← EReal.coe_mul,
      ← Real.exp_add]
    congr 2
    ring

/-- The greater of two scores is a score. -/
theorem Score.max {x y : EReal} (hx : Score x) (hy : Score y) : Score (max x y) := by
  rcases max_choice x y with h | h <;> rw [h] <;> assumption

/-- The greatest of finitely many scores is a score. -/
theorem score_sup {ι : Type*} (s : Finset ι) (f : ι → EReal) (h : ∀ i, Score (f i)) : Score (s.sup f) := by
  classical
  induction s using Finset.induction_on with
  | empty => exact Or.inl (by simp)
  | insert i s hi ih => rw [Finset.sup_insert]; exact (h i).max ih

/-- When the first score is real, the greatest of the first `n > 0` scores is real. -/
theorem top_real {S : ℕ → EReal} (hS : ∀ c, Score (S c)) (h0 : S 0 ≠ ⊥) {n : ℕ} (hn : 0 < n) :
    ∃ r : ℝ, top S n = (r : EReal) := by
  rcases score_sup (Finset.range n) S hS with h | h
  · exact absurd (le_bot_iff.mp (h ▸ Finset.le_sup (f := S) (Finset.mem_range.mpr hn))) h0
  · exact h

/-- A fold of `max` from `⊥` over all coordinates is the supremum. -/
theorem fold_max_eq_sup {ι : Type*} (s : Finset ι) (f : ι → EReal) : s.fold max ⊥ f = s.sup f := rfl

/-- The greatest of `n + w` scores is the greater of the first `n`'s and the next `w`'s. -/
theorem top_add (S : ℕ → EReal) (n w : ℕ) :
    top S (n + w) = max (top S n) ((Finset.univ : Finset (Fin w)).sup fun j => S (n + j.val)) := by
  apply le_antisymm
  · refine Finset.sup_le fun c hc => ?_
    rw [Finset.mem_range] at hc
    by_cases h : c < n
    · exact le_max_of_le_left (Finset.le_sup (f := S) (Finset.mem_range.mpr h))
    · refine le_max_of_le_right ?_
      have := Finset.le_sup (f := fun j : Fin w => S (n + j.val)) (Finset.mem_univ ⟨c - n, by omega⟩)
      rwa [show n + (c - n) = c by omega] at this
  · refine max_le (Finset.sup_le fun c hc => ?_) (Finset.sup_le fun j _ => ?_)
    · rw [Finset.mem_range] at hc
      exact Finset.le_sup (f := S) (Finset.mem_range.mpr (by omega))
    · exact Finset.le_sup (f := S) (Finset.mem_range.mpr (by have := j.isLt; omega))

/-- A sum over the first `n + w` columns is the sum over the first `n` plus the sum over the next `w`. -/
theorem sum_range_add_fin (f : ℕ → EReal) (n w : ℕ) :
    ∑ c ∈ Finset.range (n + w), f c = ∑ c ∈ Finset.range n, f c + ∑ j : Fin w, f (n + j.val) := by
  rw [Finset.sum_range_add, Finset.sum_range (fun x => f (n + x))]

variable {S V : ℕ → EReal}

/-- One tile's step of the sum of exponentials: the sum so far is rescaled to the new maximum, and the tile's
exponentials are added. -/
theorem den_step (hS : ∀ c, Score (S c)) (m m' : ℝ) (n w : ℕ) :
    Ideal.exp ((m : EReal) - m') * den S n m + ∑ j : Fin w, Ideal.exp (S (n + j.val) - m') = den S (n + w) m' := by
  unfold den
  rw [sum_range_add_fin]
  obtain ⟨r, hr, he⟩ := exp_sub_real (Or.inr ⟨m, rfl⟩) m'
  rw [mul_sum_real _ (by rw [he]; exact_mod_cast hr) (by rw [he]; exact EReal.coe_ne_top r)]
  congr 1
  exact Finset.sum_congr rfl fun c _ => exp_rescale (hS c) m m'

/-- One tile's step of the weighted sum, in the same way. -/
theorem num_step (hS : ∀ c, Score (S c)) (m m' : ℝ) (n w : ℕ) :
    Ideal.exp ((m : EReal) - m') * num S V n m + ∑ j : Fin w, Ideal.exp (S (n + j.val) - m') * V (n + j.val)
      = num S V (n + w) m' := by
  unfold num
  rw [sum_range_add_fin]
  obtain ⟨r, hr, he⟩ := exp_sub_real (Or.inr ⟨m, rfl⟩) m'
  rw [mul_sum_real _ (by rw [he]; exact_mod_cast hr) (by rw [he]; exact EReal.coe_ne_top r)]
  congr 1
  exact Finset.sum_congr rfl fun c _ => by rw [← mul_assoc, exp_rescale (hS c) m m']

/-- Columns that are all hidden do not change the greatest score. -/
theorem top_hidden {n N : ℕ} (h : n ≤ N) (hb : ∀ c, n ≤ c → c < N → S c = ⊥) : top S N = top S n := by
  obtain ⟨w, rfl⟩ := Nat.exists_eq_add_of_le h
  rw [top_add, max_eq_left]
  exact Finset.sup_le fun j _ => by rw [hb (n + j.val) (by omega) (by have := j.isLt; omega)]; exact bot_le

/-- Columns that are all hidden do not change a sum of terms that vanish at hidden columns. -/
theorem sum_hidden {n N : ℕ} (h : n ≤ N) (f : ℕ → EReal) (hb : ∀ c, n ≤ c → c < N → f c = 0) :
    ∑ c ∈ Finset.range N, f c = ∑ c ∈ Finset.range n, f c := by
  obtain ⟨w, rfl⟩ := Nat.exists_eq_add_of_le h
  rw [Finset.sum_range_add, Finset.sum_eq_zero (fun j hj => hb (n + j) (by omega) (by have := Finset.mem_range.mp hj; omega)), add_zero]

/-- The sum of exponentials relative to the greatest score is a positive real. -/
theorem den_real (hS : ∀ c, Score (S c)) (h0 : S 0 ≠ ⊥) {n : ℕ} (hn : 0 < n) (m : ℝ) :
    ∃ r : ℝ, 0 < r ∧ den S n m = (r : EReal) := by
  choose f hf0 hf using fun c => exp_sub_real (hS c) m
  refine ⟨∑ c ∈ Finset.range n, f c, ?_, ?_⟩
  · refine lt_of_lt_of_le ?_ (Finset.single_le_sum (fun c _ => hf0 c) (Finset.mem_range.mpr hn))
    obtain ⟨s, hs⟩ := (hS 0).resolve_left h0
    have h := hf 0
    rw [hs, ← EReal.coe_sub, Ideal.exp_coe] at h
    rw [← EReal.coe_eq_coe_iff.mp h]
    exact Real.exp_pos _
  · unfold den
    rw [Finset.sum_congr rfl fun c _ => hf c]
    exact (map_sum (⟨⟨Real.toEReal, rfl⟩, EReal.coe_add⟩ : ℝ →+ EReal) f (Finset.range n)).symm

/-- The quotient of the weighted sum and the sum of exponentials over the visible columns is the sum, over all
columns, of the values times the softmax weights. -/
theorem quotient_eq (hS : ∀ c, Score (S c)) (h0 : S 0 ≠ ⊥) {n N : ℕ} (hn : 0 < n) (h : n ≤ N)
    (hb : ∀ c, n ≤ c → c < N → S c = ⊥) :
    Ideal.div (num S V n (top S n)) (den S n (top S n))
      = ∑ c ∈ Finset.range N, V c * Ideal.div (Ideal.exp (S c - top S N)) (den S N (top S N)) := by
  have hN : 0 < N := by omega
  rw [top_hidden h hb]
  obtain ⟨m, hm⟩ := top_real hS h0 hn
  rw [hm]
  have hz : ∀ c, n ≤ c → c < N → Ideal.exp (S c - (m : EReal)) = 0 := fun c h1 h2 => by rw [hb c h1 h2]; simp
  have hden : den S N m = den S n m := sum_hidden h _ hz
  have hnum : num S V N m = num S V n m := sum_hidden h _ fun c h1 h2 => by rw [hz c h1 h2, zero_mul]
  rw [hden, ← hnum]
  obtain ⟨r, hr, he⟩ := den_real hS h0 hn m
  rw [he, Ideal.div_coe hr.ne', mul_comm]
  unfold num
  rw [mul_sum_real _ (by exact_mod_cast (one_div_pos.mpr hr).le) (EReal.coe_ne_top _)]
  refine Finset.sum_congr rfl fun c _ => ?_
  rw [Ideal.div_coe hr.ne', ← mul_assoc, mul_comm]
  congr 1
  exact mul_comm _ _

end Cert.Softmax

end
-- ==== Proof.Tile.lean ====
module

public import proofs.«01_k».proof.Proof.Gen.KernelIdeal.Frame
public import proofs.«01_k».proof.Proof.Softmax
public import Idealize.ShloMosaic.Lib.Pointwise

@[expose] public section

noncomputable section

/-! What one tile of the attention kernel computes, read at a row and a column. -/

namespace Cert.Attn

open Cert.KernelIdeal Cert.KernelIdeal.Gen Idealize.ShloMosaic
open scoped BigOperators

/-- The kernel's named mask constant is `⊥`. -/
theorem mask_bot : (Named.named Cert.KernelIdeal.κ "mask" 0xF149F2CA#32 : Ideal .f32) = ⊥ :=
  IdealRules.named_const.ideal_named_scalar _ _ _ _ rfl

/-- The pattern the row maxima start from is `⊥`. -/
theorem ninf_bot : Ideal.ofBits .f32 0xFF800000#32 = ⊥ := by
  simp [Ideal.ofBits, Ideal.ieee]

/-- A coordinate below 512 shifted right by 6 bits is its chunk number. -/
theorem shift_chunk : ∀ x : Fin 512, IntOp.shrsi .vector (BitVec.ofNat 32 x.val) 6#32 = BitVec.ofNat 32 (x.val / 64) := by
  decide +kernel

/-- The comparison of two chunk numbers below 8. -/
theorem cmp_chunk : ∀ a b : Fin 8, IntOp.cmpi .sle (IntOp.addi (BitVec.ofNat 32 a.val) 0#32) (BitVec.ofNat 32 b.val)
    = if a.val ≤ b.val then 1#1 else 0#1 := by
  decide +kernel

/-- The diagonal tile's mask at a row and a column: the column's chunk is no later than the row's. -/
theorem diag_mask {α : Type} (c r : Fin 512) (A B : α) :
    Scalar.select (IntOp.cmpi .sle (IntOp.addi (IntOp.shrsi .vector (BitVec.ofNat 32 c.val) 6#32) 0#32)
        (IntOp.shrsi .vector (BitVec.ofNat 32 r.val) 6#32)) A B
      = if c.val / 64 ≤ r.val / 64 then A else B := by
  rw [shift_chunk, shift_chunk]
  have h := cmp_chunk ⟨c.val / 64, by have := c.isLt; omega⟩ ⟨r.val / 64, by have := r.isLt; omega⟩
  rw [show IntOp.cmpi .sle (IntOp.addi (BitVec.ofNat 32 (c.val / 64)) 0#32) (BitVec.ofNat 32 (r.val / 64)) = _ from h]
  split_ifs <;> rfl

/-- The comparison of a lane with the number of meta tokens. -/
theorem cmp_meta : ∀ a : Fin 128, IntOp.cmpi .slt (BitVec.ofNat 32 a.val) 16#32 = if a.val < 16 then 1#1 else 0#1 := by
  decide +kernel

/-- The meta tile's mask at a lane: the lane holds a meta token. -/
theorem meta_mask {α : Type} (c : Fin 128) (A B : α) :
    Scalar.select (IntOp.cmpi .slt (BitVec.ofNat 32 c.val) 16#32) A B = if c.val < 16 then A else B := by
  rw [cmp_meta]
  split_ifs <;> rfl

variable (x0 : Vec Ideal S1x1x512x256 .bf16)

/-- A meta tile's score. -/
theorem metaScore_apply (km : Vec Ideal S1x128x256 .bf16) (r : Fin 512) (c : Fin 128) :
    k0_pay2 x0 km (ix2 r c) = if c.val < 16 then ∑ d : Fin 256, x0 (ix4 0 0 r d) * km (ix3 0 c d) else ⊥ := by
  pointwise [k0_pay2, k0_pay1]
  rw [meta_mask, mask_bot]

/-- The first maximum of a row. -/
theorem metaMax_apply (km : Vec Ideal S1x128x256 .bf16) (r : Fin 512) :
    k0_pay3 x0 km (ix2 r 0) = Finset.univ.sup fun j : Fin 128 => k0_pay2 x0 km (ix2 r j) := by
  pointwise [k0_pay3]
  rw [ninf_bot, Softmax.fold_max_eq_sup]

/-- The first sum of exponentials of a row. -/
theorem metaDen_apply (km : Vec Ideal S1x128x256 .bf16) (r : Fin 512) :
    k0_pay5 x0 km (ix2 r 0) = ∑ j : Fin 128, Ideal.exp (k0_pay2 x0 km (ix2 r j) - k0_pay3 x0 km (ix2 r 0)) := by
  pointwise [k0_pay5, k0_pay4]

/-- The first weighted sum of a row. -/
theorem metaNum_apply (km : Vec Ideal S1x128x256 .bf16) (vm : Vec Ideal S1x128x128 .bf16) (r : Fin 512) (e : Fin 128) :
    k0_pay6 x0 km vm (ix2 r e)
      = ∑ j : Fin 128, Ideal.exp (k0_pay2 x0 km (ix2 r j) - k0_pay3 x0 km (ix2 r 0)) * vm (ix3 0 j e) := by
  pointwise [k0_pay6, k0_pay4]

variable (m l : FVec Ideal S512x1 .f32) (a : FVec Ideal S512x128 .f32) (kb : Vec Ideal S1x1x512x256 .bf16)
  (vb : Vec Ideal S1x1x512x128 .bf16)

/-- An unmasked tile's score. -/
theorem score_apply (r c : Fin 512) : k0_pay7 x0 kb (ix2 r c) = ∑ d : Fin 256, x0 (ix4 0 0 r d) * kb (ix4 0 0 c d) := by
  pointwise [k0_pay7, k0_pay1]

/-- The maximum of a row after an unmasked tile. -/
theorem max_apply (r : Fin 512) :
    k0_pay8 x0 m kb (ix2 r 0) = max (m (ix2 r 0)) (Finset.univ.sup fun j : Fin 512 => k0_pay7 x0 kb (ix2 r j)) := by
  pointwise [k0_pay8]
  rw [ninf_bot, Softmax.fold_max_eq_sup]

/-- The sum of exponentials of a row after an unmasked tile. -/
theorem den_apply (r : Fin 512) :
    k0_pay11 x0 m l kb (ix2 r 0)
      = Ideal.exp (m (ix2 r 0) - k0_pay8 x0 m kb (ix2 r 0)) * l (ix2 r 0)
        + ∑ j : Fin 512, Ideal.exp (k0_pay7 x0 kb (ix2 r j) - k0_pay8 x0 m kb (ix2 r 0)) := by
  pointwise [k0_pay11, k0_pay9, k0_pay10]

/-- The weighted sum of a row after an unmasked tile. -/
theorem num_apply (r : Fin 512) (e : Fin 128) :
    k0_pay12 x0 m a kb vb (ix2 r e)
      = Ideal.exp (m (ix2 r 0) - k0_pay8 x0 m kb (ix2 r 0)) * a (ix2 r e)
        + ∑ j : Fin 512, Ideal.exp (k0_pay7 x0 kb (ix2 r j) - k0_pay8 x0 m kb (ix2 r 0)) * vb (ix4 0 0 j e) := by
  pointwise [k0_pay12, k0_pay9, k0_pay10]

/-- The diagonal tile's score: hidden where the column's chunk is later than the row's. -/
def diagScore (r c : Fin 512) : EReal :=
  if c.val / 64 ≤ r.val / 64 then ∑ d : Fin 256, x0 (ix4 0 0 r d) * kb (ix4 0 0 c d) else ⊥

/-- The maximum of a row after the diagonal tile. -/
def diagMax (r : Fin 512) : EReal := max (m (ix2 r 0)) (Finset.univ.sup fun j : Fin 512 => diagScore x0 kb r j)

/-- What the kernel stores: the weighted sum of a row after the diagonal tile, divided by the sum of exponentials. -/
theorem out_apply (r : Fin 512) (e : Fin 128) :
    k0_pay21 (k0_pay1 x0) m l a k0_pay19 (iota .tc S512x512 32 [1] iota_S512x512_d1_w32) k0_pay20 kb vb (ix3 0 r e)
      = Ideal.div
        (Ideal.exp (m (ix2 r 0) - diagMax x0 m kb r) * a (ix2 r e)
          + ∑ j : Fin 512, Ideal.exp (diagScore x0 kb r j - diagMax x0 m kb r) * vb (ix4 0 0 j e))
        (Ideal.exp (m (ix2 r 0) - diagMax x0 m kb r) * l (ix2 r 0)
          + ∑ j : Fin 512, Ideal.exp (diagScore x0 kb r j - diagMax x0 m kb r)) := by
  pointwise [k0_pay21, k0_pay19, k0_pay20, k0_pay1]
  simp only [diag_mask, mask_bot, ninf_bot, Softmax.fold_max_eq_sup]
  rfl

end Cert.Attn

end
-- ==== Proof.Block.lean ====
module

public import proofs.«01_k».proof.Proof.Tile
public import Idealize.ShloMosaic.Lib.Pipeline.ValueKit.Acc

@[expose] public section

noncomputable section

/-! What the attention kernel stores at a grid point, from the blocks it is given: its loop over the key tiles carries a
row's greatest score, its sum of exponentials and its weighted sum over the columns passed. -/

namespace Cert.Attn

open Cert.KernelIdeal Cert.KernelIdeal.Gen Idealize.ShloMosaic Cert.Softmax
open scoped BigOperators

section Row

variable (x0 : Vec Ideal S1x1x512x256 .bf16) (x1 : Vec Ideal S1x1x16384x256 .bf16) (x2 : Vec Ideal S1x1x16384x128 .bf16)
  (x3 : Vec Ideal S1x128x256 .bf16) (x4 : Vec Ideal S1x128x128 .bf16)

/-- The score of row `r` of query tile `b` at column `c`: the 16 meta tokens first, then the sequence, hidden where
    the column's chunk is later than the row's. -/
def rowScore (b : ℕ) (r : Fin 512) (c : ℕ) : EReal :=
  if h : c < 16 then ∑ d : Fin 256, x0 (ix4 0 0 r d) * x3 (ix3 0 ⟨c, by omega⟩ d)
  else if h : c - 16 < 16384 then
    if (c - 16) / 64 ≤ (512 * b + r.val) / 64 then ∑ d : Fin 256, x0 (ix4 0 0 r d) * x1 (ix4 0 0 ⟨c - 16, h⟩ d) else ⊥
  else ⊥

/-- Lane `e` of the value at column `c`: the 16 meta tokens first, then the sequence. -/
def rowVal (e : Fin 128) (c : ℕ) : EReal :=
  if h : c < 16 then x4 (ix3 0 ⟨c, by omega⟩ e)
  else if h : c - 16 < 16384 then x2 (ix4 0 0 ⟨c - 16, h⟩ e) else 0

theorem rowScore_meta (b : ℕ) (r : Fin 512) (c : ℕ) (h : c < 16) :
    rowScore x0 x1 x3 b r c = ∑ d : Fin 256, x0 (ix4 0 0 r d) * x3 (ix3 0 ⟨c, by omega⟩ d) := dif_pos h

theorem rowScore_seq (b : ℕ) (r : Fin 512) (c : ℕ) (h : c < 16384) :
    rowScore x0 x1 x3 b r (16 + c) = if c / 64 ≤ (512 * b + r.val) / 64
      then ∑ d : Fin 256, x0 (ix4 0 0 r d) * x1 (ix4 0 0 ⟨c, h⟩ d) else ⊥ := by
  unfold rowScore
  rw [dif_neg (by omega)]
  simp only [Nat.add_sub_cancel_left]
  rw [dif_pos h]

theorem rowVal_meta (e : Fin 128) (c : ℕ) (h : c < 16) : rowVal x2 x4 e c = x4 (ix3 0 ⟨c, by omega⟩ e) := dif_pos h

theorem rowVal_seq (e : Fin 128) (c : ℕ) (h : c < 16384) : rowVal x2 x4 e (16 + c) = x2 (ix4 0 0 ⟨c, h⟩ e) := by
  unfold rowVal
  rw [dif_neg (by omega)]
  simp only [Nat.add_sub_cancel_left]
  rw [dif_pos h]

/-- The loop's carried values after the first `n` columns. -/
def Inv (b n : ℕ) (s : FVec Ideal S512x1 .f32 × FVec Ideal S512x1 .f32 × FVec Ideal S512x128 .f32) : Prop :=
  ∀ r : Fin 512, s.1 (ix2 r 0) = top (rowScore x0 x1 x3 b r) n
    ∧ s.2.1 (ix2 r 0) = den (rowScore x0 x1 x3 b r) n (top (rowScore x0 x1 x3 b r) n)
    ∧ ∀ e : Fin 128, s.2.2 (ix2 r e) = num (rowScore x0 x1 x3 b r) (rowVal x2 x4 e) n (top (rowScore x0 x1 x3 b r) n)

/-- Before the first tile the carried values are those of the 16 meta tokens. -/
theorem inv_init (b : ℕ) : Inv x0 x1 x2 x3 x4 b 16 (k0_pay3 x0 x3, k0_pay5 x0 x3, k0_pay6 x0 x3 x4) := by
  unfold Inv
  intro r
  dsimp only
  let f : ℕ → EReal := fun c => if h : c < 128 then k0_pay2 x0 x3 (ix2 r ⟨c, h⟩) else ⊥
  have hf : ∀ c, 16 ≤ c → c < 128 → f c = ⊥ := fun c h1 h2 => by
    show (if h : c < 128 then _ else _) = _
    rw [dif_pos h2, metaScore_apply, if_neg (by show ¬ c < 16; omega)]
  have hfj : ∀ j : Fin 128, f j.val = k0_pay2 x0 x3 (ix2 r j) := fun j => dif_pos j.isLt
  have hS : ∀ c, c < 16 → f c = rowScore x0 x1 x3 b r c := fun c h => by
    show (if h : c < 128 then _ else _) = _
    rw [dif_pos (by omega), metaScore_apply, if_pos (show c < 16 from h), rowScore_meta _ _ _ _ _ _ h]
  have hm : k0_pay3 x0 x3 (ix2 r 0) = top (rowScore x0 x1 x3 b r) 16 := by
    rw [metaMax_apply]
    have h1 := top_add f 0 128
    rw [show top f 0 = ⊥ from rfl, max_eq_right bot_le] at h1
    simp only [Nat.zero_add, hfj] at h1
    rw [← h1, top_hidden (show 16 ≤ 128 by omega) hf]
    exact Finset.sup_congr rfl fun c hc => hS c (Finset.mem_range.mp hc)
  have hsum : ∀ (g : ℕ → EReal) (M : EReal), ∑ j : Fin 128, Ideal.exp (k0_pay2 x0 x3 (ix2 r j) - M) * g j.val
      = ∑ c ∈ Finset.range 16, Ideal.exp (rowScore x0 x1 x3 b r c - M) * g c := fun g M => by
    rw [← Finset.sum_congr rfl (fun c hc => by rw [← hS c (Finset.mem_range.mp hc)] :
        ∀ c ∈ Finset.range 16, Ideal.exp (f c - M) * g c = Ideal.exp (rowScore x0 x1 x3 b r c - M) * g c),
      ← sum_hidden (show 16 ≤ 128 by omega) (fun c => Ideal.exp (f c - M) * g c) (fun c h1 h2 => by
        show Ideal.exp (f c - M) * g c = 0
        rw [hf c h1 h2]; simp), Finset.sum_range]
    exact Finset.sum_congr rfl fun j _ => by rw [hfj]
  refine ⟨hm, ?_, fun e => ?_⟩
  · rw [metaDen_apply, hm]
    have h := hsum (fun _ => 1) (top (rowScore x0 x1 x3 b r) 16)
    simp only [mul_one] at h
    exact h
  · rw [metaNum_apply, hm]
    let g : ℕ → EReal := fun c => if h : c < 128 then x4 (ix3 0 ⟨c, h⟩ e) else 0
    have h := hsum g (top (rowScore x0 x1 x3 b r) 16)
    have hg : ∀ j : Fin 128, g j.val = x4 (ix3 0 j e) := fun j => dif_pos j.isLt
    simp only [hg] at h
    rw [h]
    refine Finset.sum_congr rfl fun c hc => ?_
    have hc := Finset.mem_range.mp hc
    rw [rowVal_meta _ _ _ _ hc, show g c = x4 (ix3 0 ⟨c, by omega⟩ e) from dif_pos (by omega)]

variable (hS : ∀ b r c, Score (rowScore x0 x1 x3 b r c)) (h0 : ∀ b r, rowScore x0 x1 x3 b r 0 ≠ ⊥)
include hS h0

/-- One tile's update of a row: from the first `n` columns to the first `n + 512`. -/
theorem row_step (b n : ℕ) (hn : 0 < n) (s : FVec Ideal S512x1 .f32 × FVec Ideal S512x1 .f32 × FVec Ideal S512x128 .f32)
    (hs : Inv x0 x1 x2 x3 x4 b n s) (r : Fin 512) (e : Fin 128) (f v : Fin 512 → EReal)
    (hf : ∀ j, f j = rowScore x0 x1 x3 b r (n + j.val)) (hv : ∀ j, v j = rowVal x2 x4 e (n + j.val)) (M : EReal)
    (hM : M = max (s.1 (ix2 r 0)) (Finset.univ.sup f)) :
    M = top (rowScore x0 x1 x3 b r) (n + 512)
    ∧ Ideal.exp (s.1 (ix2 r 0) - M) * s.2.1 (ix2 r 0) + ∑ j : Fin 512, Ideal.exp (f j - M)
      = den (rowScore x0 x1 x3 b r) (n + 512) (top (rowScore x0 x1 x3 b r) (n + 512))
    ∧ Ideal.exp (s.1 (ix2 r 0) - M) * s.2.2 (ix2 r e) + ∑ j : Fin 512, Ideal.exp (f j - M) * v j
      = num (rowScore x0 x1 x3 b r) (rowVal x2 x4 e) (n + 512) (top (rowScore x0 x1 x3 b r) (n + 512)) := by
  obtain ⟨h1, h2, h3⟩ := hs r
  have hT : M = top (rowScore x0 x1 x3 b r) (n + 512) := by
    rw [hM, h1, top_add, show f = _ from funext hf]
  obtain ⟨m, hm⟩ := top_real (hS b r) (h0 b r) hn
  obtain ⟨m', hm'⟩ := top_real (hS b r) (h0 b r) (show 0 < n + 512 by omega)
  refine ⟨hT, ?_, ?_⟩
  · rw [hT, h1, h2, hm, hm']
    simp only [hf]
    exact den_step (hS b r) m m' n 512
  · rw [hT, h1, h3 e, hm, hm']
    simp only [hf, hv]
    exact num_step (hS b r) m m' n 512

/-- One unmasked tile of keys and values, columns `512 k ..` of the sequence, before the query tile's own. -/
theorem inv_step (b k : ℕ) (hk : k < b) (hb : b < 32) (s : FVec Ideal S512x1 .f32 × FVec Ideal S512x1 .f32 × FVec Ideal S512x128 .f32)
    (hs : Inv x0 x1 x2 x3 x4 b (16 + 512 * k) s) (kb : Vec Ideal S1x1x512x256 .bf16) (vb : Vec Ideal S1x1x512x128 .bf16)
    (hkb : ∀ (j : Fin 512) (d : Fin 256), kb (ix4 0 0 j d) = x1 (ix4 0 0 ⟨512 * k + j.val, by have := j.isLt; omega⟩ d))
    (hvb : ∀ (j : Fin 512) (e : Fin 128), vb (ix4 0 0 j e) = x2 (ix4 0 0 ⟨512 * k + j.val, by have := j.isLt; omega⟩ e)) :
    Inv x0 x1 x2 x3 x4 b (16 + 512 * (k + 1)) (k0_pay8 x0 s.1 kb, k0_pay11 x0 s.1 s.2.1 kb, k0_pay12 x0 s.1 s.2.2 kb vb) := by
  have hf : ∀ r j : Fin 512, k0_pay7 x0 kb (ix2 r j) = rowScore x0 x1 x3 b r (16 + 512 * k + j.val) := fun r j => by
    have hj := j.isLt
    rw [score_apply, Nat.add_assoc, rowScore_seq _ _ _ _ _ _ (by omega), if_pos (by omega)]
    exact Finset.sum_congr rfl fun d _ => by rw [hkb]
  have hv : ∀ (e : Fin 128) (j : Fin 512), vb (ix4 0 0 j e) = rowVal x2 x4 e (16 + 512 * k + j.val) := fun e j => by
    have hj := j.isLt
    rw [hvb, Nat.add_assoc, rowVal_seq _ _ _ _ (by omega)]
  rw [show 16 + 512 * (k + 1) = 16 + 512 * k + 512 by omega]
  unfold Inv
  intro r
  dsimp only
  have h := fun e => row_step x0 x1 x2 x3 x4 hS h0 b (16 + 512 * k) (by omega) s hs r e _ _ (hf r) (hv e) _ (max_apply x0 s.1 kb r)
  refine ⟨(h 0).1, ?_, fun e => ?_⟩
  · rw [den_apply]; exact (h 0).2.1
  · rw [num_apply]; exact (h e).2.2

/-- The diagonal tile and the division: the row's quotient over every column up to the query tile's end. -/
theorem inv_out (b : ℕ) (hb : b < 32) (s : FVec Ideal S512x1 .f32 × FVec Ideal S512x1 .f32 × FVec Ideal S512x128 .f32)
    (hs : Inv x0 x1 x2 x3 x4 b (16 + 512 * b) s) (kb : Vec Ideal S1x1x512x256 .bf16) (vb : Vec Ideal S1x1x512x128 .bf16)
    (hkb : ∀ (j : Fin 512) (d : Fin 256), kb (ix4 0 0 j d) = x1 (ix4 0 0 ⟨512 * b + j.val, by have := j.isLt; omega⟩ d))
    (hvb : ∀ (j : Fin 512) (e : Fin 128), vb (ix4 0 0 j e) = x2 (ix4 0 0 ⟨512 * b + j.val, by have := j.isLt; omega⟩ e))
    (r : Fin 512) (e : Fin 128) :
    k0_pay21 (k0_pay1 x0) s.1 s.2.1 s.2.2 k0_pay19 (iota .tc S512x512 32 [1] iota_S512x512_d1_w32) k0_pay20 kb vb (ix3 0 r e)
      = ∑ c ∈ Finset.range 16400, rowVal x2 x4 e c * Ideal.div
          (Ideal.exp (rowScore x0 x1 x3 b r c - top (rowScore x0 x1 x3 b r) 16400))
          (den (rowScore x0 x1 x3 b r) 16400 (top (rowScore x0 x1 x3 b r) 16400)) := by
  have hr := r.isLt
  have hf : ∀ j : Fin 512, diagScore x0 kb r j = rowScore x0 x1 x3 b r (16 + 512 * b + j.val) := fun j => by
    have hj := j.isLt
    rw [Nat.add_assoc, rowScore_seq _ _ _ _ _ _ (by omega)]
    unfold diagScore
    refine if_congr (by omega) ?_ rfl
    exact Finset.sum_congr rfl fun d _ => by rw [hkb]
  have hv : ∀ j : Fin 512, vb (ix4 0 0 j e) = rowVal x2 x4 e (16 + 512 * b + j.val) := fun j => by
    have hj := j.isLt
    rw [hvb, Nat.add_assoc, rowVal_seq _ _ _ _ (by omega)]
  have h := row_step x0 x1 x2 x3 x4 hS h0 b (16 + 512 * b) (by omega) s hs r e _ _ hf hv _ (rfl : diagMax x0 s.1 kb r = _)
  rw [out_apply, h.2.1, h.2.2]
  refine quotient_eq (hS b r) (h0 b r) (by omega) (by omega) fun c h1 h2 => ?_
  obtain ⟨c', rfl⟩ := Nat.exists_eq_add_of_le (show 16 ≤ c by omega)
  rw [rowScore_seq _ _ _ _ _ _ (by omega), if_neg (by omega)]

end Row

end Cert.Attn

end
-- ==== Proof.Point.lean ====
module

public import proofs.«01_k».proof.Proof.Block
public import Idealize.ShloMosaic.Lib.Pipeline.ValueKit.Tiles

@[expose] public section

noncomputable section

/-! The kernel's run at a grid point: the loop's trips are the steps of the row invariant, and what is stored is the
attention of the query tile's rows. -/

namespace Cert.Attn

open Cert.KernelIdeal Cert.KernelIdeal.Gen Idealize.ShloMosaic Cert.Softmax
open scoped BigOperators

/-- The first loop runs once for each key tile before the query tile's own. -/
theorem trips_eq (i : grid0.Coords) : (k0_t1_loop i).trips = (i 2).val := by
  have hi : (i 2).val < 32 := (i 2).isLt
  have h : ∀ n : Fin 32, Scf.trips 0#32 (Scalar.addi 0#32 (Scalar.muli (Scalar.divsi (Scalar.subi (Scalar.muli
      (BitVec.ofNat 32 n.val) 1#32) 0#32) 1#32) 1#32)) 1#32 = n.val := by decide +kernel
  exact h ⟨(i 2).val, hi⟩

/-- The second loop never runs. -/
theorem trips2_eq (i : grid0.Coords) : (k0_t2_loop i).trips = 0 := Nat.le_zero.mp (k0_t2_abs i).2.1

/-- A load of 512 rows of the keys, at a row and a lane. -/
theorem ld_keys (X : Vec Ideal S1x1x16384x256 .bf16) (o : ℕ) (off : Fin 4 → ℕ) (h : off = ![0, 0, o, 0]) (inb) (j : Fin 512) (d : Fin 256)
    (ho : o + j.val < 16384) :
    View.ld X (Rect.unit (s := S1x1x16384x256) off ![1, 1, 512, 256] inb) (ix4 0 0 j d) = X (ix4 0 0 ⟨o + j.val, ho⟩ d) := by
  subst h
  refine View.ld_unit_apply_of _ _ _ _ _ _ fun a => ?_
  fin_cases a <;> simp [ix4]

/-- A load of 512 rows of the values, at a row and a lane. -/
theorem ld_vals (X : Vec Ideal S1x1x16384x128 .bf16) (o : ℕ) (off : Fin 4 → ℕ) (h : off = ![0, 0, o, 0]) (inb) (j : Fin 512) (d : Fin 128)
    (ho : o + j.val < 16384) :
    View.ld X (Rect.unit (s := S1x1x16384x128) off ![1, 1, 512, 128] inb) (ix4 0 0 j d) = X (ix4 0 0 ⟨o + j.val, ho⟩ d) := by
  subst h
  refine View.ld_unit_apply_of _ _ _ _ _ _ fun a => ?_
  fin_cases a <;> simp [ix4]

variable (c : Dev nD) (i : grid0.Coords) (arg3 : Memref sig .tc .vmem S1x1x512x256 .bf16) (harg3 : arg3.IsWhole) (arg4 : Memref sig .tc .vmem S1x1x16384x256 .bf16) (harg4 : arg4.IsWhole)
  (arg5 : Memref sig .tc .vmem S1x1x16384x128 .bf16) (harg5 : arg5.IsWhole) (arg6 : Memref sig .tc .vmem S1x128x256 .bf16) (harg6 : arg6.IsWhole)
  (arg7 : Memref sig .tc .vmem S1x128x128 .bf16) (harg7 : arg7.IsWhole) (arg8 : Memref sig .tc .vmem S1x512x128 .bf16) (harg8 : arg8.IsWhole)
  (x0 : Vec Ideal S1x1x512x256 .bf16) (x1 : Vec Ideal S1x1x16384x256 .bf16) (x2 : Vec Ideal S1x1x16384x128 .bf16)
  (x3 : Vec Ideal S1x128x256 .bf16) (x4 : Vec Ideal S1x128x128 .bf16)

/-- One trip of the loop: the three updates, over the tile's keys and values. -/
theorem trip_eq (𝒱 : Variants) (bd : Option 𝒱.V) (k : Fin (k0_t1_loop i).trips) (acc : FVec Ideal S512x1 .f32 × FVec Ideal S512x1 .f32 × FVec Ideal S512x128 .f32) :
    tripR_k0_t1 (F := Ideal) 𝒱 c bd i arg3 harg3 arg4 harg4 arg5 harg5 arg6 harg6 arg7 harg7 arg8 harg8 x0 (harg4.unread x1) (harg5.unread x2) k acc
      = (k0_pay8 x0 acc.1 (View.ld x1 (Rect.unit (k0_off1 i k) ![1, 1, 512, 256] (k0_off1_inb i k))),
        k0_pay11 x0 acc.1 acc.2.1 (View.ld x1 (Rect.unit (k0_off1 i k) ![1, 1, 512, 256] (k0_off1_inb i k))),
        k0_pay12 x0 acc.1 acc.2.2 (View.ld x1 (Rect.unit (k0_off1 i k) ![1, 1, 512, 256] (k0_off1_inb i k)))
          (View.ld x2 (Rect.unit (k0_off2 i k) ![1, 1, 512, 128] (k0_off2_inb i k)))) := by
  unfold tripR_k0_t1 trip_k0_t1
  dsimp only
  sl_unfold_run_names
  simp only [View.readAt_eq_ld, Memref.IsWhole.read_unread]

variable (hS : ∀ b r c, Score (rowScore x0 x1 x3 b r c)) (h0 : ∀ b r, rowScore x0 x1 x3 b r 0 ≠ ⊥)
include hS h0

/-- Before trip `k` the carried values are those of the first `16 + 512 k` columns. -/
theorem inv_loop (𝒱 : Variants) (bd : Option 𝒱.V) (k : ℕ) (hk : k ≤ (k0_t1_loop i).trips) :
    Inv x0 x1 x2 x3 x4 (i 2).val (16 + 512 * k)
      (st_k0_t1 (F := Ideal) 𝒱 c bd i arg3 harg3 arg4 harg4 arg5 harg5 arg6 harg6 arg7 harg7 arg8 harg8 x0 (harg4.unread x1) (harg5.unread x2)
        (k0_pay3 x0 x3, k0_pay5 x0 x3, k0_pay6 x0 x3 x4) k) := by
  have hi : (i 2).val < 32 := (i 2).isLt
  have ht := trips_eq i
  induction k with
  | zero => rw [st_k0_t1_zero]; exact inv_init x0 x1 x2 x3 x4 _
  | succ k ih =>
    have hk' : k < (k0_t1_loop i).trips := hk
    rw [st_k0_t1_succ 𝒱 c bd i arg3 harg3 arg4 harg4 arg5 harg5 arg6 harg6 arg7 harg7 arg8 harg8 x0 (harg4.unread x1) (harg5.unread x2) _ ⟨k, hk'⟩, trip_eq]
    refine inv_step x0 x1 x2 x3 x4 hS h0 _ k (by omega) hi _ (ih hk'.le) _ _ (fun j d => ?_) (fun j e => ?_)
    · exact ld_keys _ _ _ (k0_off1_eq i _) _ _ _ _
    · exact ld_vals _ _ _ (k0_off2_eq i _) _ _ _ _

/-- What the kernel stores at a grid point, at a row and a lane: the attention of that row. -/
theorem out_point (r : Fin 512) (e : Fin 128) :
    out0_A_5 c i arg3 harg3 arg4 harg4 arg5 harg5 arg6 harg6 arg7 harg7 arg8 harg8 x0 x1 x2 x3 x4 (ix3 0 r e)
      = ∑ c ∈ Finset.range 16400, rowVal x2 x4 e c * Ideal.div
          (Ideal.exp (rowScore x0 x1 x3 (i 2).val r c - top (rowScore x0 x1 x3 (i 2).val r) 16400))
          (den (rowScore x0 x1 x3 (i 2).val r) 16400 (top (rowScore x0 x1 x3 (i 2).val r) 16400)) := by
  have hi : (i 2).val < 32 := (i 2).isLt
  frame_out
  refine (congrFun ?_ _).trans (inv_out x0 x1 x2 x3 x4 hS h0 (i 2).val hi _
    (inv_loop c i arg3 harg3 arg4 harg4 arg5 harg5 arg6 harg6 arg7 harg7 arg8 harg8 x0 x1 x2 x3 x4 hS h0 Variants.none none (i 2).val (trips_eq i).ge)
    (View.ld x1 (Rect.unit (k0_off5 i) ![1, 1, 512, 256] (k0_off5_inb i)))
    (View.ld x2 (Rect.unit (k0_off6 i) ![1, 1, 512, 128] (k0_off6_inb i)))
    (fun j d => ld_keys _ _ _ (k0_off5_eq i) _ _ _ _) (fun j e => ld_vals _ _ _ (k0_off6_eq i) _ _ _ _) r e)
  have e1 := trips_eq i
  have e2 := trips2_eq i
  dsimp only [k0_t1_loop, k0_t2_loop, Scf.Loop.trips] at e1 e2
  simp only [e1, e2]
  rfl

end Cert.Attn

end
-- ==== Proof.Array.lean ====
module

public import proofs.«01_k».proof.Proof.Point
public import proofs.«01_k».proof.Proof.Gen.KernelIdeal.Value
public import Idealize.ShloMosaic.Lib.Pipeline.ValueKit
public import Idealize.ShloMosaic.Lib.Claim
public import Idealize.ShloMosaic.Lib.KernelVsHost

@[expose] public section

noncomputable section

/-! The kernel's result array, from its arguments. -/

namespace Cert.Attn

open Cert.KernelIdeal Cert.KernelIdeal.Gen Idealize.ShloMosaic Idealize.ShloMosaic.TcCoe Cert.Softmax
open Idealize.ShloMosaic.Pipeline (Dat)
open scoped BigOperators

variable (m : (ℓ : Loc nD τ sig) → Buf (Elt Ideal) ℓ)

/-- The meta keys without their leading unit axis, at an index. -/
theorem metaKeys_cast (X : Vec Ideal S1x8x16x256 .bf16) (h : Fin 8) (j : Fin 16) (d : Fin 256) :
    shapeCast S8x16x256 X shapeCasts_S1x8x16x256_S8x16x256 (ix3 h j d) = X (ix4 0 h j d) := by
  pointwise

/-- The meta values without their leading unit axis, at an index. -/
theorem metaVals_cast (X : Vec Ideal S1x8x16x128 .bf16) (h : Fin 8) (j : Fin 16) (d : Fin 128) :
    shapeCast S8x16x128 X shapeCasts_S1x8x16x128_S8x16x128 (ix3 h j d) = X (ix4 0 h j d) := by
  pointwise

/-- The padded meta keys hold the argument's keys in their first 16 rows. -/
theorem metaKeys_entry (c : Dev nD) (h : Fin 8) (j : Fin 128) (hj : j.val < 16) (d : Fin 256) :
    V m c main_v1 (ix3 h j d) = m ((c : Thread nD τ).loc main_arg3) (ix4 0 h ⟨j.val, hj⟩ d) := by
  have e : V m c main_v1 = pad (α := Elt Ideal .bf16) S8x128x256 ![0, 0, 0] ![0, 112, 0] ![0, 0, 0]
      (shapeCast S8x16x256 (m ((c : Thread nD τ).loc main_arg3)) shapeCasts_S1x8x16x256_S8x16x256)
      (sitofp (F := Ideal) .bf16 (constantI S_ 32 0#32)) pads_S8x16x256_S8x128x256_000_01120_000 h_S_ := by
    dsimp only [V, hostOps0, hostOps0_1, hostOps0_2, hostOps0_3, List.flatten_cons, List.flatten_nil, List.append_nil, List.cons_append, List.nil_append]
    entry_read
    rfl
  rw [e, pad_apply_of_inside _ _ _ _ _ _ _ _ (ix3 h ⟨j.val, hj⟩ d) (fun a => by fin_cases a <;> simp [ix3])]
  exact metaKeys_cast _ h ⟨j.val, hj⟩ d

/-- The padded meta values hold the argument's values in their first 16 rows. -/
theorem metaVals_entry (c : Dev nD) (h : Fin 8) (j : Fin 128) (hj : j.val < 16) (d : Fin 128) :
    V m c main_v3 (ix3 h j d) = m ((c : Thread nD τ).loc main_arg4) (ix4 0 h ⟨j.val, hj⟩ d) := by
  have e : V m c main_v3 = pad (α := Elt Ideal .bf16) S8x128x128 ![0, 0, 0] ![0, 112, 0] ![0, 0, 0]
      (shapeCast S8x16x128 (m ((c : Thread nD τ).loc main_arg4)) shapeCasts_S1x8x16x128_S8x16x128)
      (sitofp (F := Ideal) .bf16 (constantI S_ 32 0#32)) pads_S8x16x128_S8x128x128_000_01120_000 h_S_ := by
    dsimp only [V, hostOps0, hostOps0_1, hostOps0_2, hostOps0_3, List.flatten_cons, List.flatten_nil, List.append_nil, List.cons_append, List.nil_append]
    entry_read
    rfl
  rw [e, pad_apply_of_inside _ _ _ _ _ _ _ _ (ix3 h ⟨j.val, hj⟩ d) (fun a => by fin_cases a <;> simp [ix3])]
  exact metaVals_cast _ h ⟨j.val, hj⟩ d

/-! ## The blocks at coordinates -/

theorem index0 : ∀ t : Fin cfg0.N, win0_0.index t = ![(grid0.coords t 0).val, (grid0.coords t 1).val, (grid0.coords t 2).val, 0] :=
  (by decide +kernel : ∀ t : Fin grid0.N, _)
theorem index1 : ∀ t : Fin cfg0.N, win0_1.index t = ![(grid0.coords t 0).val, (grid0.coords t 1).val, 0, 0] :=
  (by decide +kernel : ∀ t : Fin grid0.N, _)
theorem index2 : ∀ t : Fin cfg0.N, win0_2.index t = ![(grid0.coords t 0).val, (grid0.coords t 1).val, 0, 0] :=
  (by decide +kernel : ∀ t : Fin grid0.N, _)
theorem index3 : ∀ t : Fin cfg0.N, win0_3.index t = ![(grid0.coords t 1).val, 0, 0] :=
  (by decide +kernel : ∀ t : Fin grid0.N, _)
theorem index4 : ∀ t : Fin cfg0.N, win0_4.index t = ![(grid0.coords t 1).val, 0, 0] :=
  (by decide +kernel : ∀ t : Fin grid0.N, _)
theorem index5 : ∀ t : Fin cfg0.N, win0_5.index t = ![(grid0.coords t 0).val, (grid0.coords t 2).val, (grid0.coords t 1).val] :=
  (by decide +kernel : ∀ t : Fin grid0.N, _)

variable (c : Dev nD) (t : Fin cfg0.N)

/-- The query block at a grid point. -/
theorem blk0_apply (b : Fin 2) (h : Fin 8) (r : Fin 512) (d : Fin 256) (i : Fin 16384)
    (hb : b.val = (grid0.coords t 0).val) (hh : h.val = (grid0.coords t 1).val) (hi : i.val = (grid0.coords t 2).val * 512 + r.val) :
    iblk m c 0 t (ix4 0 0 r d) = m ((c : Thread nD τ).loc main_arg0) (ix4 b h i d) := by
  blk_simp [iblk]
  rw [← V_main_arg0 m c]
  refine congrArg _ (funext fun a => Fin.ext ?_)
  blk_simp [index0]
  fin_cases a <;> simp [ix4, hb, hh, hi]

/-- The key block at a grid point: all the keys of a batch entry and head. -/
theorem blk1_apply (b : Fin 2) (h : Fin 8) (j : Fin 16384) (d : Fin 256)
    (hb : b.val = (grid0.coords t 0).val) (hh : h.val = (grid0.coords t 1).val) :
    iblk m c 1 t (ix4 0 0 j d) = m ((c : Thread nD τ).loc main_arg1) (ix4 b h j d) := by
  blk_simp [iblk]
  rw [← V_main_arg1 m c]
  refine congrArg _ (funext fun a => Fin.ext ?_)
  blk_simp [index1]
  fin_cases a <;> simp [ix4, hb, hh]

/-- The value block at a grid point: all the values of a batch entry and head. -/
theorem blk2_apply (b : Fin 2) (h : Fin 8) (j : Fin 16384) (e : Fin 128)
    (hb : b.val = (grid0.coords t 0).val) (hh : h.val = (grid0.coords t 1).val) :
    iblk m c 2 t (ix4 0 0 j e) = m ((c : Thread nD τ).loc main_arg2) (ix4 b h j e) := by
  blk_simp [iblk]
  rw [← V_main_arg2 m c]
  refine congrArg _ (funext fun a => Fin.ext ?_)
  blk_simp [index2]
  fin_cases a <;> simp [ix4, hb, hh]

/-- The meta key block at a grid point: the head's padded meta keys. -/
theorem blk3_apply (h : Fin 8) (j : Fin 128) (hj : j.val < 16) (d : Fin 256) (hh : h.val = (grid0.coords t 1).val) :
    iblk m c 3 t (ix3 0 j d) = m ((c : Thread nD τ).loc main_arg3) (ix4 0 h ⟨j.val, hj⟩ d) := by
  blk_simp [iblk]
  rw [← metaKeys_entry m c h j hj d]
  refine congrArg _ (funext fun a => Fin.ext ?_)
  blk_simp [index3]
  fin_cases a <;> simp [ix3, hh]

/-- The meta value block at a grid point: the head's padded meta values. -/
theorem blk4_apply (h : Fin 8) (j : Fin 128) (hj : j.val < 16) (e : Fin 128) (hh : h.val = (grid0.coords t 1).val) :
    iblk m c 4 t (ix3 0 j e) = m ((c : Thread nD τ).loc main_arg4) (ix4 0 h ⟨j.val, hj⟩ e) := by
  blk_simp [iblk]
  rw [← metaVals_entry m c h j hj e]
  refine congrArg _ (funext fun a => Fin.ext ?_)
  blk_simp [index4]
  fin_cases a <;> simp [ix3, hh]

/-! ## The attention, from the arrays -/

/-- The score of query `i` of batch entry `b` and head `h` at column `c`: the 16 meta tokens first, then the sequence,
    hidden where the column's chunk is later than the query's. -/
def attnScore (q k : Vec Ideal S2x8x16384x256 .bf16) (km : Vec Ideal S1x8x16x256 .bf16) (b : Fin 2) (h : Fin 8) (i : Fin 16384)
    (c : ℕ) : EReal :=
  if hc : c < 16 then ∑ d : Fin 256, q (ix4 b h i d) * km (ix4 0 h ⟨c, hc⟩ d)
  else if hc : c - 16 < 16384 then
    if (c - 16) / 64 ≤ i.val / 64 then ∑ d : Fin 256, q (ix4 b h i d) * k (ix4 b h ⟨c - 16, hc⟩ d) else ⊥
  else ⊥

/-- Lane `e` of the value of batch entry `b` and head `h` at column `c`: the 16 meta tokens first, then the sequence. -/
def attnVal (v : Vec Ideal S2x8x16384x128 .bf16) (vm : Vec Ideal S1x8x16x128 .bf16) (b : Fin 2) (h : Fin 8) (e : Fin 128)
    (c : ℕ) : EReal :=
  if hc : c < 16 then vm (ix4 0 h ⟨c, hc⟩ e)
  else if hc : c - 16 < 16384 then v (ix4 b h ⟨c - 16, hc⟩ e) else 0

/-- The softmax of the scores applied to the values, over all 16400 columns. -/
def softmaxSum (S V : ℕ → EReal) : EReal :=
  ∑ c ∈ Finset.range 16400, V c * Ideal.div (Ideal.exp (S c - top S 16400)) (den S 16400 (top S 16400))

/-- The attention's result array: head `x / 128`, lane `x % 128` in column `x`. -/
def attn (q k : Vec Ideal S2x8x16384x256 .bf16) (v : Vec Ideal S2x8x16384x128 .bf16) (km : Vec Ideal S1x8x16x256 .bf16)
    (vm : Vec Ideal S1x8x16x128 .bf16) (b : Fin 2) (i : Fin 16384) (h : Fin 8) (e : Fin 128) : EReal :=
  softmaxSum (attnScore q k km b h i) (attnVal v vm b h e)

/-- Being a real number. -/
def IsReal (x : EReal) : Prop := ∃ r : ℝ, x = (r : EReal)

/-- A sum of products of reals is a real. -/
theorem isReal_dot {ι : Type} [Fintype ι] (f g : ι → EReal) (hf : ∀ d, IsReal (f d)) (hg : ∀ d, IsReal (g d)) :
    IsReal (∑ d, f d * g d) := by
  choose f' hf' using hf
  choose g' hg' using hg
  refine ⟨∑ d, f' d * g' d, ?_⟩
  simp only [hf', hg', ← EReal.coe_mul]
  exact (map_sum (⟨⟨Real.toEReal, EReal.coe_zero⟩, EReal.coe_add⟩ : ℝ →+ EReal) _ _).symm

/-- Over real queries and keys every row score is a real or hidden. -/
theorem rowScore_score (x0 : Vec Ideal S1x1x512x256 .bf16) (x1 : Vec Ideal S1x1x16384x256 .bf16) (x3 : Vec Ideal S1x128x256 .bf16)
    (h0 : ∀ r d, IsReal (x0 (ix4 0 0 r d))) (h1 : ∀ j d, IsReal (x1 (ix4 0 0 j d)))
    (h3 : ∀ (j : Fin 128) d, j.val < 16 → IsReal (x3 (ix3 0 j d))) (b : ℕ) (r : Fin 512) (c : ℕ) :
    Score (rowScore x0 x1 x3 b r c) := by
  unfold rowScore
  split_ifs with ha hb hc
  · exact Or.inr (isReal_dot _ _ (fun d => h0 r d) fun d => h3 _ d ha)
  · exact Or.inr (isReal_dot _ _ (fun d => h0 r d) fun d => h1 _ d)
  · exact Or.inl rfl
  · exact Or.inl rfl

/-- The first meta token is never hidden. -/
theorem rowScore_zero (x0 : Vec Ideal S1x1x512x256 .bf16) (x1 : Vec Ideal S1x1x16384x256 .bf16) (x3 : Vec Ideal S1x128x256 .bf16)
    (h0 : ∀ r d, IsReal (x0 (ix4 0 0 r d))) (h3 : ∀ (j : Fin 128) d, j.val < 16 → IsReal (x3 (ix3 0 j d))) (b : ℕ) (r : Fin 512) :
    rowScore x0 x1 x3 b r 0 ≠ ⊥ := by
  rw [rowScore_meta _ _ _ _ _ _ (by omega)]
  obtain ⟨x, hx⟩ := isReal_dot _ _ (fun d => h0 r d) fun d => h3 ⟨0, by omega⟩ d (by show 0 < 16; omega)
  rw [hx]; exact EReal.coe_ne_bot x

/-- At a grid point the row scores are the attention's scores. -/
theorem rowScore_blk (b : Fin 2) (h : Fin 8) (r : Fin 512) (i : Fin 16384) (hb : b.val = (grid0.coords t 0).val)
    (hh : h.val = (grid0.coords t 1).val) (hi : i.val = (grid0.coords t 2).val * 512 + r.val) :
    rowScore (iblk m c 0 t) (iblk m c 1 t) (iblk m c 3 t) (grid0.coords t 2).val r
      = attnScore (m ((c : Thread nD τ).loc main_arg0)) (m ((c : Thread nD τ).loc main_arg1)) (m ((c : Thread nD τ).loc main_arg3)) b h i := by
  funext n
  unfold rowScore attnScore
  split_ifs with h1 h2 h3 h4 h4
  · exact Finset.sum_congr rfl fun d _ => congrArg₂ (· * ·) (blk0_apply m c t b h r d i hb hh hi) (blk3_apply m c t h ⟨n, by omega⟩ h1 d hh)
  · exact Finset.sum_congr rfl fun d _ => congrArg₂ (· * ·) (blk0_apply m c t b h r d i hb hh hi) (blk1_apply m c t b h _ d hb hh)
  · omega
  · omega
  · rfl
  · rfl

/-- At a grid point the row values are the attention's values. -/
theorem rowVal_blk (b : Fin 2) (h : Fin 8) (e : Fin 128) (hb : b.val = (grid0.coords t 0).val) (hh : h.val = (grid0.coords t 1).val) :
    rowVal (iblk m c 2 t) (iblk m c 4 t) e
      = attnVal (m ((c : Thread nD τ).loc main_arg2)) (m ((c : Thread nD τ).loc main_arg4)) b h e := by
  funext n
  unfold rowVal attnVal
  split_ifs with h1 h2
  · exact blk4_apply m c t h ⟨n, by omega⟩ h1 e hh
  · exact blk2_apply m c t b h _ e hb hh
  · rfl

/-- What a grid point writes back, at an index of its block. -/
theorem outsAt0_apply (hq : ∀ b h i d, IsReal (m ((c : Thread nD τ).loc main_arg0) (ix4 b h i d)))
    (hk : ∀ b h i d, IsReal (m ((c : Thread nD τ).loc main_arg1) (ix4 b h i d)))
    (hkm : ∀ h i d, IsReal (m ((c : Thread nD τ).loc main_arg3) (ix4 0 h i d)))
    (y : S1x512x128.Idx) (b : Fin 2) (i : Fin 16384) (h : Fin 8) (e : Fin 128)
    (hb : b.val = (grid0.coords t 0).val + (y 0 : ℕ)) (hi : i.val = (grid0.coords t 2).val * 512 + (y 1 : ℕ))
    (hh : h.val = (grid0.coords t 1).val) (he : e.val = (y 2 : ℕ)) :
    outsAt0 m c t y = attn (m ((c : Thread nD τ).loc main_arg0)) (m ((c : Thread nD τ).loc main_arg1))
      (m ((c : Thread nD τ).loc main_arg2)) (m ((c : Thread nD τ).loc main_arg3)) (m ((c : Thread nD τ).loc main_arg4)) b i h e := by
  have hy0 : (y 0 : ℕ) < 1 := (y 0).isLt
  have hy : y = ix3 0 (y 1) e := funext fun a => by
    fin_cases a
    · exact Fin.ext (by show (y 0 : ℕ) = 0; omega)
    · rfl
    · exact Fin.ext he.symm
  have hb' : b.val = (grid0.coords t 0).val := by omega
  have k0 : ∀ r d, IsReal (iblk m c 0 t (ix4 0 0 r d)) := fun r d => by
    have h2 : (grid0.coords t 2).val < 32 := (grid0.coords t 2).isLt
    have hr := r.isLt
    rw [blk0_apply m c t b h r d ⟨(grid0.coords t 2).val * 512 + r.val, by omega⟩ hb' hh rfl]; exact hq ..
  have k1 : ∀ j d, IsReal (iblk m c 1 t (ix4 0 0 j d)) := fun j d => by
    rw [blk1_apply m c t b h j d hb' hh]; exact hk ..
  have k3 : ∀ (j : Fin 128) d, j.val < 16 → IsReal (iblk m c 3 t (ix3 0 j d)) := fun j d hj => by
    rw [blk3_apply m c t h j hj d hh]; exact hkm ..
  unfold outsAt0
  rw [hy]
  refine (out_point _ _ _ _ _ _ _ _ _ _ _ _ _ _ _ _ _ _ _ (rowScore_score _ _ _ k0 k1 k3) (rowScore_zero _ _ _ k0 k3) (y 1) e).trans ?_
  rw [rowScore_blk m c t b h (y 1) i hb' hh hi, rowVal_blk m c t b h e hb' hh]
  rfl

/-- The kernel's result array is the attention of its arguments. -/
theorem final (hq : ∀ b h i d, IsReal (m ((c : Thread nD τ).loc main_arg0) (ix4 b h i d)))
    (hk : ∀ b h i d, IsReal (m ((c : Thread nD τ).loc main_arg1) (ix4 b h i d)))
    (hkm : ∀ h i d, IsReal (m ((c : Thread nD τ).loc main_arg3) (ix4 0 h i d))) :
    (dats m 0 c).arrAt 5 cfg0.N = fun y : S2x16384x1024.Idx => attn (m ((c : Thread nD τ).loc main_arg0)) (m ((c : Thread nD τ).loc main_arg1))
      (m ((c : Thread nD τ).loc main_arg2)) (m ((c : Thread nD τ).loc main_arg3)) (m ((c : Thread nD τ).loc main_arg4))
      (y 0) (y 1) ⟨(y 2).val / 128, by have h : (y 2).val < 1024 := (y 2).isLt; omega⟩ ⟨(y 2).val % 128, Nat.mod_lt _ (by omega)⟩ := by
  refine (dats m 0 c).arrAt_eq_of_covers 5 _ (by decide +kernel) fun t hf y => ?_
  have e0 : ((win0_5.blk t).view.emb y 0 : ℕ) = (grid0.coords t 0).val + (y 0 : ℕ) := by blk_simp [index5]
  have e1 : ((win0_5.blk t).view.emb y 1 : ℕ) = (grid0.coords t 2).val * 512 + (y 1 : ℕ) := by blk_simp [index5]
  have e2 : win0_5.index t 2 = (grid0.coords t 1).val := by rw [index5]; rfl
  blk_simp
  rw [after0_5]
  have hy2 : (y 2 : ℕ) < 128 := (y 2).isLt
  have e3 : (win0_5.index t 2 * 128 + (y 2 : ℕ)) / 128 = (grid0.coords t 1).val := by omega
  have e4 : (y 2 : ℕ) = (win0_5.index t 2 * 128 + (y 2 : ℕ)) % 128 := by omega
  exact outsAt0_apply m c t hq hk hkm y _ _ _ _ e0 e1 e3 e4.symm

end Cert.Attn

end
-- ==== Proof.Chunk.lean ====
module

public import proofs.«01_k».proof.Proof.Gen.ReferenceIdeal.Read
public import Idealize.ShloMosaic.Lib.Pointwise

@[expose] public section

noncomputable section

/-! The reference's chunk numbers, as words. -/

namespace Cert.Attn.Ref

open Cert.ReferenceIdeal Cert.ReferenceIdeal.Gen Cert.ReferenceIdeal.Read Idealize.ShloMosaic Idealize.ShloMosaic.TcCoe
open scoped BigOperators

/-- The chunk number of a key position: the meta tokens 0, then one more for each 64 positions. -/
theorem keyChunk (c : Fin 16400) :
    val_main_v17 (F := Ideal) (ix1 c) = BitVec.ofNat 32 (if c.val < 16 then 0 else (c.val - 16) / 64 + 1) := by
  pointwise [val_main_v17, val_main_v11, val_main_v9, val_main_v10, val_main_c, val_main_call1_v1, val_main_call1_v0, val_main_c_3,
    val_main_v16, val_main_v15, val_main_c_2, val_main_v14, val_main_call0_v11, val_main_call0_v13, val_main_call0_v12, val_main_call0_c_0,
    val_main_call0_v10, val_main_call0_v9, val_main_call0_c, val_main_call0_v8, val_main_call0_v7, val_main_call0_v6, val_main_call0_v5,
    val_main_call0_v4, val_main_call0_v3, val_main_call0_v2, val_main_call0_v1, val_main_call0_v0, val_main_c_1, val_main_v13, val_main_v12, val_main_c_0]
  revert c
  decide +kernel

/-- The chunk number of a query. -/
theorem queryChunk (i : Fin 16384) : val_main_v21 (F := Ideal) (ix1 i) = BitVec.ofNat 32 (i.val / 64 + 1) := by
  pointwise [val_main_v21, val_main_v20, val_main_c_5, val_main_v19, val_main_call2_v11, val_main_call2_v13, val_main_call2_v12, val_main_call2_c_0,
    val_main_call2_v10, val_main_call2_v9, val_main_call2_c, val_main_call2_v8, val_main_call2_v7, val_main_call2_v6, val_main_call2_v5,
    val_main_call2_v4, val_main_call2_v3, val_main_call2_v2, val_main_call2_v1, val_main_call2_v0, val_main_c_4, val_main_v18]
  revert i
  decide +kernel

/-- The comparison of two chunk numbers below 2^16 is that of the numbers. -/
theorem cmp_words (a b : ℕ) (ha : a < 65536) (hb : b < 65536) :
    IntOp.cmpi .sle (BitVec.ofNat 32 a) (BitVec.ofNat 32 b) = if a ≤ b then 1#1 else 0#1 := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  simp only [IntOp.cmpi, BitVec.sle, h1, h2]
  by_cases h : a ≤ b
  · simp [h]
  · simp [h]

end Cert.Attn.Ref

end
-- ==== Proof.Ref.lean ====
module

public import proofs.«01_k».proof.Proof.Array
public import proofs.«01_k».proof.Proof.Chunk
public import Idealize.ShloMosaic.Lib.Pointwise

@[expose] public section

noncomputable section

/-! The reference's result array, from its arguments. -/

namespace Cert.Attn.Ref

open Cert.ReferenceIdeal Cert.ReferenceIdeal.Gen Cert.ReferenceIdeal.Read Idealize.ShloMosaic Idealize.ShloMosaic.TcCoe Cert.Softmax
open scoped BigOperators

/-- The reference's masked score at a column is the attention's. -/
theorem score_eq (q k : Vec Ideal S2x8x16384x256 .bf16) (km : Vec Ideal S1x8x16x256 .bf16) (b : Fin 2) (h : Fin 8) (i : Fin 16384) (c : Fin 16400) :
    val_main_v29 (F := Ideal) q k km (ix4 b h i c) = attnScore q k km b h i c.val := by
  pointwise [val_main_v29, val_main_call3_v1, val_main_call3_v2, val_main_v28, val_main_v27, val_main_call3_v0, val_main_cst, val_main_v26,
    val_main_v25, val_main_v24, val_main_v23, val_main_v22, val_main_v0, val_main_v6, val_main_v5, val_main_v3, val_main_v1]
  have hc := c.isLt
  have hi := i.isLt
  rw [keyChunk, queryChunk, cmp_words _ _ (by split_ifs <;> omega) (by omega),
    show (id (constant (F := Ideal) S_ .f32 0xFF800000#32) ix0 : EReal) = ⊥ from ninf_bot]
  unfold attnScore
  by_cases h1 : c.val < 16
  · simp only [h1, if_true, dite_true]
    rw [if_pos (by omega)]
    rfl
  · simp only [h1, if_false, dite_false]
    rw [dif_pos (by omega)]
    by_cases h2 : (c.val - 16) / 64 ≤ i.val / 64
    · rw [if_pos (by omega), if_pos h2]; rfl
    · rw [if_neg (by omega), if_neg h2]; rfl

/-- The reference's value at a column is the attention's. -/
theorem val_eq (v : Vec Ideal S2x8x16384x128 .bf16) (vm : Vec Ideal S1x8x16x128 .bf16) (b : Fin 2) (h : Fin 8) (c : Fin 16400) (e : Fin 128) :
    val_main_v8 (F := Ideal) v vm (ix4 b h c e) = attnVal v vm b h e c.val := by
  pointwise [val_main_v8, val_main_v7, val_main_v4, val_main_v2]
  have hc := c.isLt
  unfold attnVal
  by_cases h1 : c.val < 16
  · rw [dif_pos h1, dif_pos h1]
  · rw [dif_neg h1, dif_neg h1, dif_pos (by omega)]

/-- A row's maximum over the last axis, at sizes left open. -/
theorem rowTop {n0 n1 n2 n3 : ℕ} {u : Shape} (X : FVec Ideal ⟨4, ![n0, n1, n2, n3]⟩ .f32) (z : FVec Ideal u .f32)
    (hr : (⟨4, ![n0, n1, n2, n3]⟩ : Shape).ReducesTo [3] ⟨3, ![n0, n1, n2]⟩) (hu : 0 < u.numel) (S : ℕ → EReal)
    (b : Fin n0) (h : Fin n1) (i : Fin n2) (hz : (z (Shape.Idx.first hu) : EReal) = ⊥)
    (hX : ∀ c : Fin n3, (X (ix4 b h i c) : EReal) = S c.val) :
    Host.reduce FloatOps.maximumf X z hr hu (ix3 b h i) = top S n3 := by
  have h1 := top_add S 0 n3
  rw [show top S 0 = ⊥ from rfl, max_eq_right bot_le] at h1
  simp only [Nat.zero_add] at h1
  rw [h1]
  pointwise []
  rw [hz]
  exact (fold_max_eq_sup _ _).trans (Finset.sup_congr rfl fun c _ => hX c)

/-- The reference's row maximum. -/
theorem max_eq (q k : Vec Ideal S2x8x16384x256 .bf16) (km : Vec Ideal S1x8x16x256 .bf16) (b : Fin 2) (h : Fin 8) (i : Fin 16384) :
    val_main_v32 (F := Ideal) q k km (ix3 b h i) = top (attnScore q k km b h i) 16400 := by
  have h1 : val_main_v30 (F := Ideal) q k km (ix3 b h i) = top (attnScore q k km b h i) 16400 := by
    unfold val_main_v30
    exact rowTop _ _ _ _ _ b h i ninf_bot fun c => score_eq q k km b h i c
  have h2 : val_main_v31 (F := Ideal) (ix3 b h i) = (⊥ : EReal) := by
    rw [val_main_v31_apply]
    exact ninf_bot
  rw [val_main_v32_apply, h1, h2]
  exact max_eq_right bot_le

/-- The reference's exponentials. -/
theorem exp_eq (q k : Vec Ideal S2x8x16384x256 .bf16) (km : Vec Ideal S1x8x16x256 .bf16) (b : Fin 2) (h : Fin 8) (i : Fin 16384) (c : Fin 16400) :
    val_main_v36 (F := Ideal) q k km (ix4 b h i c)
      = Ideal.exp (attnScore q k km b h i c.val - top (attnScore q k km b h i) 16400) := by
  pointwise [val_main_v36, val_main_v35, val_main_v34, val_main_v33]
  rw [score_eq, max_eq]

/-- The reference's sum of exponentials. -/
theorem den_eq (q k : Vec Ideal S2x8x16384x256 .bf16) (km : Vec Ideal S1x8x16x256 .bf16) (b : Fin 2) (h : Fin 8) (i : Fin 16384) :
    val_main_v37 (F := Ideal) q k km (ix3 b h i)
      = den (attnScore q k km b h i) 16400 (top (attnScore q k km b h i) 16400) := by
  pointwise [val_main_v37, val_main_cst_8]
  simp only [exp_eq]
  unfold den
  rw [Finset.sum_range]

/-- The reference's result is the attention of its arguments. -/
theorem out_eq (q k : Vec Ideal S2x8x16384x256 .bf16) (v : Vec Ideal S2x8x16384x128 .bf16) (km : Vec Ideal S1x8x16x256 .bf16)
    (vm : Vec Ideal S1x8x16x128 .bf16) (b : Fin 2) (i : Fin 16384) (x : Fin 1024) :
    val_main_v44 (F := Ideal) q k v km vm (ix3 b i x)
      = attn q k v km vm b i ⟨x.val / 128, by have := x.isLt; omega⟩ ⟨x.val % 128, Nat.mod_lt _ (by omega)⟩ := by
  pointwise [val_main_v44, val_main_v43, val_main_v42, val_main_v41, val_main_v40, val_main_v39, val_main_v38]
  simp only [val_eq, exp_eq, den_eq]
  unfold attn softmaxSum
  rw [Finset.sum_range]

end Cert.Attn.Ref

end
-- ==== Proof.Pre.lean ====
module

public import proofs.«01_k».proof.Proof.Array
public import proofs.«01_k».proof.Defs
public import proofs.«01_k».proof.Proof.Gen.Pre_finite_scores
public import Idealize.ShloMosaic.Lib.Pointwise

@[expose] public section

noncomputable section

/-! What the precondition says: queries, keys and meta keys are real numbers. -/

namespace Cert.Attn

open Idealize.ShloMosaic

/-- An extended real whose absolute value is below infinity is a real number. -/
theorem isReal_of_abs_lt (x : Ideal .f32)
    (h : BitVec.ofBool (decide ((FloatOps.absf x : EReal) < Ideal.ofBits .f32 0x7F800000#32)) = 1#1) : IsReal x := by
  have h1 : (FloatOps.absf x : EReal) < Ideal.ofBits .f32 0x7F800000#32 := by
    by_contra hn
    rw [decide_eq_false hn] at h
    exact absurd h (by decide)
  have h2 : (FloatOps.absf x : EReal) < ⊤ := lt_of_lt_of_le h1 le_top
  have h3 : max (x : EReal) (-x) < ⊤ := h2
  have hx : (x : EReal) < ⊤ := lt_of_le_of_lt (le_max_left _ _) h3
  have hy : (-x : EReal) < ⊤ := lt_of_le_of_lt (le_max_right _ _) h3
  have hb : (x : EReal) ≠ ⊥ := fun e => by
    rw [e] at hy
    exact absurd hy (by simp)
  exact ⟨EReal.toReal x, (EReal.coe_toReal hx.ne hb).symm⟩

section

variable (q k : Vec Ideal Pre_finite_scores.S2x8x16384x256 .bf16) (v : Vec Ideal Pre_finite_scores.S2x8x16384x128 .bf16)
  (km : Vec Ideal Pre_finite_scores.S1x8x16x256 .bf16) (vm : Vec Ideal Pre_finite_scores.S1x8x16x128 .bf16)

/-- Under the precondition every query is a real number. -/
theorem pre_queries (h0 : (Pre_finite_scores.fn (F := Ideal) q k v km vm).1 = fun _ => 1#1) (b : Fin 2) (h : Fin 8) (i : Fin 16384) (d : Fin 256) :
    IsReal (q (ix4 b h i d)) := by
  have h1 := congrFun h0 (ix4 b h i d)
  pointwise [Pre_finite_scores.fn] at h1
  exact isReal_of_abs_lt _ h1

/-- Under the precondition every key is a real number. -/
theorem pre_keys (h0 : (Pre_finite_scores.fn (F := Ideal) q k v km vm).2.1 = fun _ => 1#1) (b : Fin 2) (h : Fin 8) (i : Fin 16384) (d : Fin 256) :
    IsReal (k (ix4 b h i d)) := by
  have h1 := congrFun h0 (ix4 b h i d)
  pointwise [Pre_finite_scores.fn] at h1
  exact isReal_of_abs_lt _ h1

/-- Under the precondition every meta key is a real number. -/
theorem pre_metaKeys (h0 : (Pre_finite_scores.fn (F := Ideal) q k v km vm).2.2 = fun _ => 1#1) (h : Fin 8) (i : Fin 16) (d : Fin 256) :
    IsReal (km (ix4 0 h i d)) := by
  have h1 := congrFun h0 (ix4 0 h i d)
  pointwise [Pre_finite_scores.fn] at h1
  exact isReal_of_abs_lt _ h1

end

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.OutEnd
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.InpFrameI
public import proofs.«01_k».proof.Proof.InpSame
public import proofs.«01_k».proof.Proof.InpEnd
public import proofs.«01_k».proof.Proof.Gen.Reference3Ideal.Run
public import proofs.«01_k».proof.Proof.Gen.Reference3Ideal.Read
public import proofs.«01_k».proof.Proof.Ref
public import proofs.«01_k».proof.Proof.Pre
public import Idealize.ShloMosaic.Adequacy
public import Idealize.ShloMosaic.Init

@[expose] public section

noncomputable section

namespace Cert.Proof

open Idealize.ShloMosaic Idealize.SL.Sem Cert.Attn

/-- The reference's result array is the attention of its arguments, at every index. -/
theorem reference_attn (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v44 m c = fun y : Cert.ReferenceIdeal.S2x16384x1024.Idx =>
      attn (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (y 0) (y 1) ⟨(y 2).val / 128, by have h : (y 2).val < 1024 := (y 2).isLt; omega⟩ ⟨(y 2).val % 128, Nat.mod_lt _ (by omega)⟩ := by
  rw [Cert.ReferenceIdeal.Read.val_main_v44_eq]
  funext y
  obtain ⟨b, i, x, rfl⟩ : ∃ b i x, y = ix3 b i x := ⟨y 0, y 1, y 2, by funext a; fin_cases a <;> rfl⟩
  exact Ref.out_eq _ _ _ _ _ b i x

/-- The reference runs, leaves its arguments unchanged and ends with every counter at zero. -/
theorem reference_frame : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run m ρ)

/-- The kernel's and the reference's results are one attention, where queries, keys and meta keys are real numbers. -/
theorem algebraic : Cert.algebraic_KernelIdeal_ReferenceIdeal_pre_finite_scores := by
  intro m g m' g' hpre hargs
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨h0, h1, h2, h3, h4⟩ := hargs c
  obtain ⟨p0, p1, p2⟩ := hpre c
  rw [reference_attn, h0, h1, h2, h3, h4]
  exact (final m c (pre_queries _ _ _ _ _ p0) (pre_keys _ _ _ _ _ p1) (pre_metaKeys _ _ _ _ _ p2)).symm

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, Cert.Mix.reference_frame,
  Cert.Inp.kernel_frame, fun m ρ _ => Cert.InpI.frame m ρ, Cert.Inp.reference_frame,
  IdealRules.named_const.statement Cert.KernelIdeal.κ "mask" .f32 0xF149F2CA#32 ⊥ rfl, algebraic, trivial, Cert.Mix.algebraic, trivial, Cert.Inp.algebraic⟩

end Cert.Proof

end
